-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![16384, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S4x512x1024 : Shape := ⟨3, ![4, 512, 1024]⟩
abbrev S4x128x1024 : Shape := ⟨3, ![4, 128, 1024]⟩
abbrev S4x3x4 : Shape := ⟨3, ![4, 3, 4]⟩
abbrev S3x4 : Shape := ⟨2, ![3, 4]⟩
abbrev S_ : Shape := ⟨0, ![]⟩
abbrev S128x1024 : Shape := ⟨2, ![128, 1024]⟩
abbrev S128x2048 : Shape := ⟨2, ![128, 2048]⟩
abbrev S1x1x1 : Shape := ⟨3, ![1, 1, 1]⟩
abbrev S1x128x1024 : Shape := ⟨3, ![1, 128, 1024]⟩
abbrev S512x1024 : Shape := ⟨2, ![512, 1024]⟩
abbrev S512x2048 : Shape := ⟨2, ![512, 2048]⟩
abbrev S1x1 : Shape := ⟨2, ![1, 1]⟩

abbrev nBuf : Space → Nat
  | .hbm => 3
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .bf16⟩
  | .local _ .vmem, ⟨0, _⟩ => ⟨S2048x1024, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S4x512x1024, .bf16⟩
  | .local _ .vmem, ⟨5, _⟩ => ⟨S4x512x1024, .bf16⟩
  | .local _ .vmem, ⟨6, _⟩ => ⟨S4x128x1024, .bf16⟩
  | .local _ .vmem, ⟨7, _⟩ => ⟨S4x128x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 123 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | _ => false

abbrev sig : RefSig :=
  (ofTc nBuf bufTy 1 123 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_18 : BitVec 32 := 1#32
  let v38 : BitVec 32 := Scalar.muli v28 c1_i32_18
  let v39 : BitVec 32 := Scalar.addi c0_i32_19 v38
  v39.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_21 : BitVec 32 := 1#32
  let v40 : BitVec 32 := Scalar.muli v24 c1_i32_21
  let v41 : BitVec 32 := Scalar.addi c0_i32_22 v40
  v41.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_24 : BitVec 32 := 1#32
  let v42 : BitVec 32 := Scalar.muli v36 c1_i32_24
  let v43 : BitVec 32 := Scalar.addi c0_i32_25 v42
  v43.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_27 : BitVec 32 := 1#32
  let v44 : BitVec 32 := Scalar.muli v32 c1_i32_27
  let v45 : BitVec 32 := Scalar.addi c0_i32_28 v44
  v45.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c512_i32 : BitVec 32 := 512#32
  let v55 : BitVec 32 := Scalar.muli v20 c512_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_38 : BitVec 32 := 4#32
  let v54 : BitVec 32 := Scalar.remsi v19 c4_i32_38
  let c128_i32 : BitVec 32 := 128#32
  let v56 : BitVec 32 := Scalar.muli v54 c128_i32
  let v57 : BitVec 32 := Scalar.addi v55 v56
  let v58 : Index := Scalar.indexCast v57
  let c0 : Index := 0#32
  ![v58.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c512_i32 : BitVec 32 := 512#32
  let v55 : BitVec 32 := Scalar.muli v20 c512_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_38 : BitVec 32 := 4#32
  let v54 : BitVec 32 := Scalar.remsi v19 c4_i32_38
  let c128_i32 : BitVec 32 := 128#32
  let v56 : BitVec 32 := Scalar.muli v54 c128_i32
  let v57 : BitVec 32 := Scalar.addi v55 v56
  let v65 : Index := Scalar.indexCast v57
  let c0_41 : Index := 0#32
  ![v65.toNat, 0]
def k0_off3 (d0 : Dev nD) (c0_i32_42 : BitVec 32) : Fin 3 → Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v69 : BitVec 32 := Scalar.subi v19 c0_i32_42
  let c4_i32_43 : BitVec 32 := 4#32
  let v70 : BitVec 32 := Scalar.addi v69 c4_i32_43
  let c4_i32_44 : BitVec 32 := 4#32
  let v71 : BitVec 32 := Scalar.remsi v70 c4_i32_44
  let c128_i32_47 : BitVec 32 := 128#32
  let v75 : BitVec 32 := Scalar.muli v71 c128_i32_47
  let c0_i32_57 : BitVec 32 := 0#32
  ![0, v75.toNat, 0]
def k0_off4 (d0 : Dev nD) (c0_i32_42 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c512_i32_45 : BitVec 32 := 512#32
  let v72 : BitVec 32 := Scalar.muli v20 c512_i32_45
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v69 : BitVec 32 := Scalar.subi v19 c0_i32_42
  let c4_i32_43 : BitVec 32 := 4#32
  let v70 : BitVec 32 := Scalar.addi v69 c4_i32_43
  let c4_i32_44 : BitVec 32 := 4#32
  let v71 : BitVec 32 := Scalar.remsi v70 c4_i32_44
  let c128_i32_46 : BitVec 32 := 128#32
  let v73 : BitVec 32 := Scalar.muli v71 c128_i32_46
  let v74 : BitVec 32 := Scalar.addi v72 v73
  let c0_i32_58 : BitVec 32 := 0#32
  ![v74.toNat, 0]
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_55 : BitVec 32 := 1#32
  let v76 : BitVec 32 := Scalar.muli v24 c1_i32_55
  let v77 : BitVec 32 := Scalar.addi c0_i32_56 v76
  v77.toNat
def k0_off5 (d0 : Dev nD) (c0_i32_59 : BitVec 32) : Fin 3 → Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v85 : BitVec 32 := Scalar.addi v19 c0_i32_59
  let c4_i32_60 : BitVec 32 := 4#32
  let v86 : BitVec 32 := Scalar.remsi v85 c4_i32_60
  let c128_i32_63 : BitVec 32 := 128#32
  let v90 : BitVec 32 := Scalar.muli v86 c128_i32_63
  let c0_i32_72 : BitVec 32 := 0#32
  ![0, v90.toNat, 0]
def k0_off6 (d0 : Dev nD) (c0_i32_59 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c512_i32_61 : BitVec 32 := 512#32
  let v87 : BitVec 32 := Scalar.muli v20 c512_i32_61
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v85 : BitVec 32 := Scalar.addi v19 c0_i32_59
  let c4_i32_60 : BitVec 32 := 4#32
  let v86 : BitVec 32 := Scalar.remsi v85 c4_i32_60
  let c128_i32_62 : BitVec 32 := 128#32
  let v88 : BitVec 32 := Scalar.muli v86 c128_i32_62
  let v89 : BitVec 32 := Scalar.addi v87 v88
  let c1024_i32 : BitVec 32 := 1024#32
  ![v89.toNat, 1024]
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_70 : BitVec 32 := 1#32
  let v91 : BitVec 32 := Scalar.muli v28 c1_i32_70
  let v92 : BitVec 32 := Scalar.addi c0_i32_71 v91
  v92.toNat
def k0_off7 (d0 : Dev nD) (c3_i32_73 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c512_i32_75 : BitVec 32 := 512#32
  let v102 : BitVec 32 := Scalar.muli v20 c512_i32_75
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v100 : BitVec 32 := Scalar.addi v19 c3_i32_73
  let c4_i32_74 : BitVec 32 := 4#32
  let v101 : BitVec 32 := Scalar.remsi v100 c4_i32_74
  let c128_i32_76 : BitVec 32 := 128#32
  let v103 : BitVec 32 := Scalar.muli v101 c128_i32_76
  let v104 : BitVec 32 := Scalar.addi v102 v103
  let v105 : Index := Scalar.indexCast v104
  let c0_77 : Index := 0#32
  ![v105.toNat, 0]
def k0_off8 (d0 : Dev nD) (c3_i32_73 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c512_i32_75 : BitVec 32 := 512#32
  let v102 : BitVec 32 := Scalar.muli v20 c512_i32_75
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v100 : BitVec 32 := Scalar.addi v19 c3_i32_73
  let c4_i32_74 : BitVec 32 := 4#32
  let v101 : BitVec 32 := Scalar.remsi v100 c4_i32_74
  let c128_i32_76 : BitVec 32 := 128#32
  let v103 : BitVec 32 := Scalar.muli v101 c128_i32_76
  let v104 : BitVec 32 := Scalar.addi v102 v103
  let v112 : Index := Scalar.indexCast v104
  let c0_81 : Index := 0#32
  ![v112.toNat, 0]
def k0_dev7 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_95 : BitVec 32 := 1#32
  let v123 : BitVec 32 := Scalar.muli v24 c1_i32_95
  let v124 : BitVec 32 := Scalar.addi c0_i32_96 v123
  v124.toNat
def k0_dev8 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_120 : BitVec 32 := 1#32
  let v154 : BitVec 32 := Scalar.muli v28 c1_i32_120
  let v155 : BitVec 32 := Scalar.addi c0_i32_121 v154
  v155.toNat
def k0_dev9 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_146 : BitVec 32 := 1#32
  let v186 : BitVec 32 := Scalar.muli v24 c1_i32_146
  let v187 : BitVec 32 := Scalar.addi c0_i32_147 v186
  v187.toNat
def k0_dev10 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_162 : BitVec 32 := 1#32
  let v201 : BitVec 32 := Scalar.muli v28 c1_i32_162
  let v202 : BitVec 32 := Scalar.addi c0_i32_163 v201
  v202.toNat
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c512_i32_168 : BitVec 32 := 512#32
  let v212 : BitVec 32 := Scalar.muli v20 c512_i32_168
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_166 : BitVec 32 := 1#32
  let v210 : BitVec 32 := Scalar.addi v19 c1_i32_166
  let c4_i32_167 : BitVec 32 := 4#32
  let v211 : BitVec 32 := Scalar.remsi v210 c4_i32_167
  let c128_i32_169 : BitVec 32 := 128#32
  let v213 : BitVec 32 := Scalar.muli v211 c128_i32_169
  let v214 : BitVec 32 := Scalar.addi v212 v213
  let c0_i32_181 : BitVec 32 := 0#32
  ![v214.toNat, 0]
def k0_dev11 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_178 : BitVec 32 := 1#32
  let v216 : BitVec 32 := Scalar.muli v24 c1_i32_178
  let v217 : BitVec 32 := Scalar.addi c0_i32_179 v216
  v217.toNat
def k0_dev12 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_194 : BitVec 32 := 1#32
  let v231 : BitVec 32 := Scalar.muli v28 c1_i32_194
  let v232 : BitVec 32 := Scalar.addi c0_i32_195 v231
  v232.toNat
def k0_off10 (d0 : Dev nD) (c1_i32_198 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v240 : BitVec 32 := Scalar.addi v20 c1_i32_198
  let c4_i32_199 : BitVec 32 := 4#32
  let v241 : BitVec 32 := Scalar.remsi v240 c4_i32_199
  let c512_i32_200 : BitVec 32 := 512#32
  let v242 : BitVec 32 := Scalar.muli v241 c512_i32_200
  let v243 : Index := Scalar.indexCast v242
  let c0_201 : Index := 0#32
  ![v243.toNat, 0]
def k0_off11 (d0 : Dev nD) (c1_i32_198 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v240 : BitVec 32 := Scalar.addi v20 c1_i32_198
  let c4_i32_199 : BitVec 32 := 4#32
  let v241 : BitVec 32 := Scalar.remsi v240 c4_i32_199
  let c512_i32_205 : BitVec 32 := 512#32
  let v250 : BitVec 32 := Scalar.muli v241 c512_i32_205
  let v251 : Index := Scalar.indexCast v250
  let c0_206 : Index := 0#32
  ![v251.toNat, 0]
def k0_off12 (d0 : Dev nD) (c0_i32_218 : BitVec 32) : Fin 3 → Nat :=
  let c0_236 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v272 : BitVec 32 := Scalar.subi v19 c0_i32_218
  let c4_i32_219 : BitVec 32 := 4#32
  let v273 : BitVec 32 := Scalar.addi v272 c4_i32_219
  let c4_i32_220 : BitVec 32 := 4#32
  let v274 : BitVec 32 := Scalar.remsi v273 c4_i32_220
  let c128_i32_235 : BitVec 32 := 128#32
  let v285 : BitVec 32 := Scalar.muli v274 c128_i32_235
  let v286 : Index := Scalar.indexCast v285
  let c0_237 : Index := 0#32
  ![0, v286.toNat, 0]
def k0_off13 (d0 : Dev nD) (c1_i32_221 : BitVec 32) (c0_i32_218 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v275 : BitVec 32 := Scalar.subi v20 c1_i32_221
  let c4_i32_222 : BitVec 32 := 4#32
  let v276 : BitVec 32 := Scalar.addi v275 c4_i32_222
  let c4_i32_223 : BitVec 32 := 4#32
  let v277 : BitVec 32 := Scalar.remsi v276 c4_i32_223
  let c512_i32_238 : BitVec 32 := 512#32
  let v289 : BitVec 32 := Scalar.muli v277 c512_i32_238
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v272 : BitVec 32 := Scalar.subi v19 c0_i32_218
  let c4_i32_219 : BitVec 32 := 4#32
  let v273 : BitVec 32 := Scalar.addi v272 c4_i32_219
  let c4_i32_220 : BitVec 32 := 4#32
  let v274 : BitVec 32 := Scalar.remsi v273 c4_i32_220
  let c128_i32_239 : BitVec 32 := 128#32
  let v290 : BitVec 32 := Scalar.muli v274 c128_i32_239
  let v291 : BitVec 32 := Scalar.addi v289 v290
  let v292 : Index := Scalar.indexCast v291
  let c0_240 : Index := 0#32
  ![v292.toNat, 0]
def k0_off14 (d0 : Dev nD) (c0_i32_218 : BitVec 32) : Fin 3 → Nat :=
  let c1_i32_247 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v272 : BitVec 32 := Scalar.subi v19 c0_i32_218
  let c4_i32_219 : BitVec 32 := 4#32
  let v273 : BitVec 32 := Scalar.addi v272 c4_i32_219
  let c4_i32_220 : BitVec 32 := 4#32
  let v274 : BitVec 32 := Scalar.remsi v273 c4_i32_220
  let c128_i32_245 : BitVec 32 := 128#32
  let v301 : BitVec 32 := Scalar.muli v274 c128_i32_245
  let c0_i32_256 : BitVec 32 := 0#32
  ![1, v301.toNat, 0]
def k0_dev13 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_254 : BitVec 32 := 1#32
  let v302 : BitVec 32 := Scalar.muli v24 c1_i32_254
  let v303 : BitVec 32 := Scalar.addi c0_i32_255 v302
  v303.toNat
def k0_off15 (d0 : Dev nD) (c0_i32_258 : BitVec 32) : Fin 3 → Nat :=
  let c0_274 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v312 : BitVec 32 := Scalar.addi v19 c0_i32_258
  let c4_i32_259 : BitVec 32 := 4#32
  let v313 : BitVec 32 := Scalar.remsi v312 c4_i32_259
  let c128_i32_273 : BitVec 32 := 128#32
  let v323 : BitVec 32 := Scalar.muli v313 c128_i32_273
  let v324 : Index := Scalar.indexCast v323
  let c0_275 : Index := 0#32
  ![0, v324.toNat, 0]
def k0_off16 (d0 : Dev nD) (c1_i32_260 : BitVec 32) (c0_i32_258 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v314 : BitVec 32 := Scalar.addi v20 c1_i32_260
  let c4_i32_261 : BitVec 32 := 4#32
  let v315 : BitVec 32 := Scalar.remsi v314 c4_i32_261
  let c512_i32_276 : BitVec 32 := 512#32
  let v327 : BitVec 32 := Scalar.muli v315 c512_i32_276
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v312 : BitVec 32 := Scalar.addi v19 c0_i32_258
  let c4_i32_259 : BitVec 32 := 4#32
  let v313 : BitVec 32 := Scalar.remsi v312 c4_i32_259
  let c128_i32_277 : BitVec 32 := 128#32
  let v328 : BitVec 32 := Scalar.muli v313 c128_i32_277
  let v329 : BitVec 32 := Scalar.addi v327 v328
  let v330 : Index := Scalar.indexCast v329
  let c1024 : Index := 1024#32
  ![v330.toNat, 1024]
def k0_off17 (d0 : Dev nD) (c0_i32_258 : BitVec 32) : Fin 3 → Nat :=
  let c1_i32_284 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v312 : BitVec 32 := Scalar.addi v19 c0_i32_258
  let c4_i32_259 : BitVec 32 := 4#32
  let v313 : BitVec 32 := Scalar.remsi v312 c4_i32_259
  let c128_i32_282 : BitVec 32 := 128#32
  let v339 : BitVec 32 := Scalar.muli v313 c128_i32_282
  let c0_i32_293 : BitVec 32 := 0#32
  ![1, v339.toNat, 0]
def k0_dev14 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_291 : BitVec 32 := 1#32
  let v340 : BitVec 32 := Scalar.muli v28 c1_i32_291
  let v341 : BitVec 32 := Scalar.addi c0_i32_292 v340
  v341.toNat
def k0_dev15 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_331 : BitVec 32 := 1#32
  let v380 : BitVec 32 := Scalar.muli v24 c1_i32_331
  let v381 : BitVec 32 := Scalar.addi c0_i32_332 v380
  v381.toNat
def k0_dev16 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_369 : BitVec 32 := 1#32
  let v418 : BitVec 32 := Scalar.muli v28 c1_i32_369
  let v419 : BitVec 32 := Scalar.addi c0_i32_370 v418
  v419.toNat
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_216 : BitVec 32 := 2#32
  let v270 : BitVec 32 := Scalar.addi v20 c2_i32_216
  let c4_i32_217 : BitVec 32 := 4#32
  let v271 : BitVec 32 := Scalar.remsi v270 c4_i32_217
  let c512_i32_374 : BitVec 32 := 512#32
  let v429 : BitVec 32 := Scalar.muli v271 c512_i32_374
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_373 : BitVec 32 := 4#32
  let v428 : BitVec 32 := Scalar.remsi v19 c4_i32_373
  let c128_i32_375 : BitVec 32 := 128#32
  let v430 : BitVec 32 := Scalar.muli v428 c128_i32_375
  let v431 : BitVec 32 := Scalar.addi v429 v430
  let v432 : Index := Scalar.indexCast v431
  let c0_376 : Index := 0#32
  ![v432.toNat, 0]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_216 : BitVec 32 := 2#32
  let v270 : BitVec 32 := Scalar.addi v20 c2_i32_216
  let c4_i32_217 : BitVec 32 := 4#32
  let v271 : BitVec 32 := Scalar.remsi v270 c4_i32_217
  let c512_i32_374 : BitVec 32 := 512#32
  let v429 : BitVec 32 := Scalar.muli v271 c512_i32_374
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_373 : BitVec 32 := 4#32
  let v428 : BitVec 32 := Scalar.remsi v19 c4_i32_373
  let c128_i32_375 : BitVec 32 := 128#32
  let v430 : BitVec 32 := Scalar.muli v428 c128_i32_375
  let v431 : BitVec 32 := Scalar.addi v429 v430
  let v439 : Index := Scalar.indexCast v431
  let c0_380 : Index := 0#32
  ![v439.toNat, 0]
def k0_off20 (d0 : Dev nD) (c0_i32_381 : BitVec 32) : Fin 3 → Nat :=
  let c1 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v443 : BitVec 32 := Scalar.subi v19 c0_i32_381
  let c4_i32_382 : BitVec 32 := 4#32
  let v444 : BitVec 32 := Scalar.addi v443 c4_i32_382
  let c4_i32_383 : BitVec 32 := 4#32
  let v445 : BitVec 32 := Scalar.remsi v444 c4_i32_383
  let c128_i32_399 : BitVec 32 := 128#32
  let v457 : BitVec 32 := Scalar.muli v445 c128_i32_399
  let v458 : Index := Scalar.indexCast v457
  let c0_400 : Index := 0#32
  ![1, v458.toNat, 0]
def k0_off21 (d0 : Dev nD) (c0_i32_381 : BitVec 32) : Fin 3 → Nat :=
  let c2_i32_410 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v443 : BitVec 32 := Scalar.subi v19 c0_i32_381
  let c4_i32_382 : BitVec 32 := 4#32
  let v444 : BitVec 32 := Scalar.addi v443 c4_i32_382
  let c4_i32_383 : BitVec 32 := 4#32
  let v445 : BitVec 32 := Scalar.remsi v444 c4_i32_383
  let c128_i32_408 : BitVec 32 := 128#32
  let v473 : BitVec 32 := Scalar.muli v445 c128_i32_408
  let c0_i32_419 : BitVec 32 := 0#32
  ![2, v473.toNat, 0]
def k0_dev17 (d0 : Dev nD) : Nat :=
  let c0_i32_418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_417 : BitVec 32 := 1#32
  let v474 : BitVec 32 := Scalar.muli v24 c1_i32_417
  let v475 : BitVec 32 := Scalar.addi c0_i32_418 v474
  v475.toNat
def k0_off22 (d0 : Dev nD) (c0_i32_421 : BitVec 32) : Fin 3 → Nat :=
  let c1_438 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v484 : BitVec 32 := Scalar.addi v19 c0_i32_421
  let c4_i32_422 : BitVec 32 := 4#32
  let v485 : BitVec 32 := Scalar.remsi v484 c4_i32_422
  let c128_i32_437 : BitVec 32 := 128#32
  let v496 : BitVec 32 := Scalar.muli v485 c128_i32_437
  let v497 : Index := Scalar.indexCast v496
  let c0_439 : Index := 0#32
  ![1, v497.toNat, 0]
def k0_off23 (d0 : Dev nD) (c0_i32_421 : BitVec 32) : Fin 3 → Nat :=
  let c2_i32_449 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v484 : BitVec 32 := Scalar.addi v19 c0_i32_421
  let c4_i32_422 : BitVec 32 := 4#32
  let v485 : BitVec 32 := Scalar.remsi v484 c4_i32_422
  let c128_i32_447 : BitVec 32 := 128#32
  let v512 : BitVec 32 := Scalar.muli v485 c128_i32_447
  let c0_i32_458 : BitVec 32 := 0#32
  ![2, v512.toNat, 0]
def k0_dev18 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_456 : BitVec 32 := 1#32
  let v513 : BitVec 32 := Scalar.muli v28 c1_i32_456
  let v514 : BitVec 32 := Scalar.addi c0_i32_457 v513
  v514.toNat
def k0_dev19 (d0 : Dev nD) : Nat :=
  let c0_i32_497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_496 : BitVec 32 := 1#32
  let v553 : BitVec 32 := Scalar.muli v24 c1_i32_496
  let v554 : BitVec 32 := Scalar.addi c0_i32_497 v553
  v554.toNat
def k0_dev20 (d0 : Dev nD) : Nat :=
  let c0_i32_535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_534 : BitVec 32 := 1#32
  let v591 : BitVec 32 := Scalar.muli v28 c1_i32_534
  let v592 : BitVec 32 := Scalar.addi c0_i32_535 v591
  v592.toNat
def k0_off24 (d0 : Dev nD) (c3_i32_538 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_216 : BitVec 32 := 2#32
  let v270 : BitVec 32 := Scalar.addi v20 c2_i32_216
  let c4_i32_217 : BitVec 32 := 4#32
  let v271 : BitVec 32 := Scalar.remsi v270 c4_i32_217
  let c512_i32_540 : BitVec 32 := 512#32
  let v603 : BitVec 32 := Scalar.muli v271 c512_i32_540
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v601 : BitVec 32 := Scalar.addi v19 c3_i32_538
  let c4_i32_539 : BitVec 32 := 4#32
  let v602 : BitVec 32 := Scalar.remsi v601 c4_i32_539
  let c128_i32_541 : BitVec 32 := 128#32
  let v604 : BitVec 32 := Scalar.muli v602 c128_i32_541
  let v605 : BitVec 32 := Scalar.addi v603 v604
  let v606 : Index := Scalar.indexCast v605
  let c0_542 : Index := 0#32
  ![v606.toNat, 0]
def k0_off25 (d0 : Dev nD) (c3_i32_538 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_216 : BitVec 32 := 2#32
  let v270 : BitVec 32 := Scalar.addi v20 c2_i32_216
  let c4_i32_217 : BitVec 32 := 4#32
  let v271 : BitVec 32 := Scalar.remsi v270 c4_i32_217
  let c512_i32_540 : BitVec 32 := 512#32
  let v603 : BitVec 32 := Scalar.muli v271 c512_i32_540
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v601 : BitVec 32 := Scalar.addi v19 c3_i32_538
  let c4_i32_539 : BitVec 32 := 4#32
  let v602 : BitVec 32 := Scalar.remsi v601 c4_i32_539
  let c128_i32_541 : BitVec 32 := 128#32
  let v604 : BitVec 32 := Scalar.muli v602 c128_i32_541
  let v605 : BitVec 32 := Scalar.addi v603 v604
  let v613 : Index := Scalar.indexCast v605
  let c0_546 : Index := 0#32
  ![v613.toNat, 0]
def k0_dev21 (d0 : Dev nD) : Nat :=
  let c0_i32_594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_593 : BitVec 32 := 1#32
  let v664 : BitVec 32 := Scalar.muli v24 c1_i32_593
  let v665 : BitVec 32 := Scalar.addi c0_i32_594 v664
  v665.toNat
def k0_dev22 (d0 : Dev nD) : Nat :=
  let c0_i32_633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_632 : BitVec 32 := 1#32
  let v703 : BitVec 32 := Scalar.muli v28 c1_i32_632
  let v704 : BitVec 32 := Scalar.addi c0_i32_633 v703
  v704.toNat
def k0_off26 (d0 : Dev nD) (c1_i32_638 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v715 : BitVec 32 := Scalar.subi v20 c1_i32_638
  let c4_i32_639 : BitVec 32 := 4#32
  let v716 : BitVec 32 := Scalar.addi v715 c4_i32_639
  let c4_i32_640 : BitVec 32 := 4#32
  let v717 : BitVec 32 := Scalar.remsi v716 c4_i32_640
  let c512_i32_655 : BitVec 32 := 512#32
  let v729 : BitVec 32 := Scalar.muli v717 c512_i32_655
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_636 : BitVec 32 := 1#32
  let v713 : BitVec 32 := Scalar.addi v19 c1_i32_636
  let c4_i32_637 : BitVec 32 := 4#32
  let v714 : BitVec 32 := Scalar.remsi v713 c4_i32_637
  let c128_i32_656 : BitVec 32 := 128#32
  let v730 : BitVec 32 := Scalar.muli v714 c128_i32_656
  let v731 : BitVec 32 := Scalar.addi v729 v730
  let v732 : Index := Scalar.indexCast v731
  let c0_657 : Index := 0#32
  ![v732.toNat, 0]
def k0_dev23 (d0 : Dev nD) : Nat :=
  let c0_i32_672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_671 : BitVec 32 := 1#32
  let v742 : BitVec 32 := Scalar.muli v24 c1_i32_671
  let v743 : BitVec 32 := Scalar.addi c0_i32_672 v742
  v743.toNat
def k0_dev24 (d0 : Dev nD) : Nat :=
  let c0_i32_710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_709 : BitVec 32 := 1#32
  let v780 : BitVec 32 := Scalar.muli v28 c1_i32_709
  let v781 : BitVec 32 := Scalar.addi c0_i32_710 v780
  v781.toNat
def k0_off27 (d0 : Dev nD) (c0_i32_734 : BitVec 32) : Fin 3 → Nat :=
  let c2 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v814 : BitVec 32 := Scalar.subi v19 c0_i32_734
  let c4_i32_735 : BitVec 32 := 4#32
  let v815 : BitVec 32 := Scalar.addi v814 c4_i32_735
  let c4_i32_736 : BitVec 32 := 4#32
  let v816 : BitVec 32 := Scalar.remsi v815 c4_i32_736
  let c128_i32_737 : BitVec 32 := 128#32
  let v817 : BitVec 32 := Scalar.muli v816 c128_i32_737
  let v818 : Index := Scalar.indexCast v817
  let c0_738 : Index := 0#32
  ![2, v818.toNat, 0]
def k0_off28 (d0 : Dev nD) (c0_i32_734 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_30 : BitVec 32 := 1#32
  let v46 : BitVec 32 := Scalar.addi v20 c1_i32_30
  let c4_i32_31 : BitVec 32 := 4#32
  let v47 : BitVec 32 := Scalar.remsi v46 c4_i32_31
  let c512_i32_739 : BitVec 32 := 512#32
  let v821 : BitVec 32 := Scalar.muli v47 c512_i32_739
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v814 : BitVec 32 := Scalar.subi v19 c0_i32_734
  let c4_i32_735 : BitVec 32 := 4#32
  let v815 : BitVec 32 := Scalar.addi v814 c4_i32_735
  let c4_i32_736 : BitVec 32 := 4#32
  let v816 : BitVec 32 := Scalar.remsi v815 c4_i32_736
  let c128_i32_740 : BitVec 32 := 128#32
  let v822 : BitVec 32 := Scalar.muli v816 c128_i32_740
  let v823 : BitVec 32 := Scalar.addi v821 v822
  let v824 : Index := Scalar.indexCast v823
  let c0_741 : Index := 0#32
  ![v824.toNat, 0]
def k0_dev25 (d0 : Dev nD) : Nat :=
  let c0_i32_751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_750 : BitVec 32 := 1#32
  let v830 : BitVec 32 := Scalar.muli v32 c1_i32_750
  let v831 : BitVec 32 := Scalar.addi c0_i32_751 v830
  v831.toNat
def k0_off29 (d0 : Dev nD) (c0_i32_768 : BitVec 32) : Fin 3 → Nat :=
  let c2_771 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v848 : BitVec 32 := Scalar.addi v19 c0_i32_768
  let c4_i32_769 : BitVec 32 := 4#32
  let v849 : BitVec 32 := Scalar.remsi v848 c4_i32_769
  let c128_i32_770 : BitVec 32 := 128#32
  let v850 : BitVec 32 := Scalar.muli v849 c128_i32_770
  let v851 : Index := Scalar.indexCast v850
  let c0_772 : Index := 0#32
  ![2, v851.toNat, 0]
def k0_dev26 (d0 : Dev nD) : Nat :=
  let c0_i32_786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_785 : BitVec 32 := 1#32
  let v863 : BitVec 32 := Scalar.muli v36 c1_i32_785
  let v864 : BitVec 32 := Scalar.addi c0_i32_786 v863
  v864.toNat
def k0_dev27 (d0 : Dev nD) : Nat :=
  let c0_i32_829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_828 : BitVec 32 := 1#32
  let v904 : BitVec 32 := Scalar.muli v24 c1_i32_828
  let v905 : BitVec 32 := Scalar.addi c0_i32_829 v904
  v905.toNat
def k0_dev28 (d0 : Dev nD) : Nat :=
  let c0_i32_868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_867 : BitVec 32 := 1#32
  let v943 : BitVec 32 := Scalar.muli v28 c1_i32_867
  let v944 : BitVec 32 := Scalar.addi c0_i32_868 v943
  v944.toNat
def k0_dev29 (d0 : Dev nD) : Nat :=
  let c0_i32_917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_916 : BitVec 32 := 1#32
  let v988 : BitVec 32 := Scalar.muli v32 c1_i32_916
  let v989 : BitVec 32 := Scalar.addi c0_i32_917 v988
  v989.toNat
def k0_dev30 (d0 : Dev nD) : Nat :=
  let c0_i32_967 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_966 : BitVec 32 := 1#32
  let v1032 : BitVec 32 := Scalar.muli v36 c1_i32_966
  let v1033 : BitVec 32 := Scalar.addi c0_i32_967 v1032
  v1033.toNat
def k0_dev31 (d0 : Dev nD) : Nat :=
  let c0_i32_1009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1008 : BitVec 32 := 1#32
  let v1072 : BitVec 32 := Scalar.muli v24 c1_i32_1008
  let v1073 : BitVec 32 := Scalar.addi c0_i32_1009 v1072
  v1073.toNat
def k0_dev32 (d0 : Dev nD) : Nat :=
  let c0_i32_1048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1047 : BitVec 32 := 1#32
  let v1111 : BitVec 32 := Scalar.muli v28 c1_i32_1047
  let v1112 : BitVec 32 := Scalar.addi c0_i32_1048 v1111
  v1112.toNat
def k0_dev33 (d0 : Dev nD) : Nat :=
  let c0_i32_1097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_1096 : BitVec 32 := 1#32
  let v1156 : BitVec 32 := Scalar.muli v32 c1_i32_1096
  let v1157 : BitVec 32 := Scalar.addi c0_i32_1097 v1156
  v1157.toNat
def k0_dev34 (d0 : Dev nD) : Nat :=
  let c0_i32_1147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_1146 : BitVec 32 := 1#32
  let v1200 : BitVec 32 := Scalar.muli v36 c1_i32_1146
  let v1201 : BitVec 32 := Scalar.addi c0_i32_1147 v1200
  v1201.toNat
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_30 : BitVec 32 := 1#32
  let v46 : BitVec 32 := Scalar.addi v20 c1_i32_30
  let c4_i32_31 : BitVec 32 := 4#32
  let v47 : BitVec 32 := Scalar.remsi v46 c4_i32_31
  let c512_i32_1182 : BitVec 32 := 512#32
  let v1233 : BitVec 32 := Scalar.muli v47 c512_i32_1182
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_34 : BitVec 32 := 1#32
  let v50 : BitVec 32 := Scalar.addi v19 c1_i32_34
  let c4_i32_35 : BitVec 32 := 4#32
  let v51 : BitVec 32 := Scalar.remsi v50 c4_i32_35
  let c128_i32_1183 : BitVec 32 := 128#32
  let v1234 : BitVec 32 := Scalar.muli v51 c128_i32_1183
  let v1235 : BitVec 32 := Scalar.addi v1233 v1234
  let v1236 : Index := Scalar.indexCast v1235
  let c0_1184 : Index := 0#32
  ![v1236.toNat, 0]
def k0_off31 (d0 : Dev nD) (c0_i32_1233 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_30 : BitVec 32 := 1#32
  let v46 : BitVec 32 := Scalar.addi v20 c1_i32_30
  let c4_i32_31 : BitVec 32 := 4#32
  let v47 : BitVec 32 := Scalar.remsi v46 c4_i32_31
  let c512_i32_1236 : BitVec 32 := 512#32
  let v1314 : BitVec 32 := Scalar.muli v47 c512_i32_1236
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1232 : BitVec 32 := 1#32
  let v1310 : BitVec 32 := Scalar.addi v19 c1_i32_1232
  let v1311 : BitVec 32 := Scalar.subi v1310 c0_i32_1233
  let c4_i32_1234 : BitVec 32 := 4#32
  let v1312 : BitVec 32 := Scalar.addi v1311 c4_i32_1234
  let c4_i32_1235 : BitVec 32 := 4#32
  let v1313 : BitVec 32 := Scalar.remsi v1312 c4_i32_1235
  let c128_i32_1237 : BitVec 32 := 128#32
  let v1315 : BitVec 32 := Scalar.muli v1313 c128_i32_1237
  let v1316 : BitVec 32 := Scalar.addi v1314 v1315
  let c0_i32_1244 : BitVec 32 := 0#32
  ![v1316.toNat, 0]
def k0_dev35 (d0 : Dev nD) : Nat :=
  let c0_i32_1243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_1242 : BitVec 32 := 1#32
  let v1317 : BitVec 32 := Scalar.muli v32 c1_i32_1242
  let v1318 : BitVec 32 := Scalar.addi c0_i32_1243 v1317
  v1318.toNat
def k0_off32 (d0 : Dev nD) (c0_i32_1251 : BitVec 32) (c0_i32_1247 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_1250 : BitVec 32 := 1#32
  let v1329 : BitVec 32 := Scalar.addi v20 c1_i32_1250
  let v1330 : BitVec 32 := Scalar.subi v1329 c0_i32_1251
  let c4_i32_1252 : BitVec 32 := 4#32
  let v1331 : BitVec 32 := Scalar.addi v1330 c4_i32_1252
  let c4_i32_1253 : BitVec 32 := 4#32
  let v1332 : BitVec 32 := Scalar.remsi v1331 c4_i32_1253
  let c512_i32_1254 : BitVec 32 := 512#32
  let v1333 : BitVec 32 := Scalar.muli v1332 c512_i32_1254
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1246 : BitVec 32 := 1#32
  let v1325 : BitVec 32 := Scalar.addi v19 c1_i32_1246
  let v1326 : BitVec 32 := Scalar.subi v1325 c0_i32_1247
  let c4_i32_1248 : BitVec 32 := 4#32
  let v1327 : BitVec 32 := Scalar.addi v1326 c4_i32_1248
  let c4_i32_1249 : BitVec 32 := 4#32
  let v1328 : BitVec 32 := Scalar.remsi v1327 c4_i32_1249
  let c128_i32_1255 : BitVec 32 := 128#32
  let v1334 : BitVec 32 := Scalar.muli v1328 c128_i32_1255
  let v1335 : BitVec 32 := Scalar.addi v1333 v1334
  let c0_i32_1264 : BitVec 32 := 0#32
  ![v1335.toNat, 0]
def k0_dev36 (d0 : Dev nD) : Nat :=
  let c0_i32_1263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1262 : BitVec 32 := 1#32
  let v1336 : BitVec 32 := Scalar.muli v24 c1_i32_1262
  let v1337 : BitVec 32 := Scalar.addi c0_i32_1263 v1336
  v1337.toNat
def k0_off33 (d0 : Dev nD) (c0_i32_1267 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_32 : BitVec 32 := 3#32
  let v48 : BitVec 32 := Scalar.addi v20 c3_i32_32
  let c4_i32_33 : BitVec 32 := 4#32
  let v49 : BitVec 32 := Scalar.remsi v48 c4_i32_33
  let c512_i32_1270 : BitVec 32 := 512#32
  let v1348 : BitVec 32 := Scalar.muli v49 c512_i32_1270
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1266 : BitVec 32 := 1#32
  let v1344 : BitVec 32 := Scalar.subi v19 c1_i32_1266
  let v1345 : BitVec 32 := Scalar.addi v1344 c0_i32_1267
  let c4_i32_1268 : BitVec 32 := 4#32
  let v1346 : BitVec 32 := Scalar.addi v1345 c4_i32_1268
  let c4_i32_1269 : BitVec 32 := 4#32
  let v1347 : BitVec 32 := Scalar.remsi v1346 c4_i32_1269
  let c128_i32_1271 : BitVec 32 := 128#32
  let v1349 : BitVec 32 := Scalar.muli v1347 c128_i32_1271
  let v1350 : BitVec 32 := Scalar.addi v1348 v1349
  let c1024_i32_1278 : BitVec 32 := 1024#32
  ![v1350.toNat, 1024]
def k0_dev37 (d0 : Dev nD) : Nat :=
  let c0_i32_1277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_1276 : BitVec 32 := 1#32
  let v1351 : BitVec 32 := Scalar.muli v36 c1_i32_1276
  let v1352 : BitVec 32 := Scalar.addi c0_i32_1277 v1351
  v1352.toNat
def k0_off34 (d0 : Dev nD) (c0_i32_1285 : BitVec 32) (c0_i32_1281 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_1284 : BitVec 32 := 1#32
  let v1363 : BitVec 32 := Scalar.subi v20 c1_i32_1284
  let v1364 : BitVec 32 := Scalar.addi v1363 c0_i32_1285
  let c4_i32_1286 : BitVec 32 := 4#32
  let v1365 : BitVec 32 := Scalar.addi v1364 c4_i32_1286
  let c4_i32_1287 : BitVec 32 := 4#32
  let v1366 : BitVec 32 := Scalar.remsi v1365 c4_i32_1287
  let c512_i32_1288 : BitVec 32 := 512#32
  let v1367 : BitVec 32 := Scalar.muli v1366 c512_i32_1288
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1280 : BitVec 32 := 1#32
  let v1359 : BitVec 32 := Scalar.subi v19 c1_i32_1280
  let v1360 : BitVec 32 := Scalar.addi v1359 c0_i32_1281
  let c4_i32_1282 : BitVec 32 := 4#32
  let v1361 : BitVec 32 := Scalar.addi v1360 c4_i32_1282
  let c4_i32_1283 : BitVec 32 := 4#32
  let v1362 : BitVec 32 := Scalar.remsi v1361 c4_i32_1283
  let c128_i32_1289 : BitVec 32 := 128#32
  let v1368 : BitVec 32 := Scalar.muli v1362 c128_i32_1289
  let v1369 : BitVec 32 := Scalar.addi v1367 v1368
  let c1024_i32_1298 : BitVec 32 := 1024#32
  ![v1369.toNat, 1024]
def k0_dev38 (d0 : Dev nD) : Nat :=
  let c0_i32_1297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1296 : BitVec 32 := 1#32
  let v1370 : BitVec 32 := Scalar.muli v28 c1_i32_1296
  let v1371 : BitVec 32 := Scalar.addi c0_i32_1297 v1370
  v1371.toNat
def k0_dev39 (d0 : Dev nD) : Nat :=
  let c0_i32_1322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_1321 : BitVec 32 := 1#32
  let v1395 : BitVec 32 := Scalar.muli v32 c1_i32_1321
  let v1396 : BitVec 32 := Scalar.addi c0_i32_1322 v1395
  v1396.toNat
def k0_dev40 (d0 : Dev nD) : Nat :=
  let c0_i32_1342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1341 : BitVec 32 := 1#32
  let v1414 : BitVec 32 := Scalar.muli v24 c1_i32_1341
  let v1415 : BitVec 32 := Scalar.addi c0_i32_1342 v1414
  v1415.toNat
def k0_dev41 (d0 : Dev nD) : Nat :=
  let c0_i32_1364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_1363 : BitVec 32 := 1#32
  let v1435 : BitVec 32 := Scalar.muli v36 c1_i32_1363
  let v1436 : BitVec 32 := Scalar.addi c0_i32_1364 v1435
  v1436.toNat
def k0_dev42 (d0 : Dev nD) : Nat :=
  let c0_i32_1384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1383 : BitVec 32 := 1#32
  let v1454 : BitVec 32 := Scalar.muli v28 c1_i32_1383
  let v1455 : BitVec 32 := Scalar.addi c0_i32_1384 v1454
  v1455.toNat
def k0_dev43 (d0 : Dev nD) : Nat :=
  let c0_i32_1406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_1405 : BitVec 32 := 1#32
  let v1475 : BitVec 32 := Scalar.muli v32 c1_i32_1405
  let v1476 : BitVec 32 := Scalar.addi c0_i32_1406 v1475
  v1476.toNat
def k0_dev44 (d0 : Dev nD) : Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1425 : BitVec 32 := 1#32
  let v1494 : BitVec 32 := Scalar.muli v24 c1_i32_1425
  let v1495 : BitVec 32 := Scalar.addi c0_i32_1426 v1494
  v1495.toNat
def k0_dev45 (d0 : Dev nD) : Nat :=
  let c0_i32_1448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_1447 : BitVec 32 := 1#32
  let v1515 : BitVec 32 := Scalar.muli v36 c1_i32_1447
  let v1516 : BitVec 32 := Scalar.addi c0_i32_1448 v1515
  v1516.toNat
def k0_dev46 (d0 : Dev nD) : Nat :=
  let c0_i32_1468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1467 : BitVec 32 := 1#32
  let v1534 : BitVec 32 := Scalar.muli v28 c1_i32_1467
  let v1535 : BitVec 32 := Scalar.addi c0_i32_1468 v1534
  v1535.toNat
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_30 : BitVec 32 := 1#32
  let v46 : BitVec 32 := Scalar.addi v20 c1_i32_30
  let c4_i32_31 : BitVec 32 := 4#32
  let v47 : BitVec 32 := Scalar.remsi v46 c4_i32_31
  let c512_i32_1481 : BitVec 32 := 512#32
  let v1550 : BitVec 32 := Scalar.muli v47 c512_i32_1481
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1479 : BitVec 32 := 2#32
  let v1548 : BitVec 32 := Scalar.addi v19 c2_i32_1479
  let c4_i32_1480 : BitVec 32 := 4#32
  let v1549 : BitVec 32 := Scalar.remsi v1548 c4_i32_1480
  let c128_i32_1482 : BitVec 32 := 128#32
  let v1551 : BitVec 32 := Scalar.muli v1549 c128_i32_1482
  let v1552 : BitVec 32 := Scalar.addi v1550 v1551
  let c0_i32_1491 : BitVec 32 := 0#32
  ![v1552.toNat, 0]
def k0_dev47 (d0 : Dev nD) : Nat :=
  let c0_i32_1490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1489 : BitVec 32 := 1#32
  let v1553 : BitVec 32 := Scalar.muli v24 c1_i32_1489
  let v1554 : BitVec 32 := Scalar.addi c0_i32_1490 v1553
  v1554.toNat
def k0_dev48 (d0 : Dev nD) : Nat :=
  let c0_i32_1500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1499 : BitVec 32 := 1#32
  let v1561 : BitVec 32 := Scalar.muli v28 c1_i32_1499
  let v1562 : BitVec 32 := Scalar.addi c0_i32_1500 v1561
  v1562.toNat
def k0_dev49 (d0 : Dev nD) : Nat :=
  let c0_i32_1510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1300 : BitVec 32 := 4#32
  let v1378 : BitVec 32 := Scalar.muli v19 c4_i32_1300
  let c4_i32_5 : BitVec 32 := 4#32
  let v20 : BitVec 32 := Scalar.remsi v2 c4_i32_5
  let c2_i32_1301 : BitVec 32 := 2#32
  let v1379 : BitVec 32 := Scalar.addi v20 c2_i32_1301
  let c4_i32_1302 : BitVec 32 := 4#32
  let v1380 : BitVec 32 := Scalar.remsi v1379 c4_i32_1302
  let v1381 : BitVec 32 := Scalar.addi v1378 v1380
  let c1_i32_1509 : BitVec 32 := 1#32
  let v1569 : BitVec 32 := Scalar.muli v1381 c1_i32_1509
  let v1570 : BitVec 32 := Scalar.addi c0_i32_1510 v1569
  v1570.toNat
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_32 : BitVec 32 := 3#32
  let v48 : BitVec 32 := Scalar.addi v20 c3_i32_32
  let c4_i32_33 : BitVec 32 := 4#32
  let v49 : BitVec 32 := Scalar.remsi v48 c4_i32_33
  let c512_i32_1523 : BitVec 32 := 512#32
  let v1585 : BitVec 32 := Scalar.muli v49 c512_i32_1523
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1521 : BitVec 32 := 2#32
  let v1583 : BitVec 32 := Scalar.addi v19 c2_i32_1521
  let c4_i32_1522 : BitVec 32 := 4#32
  let v1584 : BitVec 32 := Scalar.remsi v1583 c4_i32_1522
  let c128_i32_1524 : BitVec 32 := 128#32
  let v1586 : BitVec 32 := Scalar.muli v1584 c128_i32_1524
  let v1587 : BitVec 32 := Scalar.addi v1585 v1586
  let c1024_i32_1533 : BitVec 32 := 1024#32
  ![v1587.toNat, 1024]
def k0_dev50 (d0 : Dev nD) : Nat :=
  let c0_i32_1532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1531 : BitVec 32 := 1#32
  let v1588 : BitVec 32 := Scalar.muli v24 c1_i32_1531
  let v1589 : BitVec 32 := Scalar.addi c0_i32_1532 v1588
  v1589.toNat
def k0_dev51 (d0 : Dev nD) : Nat :=
  let c0_i32_1542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1541 : BitVec 32 := 1#32
  let v1596 : BitVec 32 := Scalar.muli v28 c1_i32_1541
  let v1597 : BitVec 32 := Scalar.addi c0_i32_1542 v1596
  v1597.toNat
def k0_dev52 (d0 : Dev nD) : Nat :=
  let c0_i32_1552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1300 : BitVec 32 := 4#32
  let v1378 : BitVec 32 := Scalar.muli v19 c4_i32_1300
  let c4_i32_5 : BitVec 32 := 4#32
  let v20 : BitVec 32 := Scalar.remsi v2 c4_i32_5
  let c2_i32_1301 : BitVec 32 := 2#32
  let v1379 : BitVec 32 := Scalar.addi v20 c2_i32_1301
  let c4_i32_1302 : BitVec 32 := 4#32
  let v1380 : BitVec 32 := Scalar.remsi v1379 c4_i32_1302
  let v1381 : BitVec 32 := Scalar.addi v1378 v1380
  let c1_i32_1551 : BitVec 32 := 1#32
  let v1604 : BitVec 32 := Scalar.muli v1381 c1_i32_1551
  let v1605 : BitVec 32 := Scalar.addi c0_i32_1552 v1604
  v1605.toNat
def k0_dev53 (d0 : Dev nD) : Nat :=
  let c0_i32_1582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1581 : BitVec 32 := 1#32
  let v1629 : BitVec 32 := Scalar.muli v24 c1_i32_1581
  let v1630 : BitVec 32 := Scalar.addi c0_i32_1582 v1629
  v1630.toNat
def k0_dev54 (d0 : Dev nD) : Nat :=
  let c0_i32_1612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1611 : BitVec 32 := 1#32
  let v1654 : BitVec 32 := Scalar.muli v28 c1_i32_1611
  let v1655 : BitVec 32 := Scalar.addi c0_i32_1612 v1654
  v1655.toNat
def k0_dev55 (d0 : Dev nD) : Nat :=
  let c0_i32_1642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1641 : BitVec 32 := 1#32
  let v1679 : BitVec 32 := Scalar.muli v24 c1_i32_1641
  let v1680 : BitVec 32 := Scalar.addi c0_i32_1642 v1679
  v1680.toNat
def k0_dev56 (d0 : Dev nD) : Nat :=
  let c0_i32_1672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1671 : BitVec 32 := 1#32
  let v1704 : BitVec 32 := Scalar.muli v28 c1_i32_1671
  let v1705 : BitVec 32 := Scalar.addi c0_i32_1672 v1704
  v1705.toNat
def k0_dev57 (d0 : Dev nD) : Nat :=
  let c0_i32_1702 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1701 : BitVec 32 := 1#32
  let v1729 : BitVec 32 := Scalar.muli v24 c1_i32_1701
  let v1730 : BitVec 32 := Scalar.addi c0_i32_1702 v1729
  v1730.toNat
def k0_dev58 (d0 : Dev nD) : Nat :=
  let c0_i32_1732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1731 : BitVec 32 := 1#32
  let v1754 : BitVec 32 := Scalar.muli v28 c1_i32_1731
  let v1755 : BitVec 32 := Scalar.addi c0_i32_1732 v1754
  v1755.toNat
def k0_dev59 (d0 : Dev nD) : Nat :=
  let c0_i32_1762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1761 : BitVec 32 := 1#32
  let v1779 : BitVec 32 := Scalar.muli v24 c1_i32_1761
  let v1780 : BitVec 32 := Scalar.addi c0_i32_1762 v1779
  v1780.toNat
def k0_dev60 (d0 : Dev nD) : Nat :=
  let c0_i32_1792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1791 : BitVec 32 := 1#32
  let v1804 : BitVec 32 := Scalar.muli v28 c1_i32_1791
  let v1805 : BitVec 32 := Scalar.addi c0_i32_1792 v1804
  v1805.toNat
def k0_dev61 (d0 : Dev nD) : Nat :=
  let c0_i32_1822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1821 : BitVec 32 := 1#32
  let v1829 : BitVec 32 := Scalar.muli v24 c1_i32_1821
  let v1830 : BitVec 32 := Scalar.addi c0_i32_1822 v1829
  v1830.toNat
def k0_dev62 (d0 : Dev nD) : Nat :=
  let c0_i32_1852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1851 : BitVec 32 := 1#32
  let v1854 : BitVec 32 := Scalar.muli v28 c1_i32_1851
  let v1855 : BitVec 32 := Scalar.addi c0_i32_1852 v1854
  v1855.toNat
def k0_dev63 (d0 : Dev nD) : Nat :=
  let c0_i32_1882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1881 : BitVec 32 := 1#32
  let v1879 : BitVec 32 := Scalar.muli v24 c1_i32_1881
  let v1880 : BitVec 32 := Scalar.addi c0_i32_1882 v1879
  v1880.toNat
def k0_dev64 (d0 : Dev nD) : Nat :=
  let c0_i32_1912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1911 : BitVec 32 := 1#32
  let v1904 : BitVec 32 := Scalar.muli v28 c1_i32_1911
  let v1905 : BitVec 32 := Scalar.addi c0_i32_1912 v1904
  v1905.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x16384, .bf16⟩
  | .hbm, ⟨1, _⟩ => ⟨S16384x2048, .bf16⟩
  | .hbm, ⟨2, _⟩ => ⟨S2048x16384, .f32⟩
  | .hbm, ⟨3, _⟩ => ⟨S16384x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .bf16⟩
  | _, _ => ⟨S2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Geom.lean ====
/-
# The mesh and the transfers

Sixteen devices on a 4×4 mesh: device `c` sits in plane row `px c` and column `qx c`. Every collective of the kernel
runs in two directions at once (`false` for the direction the kernel calls R, `true` for L); each carries one half of
the columns. This module names the neighbours, the sixty transfers a device makes, where each goes and
comes from, the semaphores it uses, and the three orders in which the program sends, receives and collects.
-/
module

public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Pipeline.BigSepL
public import Idealize.ShloMosaic.Lib.MemrefSat
public import Idealize.ShloMosaic.Lib.Tactic

@[expose] public section

noncomputable section

namespace Cert.Mesh

open Cert.KernelIdeal Cert.KernelIdeal.Gen
open Idealize.ShloMosaic Idealize.ShloMosaic.TcCoe

/-! ## The mesh -/

/-- `n` steps in direction `d` from coordinate `a`: against the axis for R, along it for L. A ring message
    that reaches coordinate `a` started `n` hops ago at `mv d a n`. -/
def mv (d : Bool) (a n : Fin 4) : Fin 4 := if d then a + n else a - n

set_option backward.proofsInPublic true in
def px (c : Dev nD) : Fin 4 := ⟨c.val / 4, by have := c.isLt; simp only [nD] at this; omega⟩
set_option backward.proofsInPublic true in
def qx (c : Dev nD) : Fin 4 := ⟨c.val % 4, Nat.mod_lt _ (by decide)⟩
set_option backward.proofsInPublic true in
def dev (p q : Fin 4) : Dev nD := ⟨4 * p.val + q.val, by have := p.isLt; have := q.isLt; simp only [nD]; omega⟩

/-- The ring neighbour in the plane row that direction `d` sends to, and the one it receives from. -/
def succ (d : Bool) (c : Dev nD) : Dev nD := dev (px c) (mv d (qx c) 3)
def pred (d : Bool) (c : Dev nD) : Dev nD := dev (px c) (mv d (qx c) 1)
/-- The same along the column. -/
def zsucc (d : Bool) (c : Dev nD) : Dev nD := dev (mv d (px c) 3) (qx c)
def zpred (d : Bool) (c : Dev nD) : Dev nD := dev (mv d (px c) 1) (qx c)
/-- The device diagonally opposite in the plane row. -/
def opp (c : Dev nD) : Dev nD := dev (px c) (qx c + 2)

/-! ## The transfers -/

/-- A device's sixty transfers: `pa j h d` is hop `h` of chain `j` of the reduction along the row, `zr s d` hop `s` of
    the reduction along the column, `za s d` hop `s` of the broadcast along the column, `pg r h d` (for `r` below 3) hop `h`
    of the broadcast along the row of the block received after `r` column hops, and `pg 3 i d` the three
    direct sends of the last block. -/
inductive X where
  | pa (j : Fin 4) (h : Fin 3) (d : Bool)
  | zr (s : Fin 3) (d : Bool)
  | za (s : Fin 3) (d : Bool)
  | pg (r : Fin 4) (h : Fin 3) (d : Bool)
  deriving DecidableEq

open X

/-- The order in which a device starts its transfers. -/
def order : List X :=
  [pa 0 0 false, pa 0 0 true, pa 1 0 false, pa 1 0 true, pa 2 0 false, pa 2 0 true, pa 3 0 false, pa 3 0 true,
   pa 0 1 false, pa 0 1 true, pa 1 1 false, pa 1 1 true,
   pa 0 2 false, pa 0 2 true, pa 2 1 false, pa 2 1 true,
   pa 1 2 false, pa 1 2 true, pa 3 1 false, pa 3 1 true,
   zr 0 false, zr 0 true, pa 2 2 false, pa 2 2 true, zr 1 false, zr 1 true, pa 3 2 false, pa 3 2 true, zr 2 false, zr 2 true,
   za 0 false, pg 0 0 false, za 0 true, pg 0 0 true, za 1 false, pg 1 0 false, za 1 true, pg 1 0 true,
   za 2 false, pg 2 0 false, za 2 true, pg 2 0 true,
   pg 3 0 false, pg 3 1 false, pg 3 2 false, pg 3 0 true, pg 3 1 true, pg 3 2 true,
   pg 0 1 false, pg 0 1 true, pg 1 1 false, pg 1 1 true, pg 2 1 false, pg 2 1 true,
   pg 0 2 false, pg 0 2 true, pg 1 2 false, pg 1 2 true, pg 2 2 false, pg 2 2 true]

/-- The order in which it waits for what it receives. -/
def rOrder : List X :=
  [pa 0 0 false, pa 0 0 true, pa 1 0 false, pa 1 0 true, pa 0 1 false, pa 0 1 true, pa 2 0 false, pa 2 0 true,
   pa 1 1 false, pa 1 1 true, pa 3 0 false, pa 3 0 true, pa 0 2 false, pa 0 2 true, pa 2 1 false, pa 2 1 true,
   zr 0 false, pa 1 2 false, zr 0 true, pa 1 2 true, pa 3 1 false, pa 3 1 true,
   zr 1 false, pa 2 2 false, zr 1 true, pa 2 2 true, zr 2 false, pa 3 2 false, zr 2 true, pa 3 2 true,
   za 0 false, za 0 true, za 1 false, za 1 true, za 2 false, za 2 true,
   pg 0 0 false, pg 0 0 true, pg 1 0 false, pg 1 0 true, pg 2 0 false, pg 2 0 true,
   pg 0 1 false, pg 0 1 true, pg 1 1 false, pg 1 1 true, pg 2 1 false, pg 2 1 true,
   pg 0 2 false, pg 0 2 true, pg 1 2 false, pg 1 2 true, pg 2 2 false, pg 2 2 true,
   pg 3 0 false, pg 3 0 true, pg 3 1 false, pg 3 1 true, pg 3 2 false, pg 3 2 true]

theorem order_nodup : order.Nodup := by decide +kernel
theorem rOrder_nodup : rOrder.Nodup := by decide +kernel
theorem order_complete (x : X) : x ∈ order := by
  have h1 : ∀ j h d, pa j h d ∈ order := by decide +kernel
  have h2 : ∀ s d, zr s d ∈ order := by decide +kernel
  have h3 : ∀ s d, za s d ∈ order := by decide +kernel
  have h4 : ∀ r h d, pg r h d ∈ order := by decide +kernel
  cases x
  · exact h1 _ _ _
  · exact h2 _ _
  · exact h3 _ _
  · exact h4 _ _ _

instance : Fintype X := ⟨⟨(order : Multiset X), order_nodup⟩, order_complete⟩

theorem univ_order : (Finset.univ : Finset X) = order.toFinset := by decide +kernel
theorem univ_rOrder : (Finset.univ : Finset X) = rOrder.toFinset := by decide +kernel

/-- The position of a transfer in the order of starting. -/
def pos (x : X) : ℕ := order.idxOf x

/-- Where device `c`'s transfer `x` goes, and which device's transfer `x` reaches `c`. -/
def tgt : X → Dev nD → Dev nD
  | pa _ _ d, c => succ d c
  | zr _ d, c => zsucc d c
  | za _ d, c => zsucc d c
  | pg r h d, c => if r = 3 then (if h = 0 then succ false c else if h = 1 then succ true c else opp c) else succ d c
def sndr : X → Dev nD → Dev nD
  | pa _ _ d, c => pred d c
  | zr _ d, c => zpred d c
  | za _ d, c => zpred d c
  | pg r h d, c => if r = 3 then (if h = 0 then pred false c else if h = 1 then pred true c else opp c) else pred d c

theorem sndr_tgt (x : X) (c : Dev nD) : sndr x (tgt x c) = c := by revert x c; decide +kernel
theorem tgt_sndr (x : X) (c : Dev nD) : tgt x (sndr x c) = c := by revert x c; decide +kernel

def route (x : X) : Dev nD ≃ Dev nD := ⟨tgt x, sndr x, sndr_tgt x, tgt_sndr x⟩

/-! ## Their semaphores -/

/-- The number of a transfer among the kernel's semaphore pairs. -/
def num : X → ℕ
  | pa j h d => j.val * 6 + h.val * 2 + d.toNat
  | zr s d => 24 + s.val * 2 + d.toNat
  | za s d => 30 + s.val * 2 + d.toNat
  | pg r h d => 36 + r.val * 6 + h.val * 2 + d.toNat

theorem num_lt (x : X) : num x < 60 := by revert x; decide +kernel

set_option backward.proofsInPublic true in
/-- The semaphore that counts its departure, and the one that counts its arrival. -/
def sS (x : X) : DmaSem sig := (⟨3 + 2 * num x, by have := num_lt x; omega⟩ : Fin 123)
set_option backward.proofsInPublic true in
def rS (x : X) : DmaSem sig := (⟨4 + 2 * num x, by have := num_lt x; omega⟩ : Fin 123)

/-- The transfer a semaphore belongs to, and whether it counts the arrival. -/
def xOf (s : DmaSem sig) : Option (X × Bool) :=
  (order.find? fun x => decide (sS x = s)).elim ((order.find? fun x => decide (rS x = s)).map fun x => (x, true)) fun x => some (x, false)

theorem xOf_sS (x : X) : xOf (sS x) = some (x, false) := by revert x; decide +kernel
theorem xOf_rS (x : X) : xOf (rS x) = some (x, true) := by revert x; decide +kernel

/-- The runtime's barrier semaphore. -/
abbrev barS : Sem sig := (SemArray.scalar (sig.barrier 0 rfl) : Sems sig S_).sem

abbrev barCell (c : Dev nD) : GSem nD τ sig := ((c : Thread nD τ), .reg barS)
abbrev sCell (x : X) (c : Dev nD) : GSem nD τ sig := ((c : Thread nD τ), .dma (sS x))
abbrev rCell (x : X) (c : Dev nD) : GSem nD τ sig := ((c : Thread nD τ), .dma (rS x))

/-! ## The barrier

Duty 0 of a device's barrier cell is paid by its left neighbour, 1 by its right one, 2 by the one before it in the column and 3
by the one after it. -/

/-- Who pays duty `e` of device `b`'s barrier cell, and whose duty `e` device `c` pays. -/
def payer (e : Fin 4) (b : Dev nD) : Dev nD :=
  match e with | 0 => succ true b | 1 => succ false b | 2 => zsucc true b | 3 => zsucc false b
def payee (e : Fin 4) (c : Dev nD) : Dev nD :=
  match e with | 0 => succ false c | 1 => succ true c | 2 => zsucc false c | 3 => zsucc true c
theorem payer_payee (e : Fin 4) (c : Dev nD) : payer e (payee e c) = c := by revert e c; decide +kernel
theorem payee_payer (e : Fin 4) (c : Dev nD) : payee e (payer e c) = c := by revert e c; decide +kernel
def pays (e : Fin 4) : Dev nD ≃ Dev nD := ⟨payee e, payer e, payer_payee e, payee_payer e⟩

/-- The transfers of `b` whose landing places the payer of duty `e` hands it. -/
def grants : Fin 4 → List X
  | 0 => [pa 0 0 true, pa 0 1 true, pa 0 2 true, pa 1 0 true, pa 1 1 true, pa 1 2 true, pa 2 0 true, pa 2 1 true, pa 2 2 true,
      pa 3 0 true, pa 3 1 true, pa 3 2 true, pg 0 0 true, pg 0 1 true, pg 0 2 true, pg 1 0 true, pg 1 1 true, pg 1 2 true,
      pg 2 0 true, pg 2 1 true, pg 2 2 true, pg 3 1 false, pg 3 1 true]
  | 1 => [pa 0 0 false, pa 0 1 false, pa 0 2 false, pa 1 0 false, pa 1 1 false, pa 1 2 false, pa 2 0 false, pa 2 1 false, pa 2 2 false,
      pa 3 0 false, pa 3 1 false, pa 3 2 false, pg 0 0 false, pg 0 1 false, pg 0 2 false, pg 1 0 false, pg 1 1 false, pg 1 2 false,
      pg 2 0 false, pg 2 1 false, pg 2 2 false, pg 3 0 false, pg 3 0 true]
  | 2 => [zr 0 true, zr 1 true, zr 2 true, za 0 true, za 1 true, za 2 true]
  | 3 => [zr 0 false, zr 1 false, zr 2 false, za 0 false, za 1 false, za 2 false]
/-- The two direct sends to the opposite device: their landing places come by way of a neighbour. -/
def far : List X := [pg 3 2 false, pg 3 2 true]

theorem grants_tgt : ∀ (e : Fin 4), ∀ x ∈ grants e, ∀ b, payer e b = tgt x b := by decide +kernel
theorem far_tgt : ∀ x ∈ far, ∀ b, payer 0 b = tgt x (succ false b) := by decide +kernel
theorem all_perm : (order.filter fun x => decide (x ∉ far)).Perm (grants 0 ++ grants 1 ++ grants 2 ++ grants 3) := by decide +kernel
theorem lands_perm : order.Perm (grants 0 ++ grants 1 ++ grants 2 ++ grants 3 ++ far) := by decide +kernel

/-! ## Which block is where -/

/-- The row slab (of the four in a quarter) that chain `j` reduces at device `c`. -/
def slab (d : Bool) (j : Fin 4) (c : Dev nD) : Fin 4 := mv d (px c) j
/-- The quarter of the rows that hop `h` adds at device `c`. -/
def quarter (d : Bool) (h : Fin 4) (c : Dev nD) : Fin 4 := mv d (qx c) h

/-- The device whose finished block a broadcast transfer carries, seen from the sender. -/
def blk : X → Dev nD → Dev nD
  | za s d, c => dev (mv d (px c) (s.castSucc)) (qx c)
  | pg r h d, c => if r = 3 then dev (mv d (px c) 3) (qx c) else dev (mv d (px c) r) (mv d (qx c) h.castSucc)
  | _, c => c

/-- The rows of the result that device `e` finishes in direction `d` start at this multiple of 128. -/
def rowOf (d : Bool) (e : Dev nD) : ℕ := 4 * (mv d (qx e) 3).val + (mv d (px e) 3).val

end Cert.Mesh

end
-- ==== Proof.Vals.lean ====
/-
# The places and the contents

Which piece of which buffer every transfer reads and writes, and, for any float values, what the pieces hold: the partial
products a device computes from its blocks of the operands, the sums that travel along the row and the column, and the
finished blocks of the result.
-/
module

public import proofs.«01_k».proof.Proof.Geom

@[expose] public section

noncomputable section

namespace Cert.Mesh

open Cert.KernelIdeal Cert.KernelIdeal.Gen
open Idealize.SL Idealize.SL.RA Idealize.SL.BI
open Idealize.ShloMosaic Idealize.ShloMosaic.TcCoe

open X

/-! ## Pieces of the buffers -/

/-- Row block `t` (of 128 rows) of quarter `a`, counted in blocks of 128 rows. -/
def row (a t : Fin 4) : Fin 16 := ⟨4 * a.val + t.val, by omega⟩

theorem inb_block : ∀ (r : Fin 16) (d : Bool) (a : Fin 2), (![128 * r.val, 1024 * d.toNat] : Fin 2 → ℕ) a + S128x1024.size a ≤ S2048x2048.size a := by decide +kernel
theorem inb_slab : ∀ (r : Fin 16) (a : Fin 2), (![128 * r.val, 0] : Fin 2 → ℕ) a + S128x2048.size a ≤ S2048x2048.size a := by decide +kernel
theorem inb_quart : ∀ (r : Fin 4) (a : Fin 2), (![512 * r.val, 0] : Fin 2 → ℕ) a + S512x2048.size a ≤ S2048x2048.size a := by decide +kernel
theorem inb_rowsA : ∀ (r : Fin 16) (a : Fin 2), (![128 * r.val, 0] : Fin 2 → ℕ) a + S128x1024.size a ≤ S2048x1024.size a := by decide +kernel
theorem inb_quartA : ∀ (r : Fin 4) (a : Fin 2), (![512 * r.val, 0] : Fin 2 → ℕ) a + S512x1024.size a ≤ S2048x1024.size a := by decide +kernel
theorem inb_half : ∀ (d : Bool) (a : Fin 2), (![0, 1024 * d.toNat] : Fin 2 → ℕ) a + S128x1024.size a ≤ S128x2048.size a := by decide +kernel
theorem inb_part : ∀ (t : Fin 4) (d : Bool) (a : Fin 2), (![128 * t.val, 1024 * d.toNat] : Fin 2 → ℕ) a + S128x1024.size a ≤ S512x2048.size a := by decide +kernel
theorem inb_slabOf : ∀ (t : Fin 4) (a : Fin 2), (![128 * t.val, 0] : Fin 2 → ℕ) a + S128x2048.size a ≤ S512x2048.size a := by decide +kernel
theorem inb_plane : ∀ (h t : Fin 4) (a : Fin 3), (![h.val, 128 * t.val, 0] : Fin 3 → ℕ) a + S1x128x1024.size a ≤ S4x512x1024.size a := by decide +kernel
theorem inb_slot : ∀ (s : Fin 4) (a : Fin 3), (![s.val, 0, 0] : Fin 3 → ℕ) a + S1x128x1024.size a ≤ S4x128x1024.size a := by decide +kernel

/-- A 128×1024 block, a 128×2048 slab and a 512×2048 quarter of a 2048×2048 array. -/
abbrev rBlock (r : Fin 16) (d : Bool) : Rect S2048x2048 := Rect.unit ![128 * r.val, 1024 * d.toNat] S128x1024.size (inb_block r d)
abbrev rSlab (r : Fin 16) : Rect S2048x2048 := Rect.unit ![128 * r.val, 0] S128x2048.size (inb_slab r)
abbrev rQuart (a : Fin 4) : Rect S2048x2048 := Rect.unit ![512 * a.val, 0] S512x2048.size (inb_quart a)
/-- 128 and 512 rows of the device's columns of the first operand. -/
abbrev rRowsA (r : Fin 16) : Rect S2048x1024 := Rect.unit ![128 * r.val, 0] S128x1024.size (inb_rowsA r)
abbrev rQuartA (a : Fin 4) : Rect S2048x1024 := Rect.unit ![512 * a.val, 0] S512x1024.size (inb_quartA a)
/-- One half of a slab's columns; one block of a quarter; one slab of a quarter. -/
abbrev rHalf (d : Bool) : Rect S128x2048 := Rect.unit ![0, 1024 * d.toNat] S128x1024.size (inb_half d)
abbrev rPart (t : Fin 4) (d : Bool) : Rect S512x2048 := Rect.unit ![128 * t.val, 1024 * d.toNat] S128x1024.size (inb_part t d)
abbrev rSlabOf (t : Fin 4) : Rect S512x2048 := Rect.unit ![128 * t.val, 0] S128x2048.size (inb_slabOf t)
/-- One block of a row buffer, one slot of a column buffer. -/
abbrev rPlane (h t : Fin 4) : Rect S4x512x1024 := Rect.unit ![h.val, 128 * t.val, 0] S1x128x1024.size (inb_plane h t)
abbrev rSlot (s : Fin 4) : Rect S4x128x1024 := Rect.unit ![s.val, 0, 0] S1x128x1024.size (inb_slot s)

abbrev aM : Memref sig .tc .vmem S2048x1024 .bf16 := Memref.whole cc0_stg0_0
abbrev bM : Memref sig .tc .vmem S1024x2048 .bf16 := Memref.whole cc0_stg1_0
abbrev outM : Memref sig .tc .vmem S2048x2048 .bf16 := Memref.whole cc0_stg2_0
abbrev accM : Memref sig .tc .vmem S2048x2048 .bf16 := Memref.whole cc0_scratch0
/-- The row buffer and the column buffer of a direction. -/
abbrev pb : Bool → Memref sig .tc .vmem S4x512x1024 .bf16
  | false => Memref.whole cc0_scratch1
  | true => Memref.whole cc0_scratch2
abbrev zb : Bool → Memref sig .tc .vmem S4x128x1024 .bf16
  | false => Memref.whole cc0_scratch3
  | true => Memref.whole cc0_scratch4

abbrev Blk := Memref sig .tc .vmem S128x1024 .bf16

abbrev accB (r : Fin 16) (d : Bool) : Blk := accM.slice (rBlock r d) (fun _ => rfl)
abbrev accS (r : Fin 16) : Memref sig .tc .vmem S128x2048 .bf16 := accM.slice (rSlab r) (fun _ => rfl)
abbrev accQ (a : Fin 4) : Memref sig .tc .vmem S512x2048 .bf16 := accM.slice (rQuart a) (fun _ => rfl)
abbrev outB (r : Fin 16) (d : Bool) : Blk := outM.slice (rBlock r d) (fun _ => rfl)
abbrev pbB (d : Bool) (h t : Fin 4) : Blk := ((pb d).slice (rPlane h t) (fun _ => rfl)).squeeze S128x1024 squeezes_S1x128x1024_S128x1024
abbrev zbB (d : Bool) (s : Fin 4) : Blk := ((zb d).slice (rSlot s) (fun _ => rfl)).squeeze S128x1024 squeezes_S1x128x1024_S128x1024

/-- Where device `e`'s finished block of direction `d` sits in the result, in blocks of 128 rows. -/
def oRow (d : Bool) (e : Dev nD) : Fin 16 := row (mv d (qx e) 3) (mv d (px e) 3)
abbrev outE (d : Bool) (e : Dev nD) : Blk := outB (oRow d e) d

/-- What device `c`'s transfer `x` reads, and where on its target it writes. -/
def sM : X → Dev nD → Blk
  | pa j h d, c => match h with
    | 0 => accB (row (quarter d 0 c) (slab d j c)) d
    | 1 => pbB d 0 (slab d j c)
    | 2 => pbB d 1 (slab d j c)
  | zr s d, c => match s with
    | 0 => zbB d 3
    | 1 => zbB d 0
    | 2 => zbB d 1
  | za s d, c => outE d (blk (za s d) c)
  | pg r h d, c => outE d (blk (pg r h d) c)
def dM : X → Dev nD → Blk
  | pa j h d, c => pbB d h.castSucc (slab d j c)
  | zr s d, c => zbB d s.castSucc
  | za s d, c => outE d (blk (za s d) c)
  | pg r h d, c => outE d (blk (pg r h d) c)

/-- The bytes every transfer moves, in the unit its semaphores count. -/
def N : ℕ := (accB 0 false).view.dmaCredit

theorem dM_credit (x : X) (c : Dev nD) : (dM x c).view.dmaCredit = N := by
  cases x with
  | pa j h d => cases d <;> rfl
  | zr s d => cases d <;> rfl
  | za s d => rfl
  | pg r h d => rfl

/-- Every block of the kernel's buffers is counted the same. -/
theorem blk_credit (m : Blk) : m.view.dmaCredit = N := by
  have h : ∀ b, sig.dmaCredit .tc (Kind.table .tc .vmem) b S128x1024 .bf16 = sig.dmaCredit .tc (Kind.table .tc .vmem) (accB 0 false).view.buf S128x1024 .bf16 := by
    decide +kernel
  exact h _

theorem N_pos : 0 < N := View.dmaCredit_pos _ (by decide)

theorem slab_pred (d : Bool) (j : Fin 4) (c : Dev nD) : slab d j (pred d c) = slab d j c := by revert d j c; decide +kernel

/-! ## Values -/

variable {F : FTy → Type} [FloatOps F]

abbrev BV (F : FTy → Type) := Vec F S128x1024 .bf16

/-- A block with a leading axis of length one, and without it. -/
def up (x : BV F) : Vec F S1x128x1024 .bf16 := shapeCast S1x128x1024 x shapeCasts_S128x1024_S1x128x1024
def down (x : Vec F S1x128x1024 .bf16) : BV F := shapeCast S128x1024 x shapeCasts_S1x128x1024_S128x1024
omit [FloatOps F] in
theorem down_up (x : BV F) : down (up x) = x := by
  funext j
  show x (Shape.reshapeEquiv _ (Shape.reshapeEquiv _ j)) = x j
  congr 1
  rw [Shape.reshapeEquiv_reshapeEquiv, Shape.reshapeEquiv_self]

variable (av : Dev nD → Vec F S2048x1024 .bf16) (bv : Dev nD → Vec F S1024x2048 .bf16)

/-- The product of 128 rows, and of 512 rows, of the device's first operand with its second. -/
def slabV (c : Dev nD) (r : Fin 16) : Vec F S128x2048 .bf16 := k0_pay4 (fun j => av c ((rRowsA r).emb j)) (bv c)
def quartV (c : Dev nD) (a : Fin 4) : Vec F S512x2048 .bf16 := k0_pay9 (fun j => av c ((rQuartA a).emb j)) (bv c)

/-- The block of the local product that hop `h` adds to row slab `t`. The even quarters are computed slab by slab. -/
def accV (d : Bool) (t : Fin 4) (h : Fin 4) (c : Dev nD) : BV F :=
  if h.val % 2 = 0 then fun j => slabV av bv c (row (quarter d h c) t) ((rHalf d).emb j)
  else fun j => quartV av bv c (quarter d h c) ((rPart t d).emb j)

/-- The sum along the row after hop `h`, as device `c` holds it. -/
def pA (d : Bool) (t : Fin 4) : ℕ → Dev nD → BV F
  | 0, c => accV av bv d t 0 c
  | h + 1, c => addf (pA d t h (pred d c)) (accV av bv d t (Fin.ofNat 4 (h + 1)) c)
/-- The full sum along the row. -/
def pF (d : Bool) (t : Fin 4) (c : Dev nD) : BV F := pA av bv d t 3 c
/-- The sum along the column after hop `s`. -/
def zA (d : Bool) : ℕ → Dev nD → BV F
  | 0, c => pF av bv d (slab d 0 c) c
  | s + 1, c => addf (zA d s (zpred d c)) (pF av bv d (slab d (Fin.ofNat 4 (s + 1)) c) c)

/-- The activation, and its argument's last addition, in the wider format. -/
def act (z : FVec F S128x1024 .f32) : BV F :=
  truncf .bf16 (mulf (mulf (broadcast S128x1024 (Scalar.ofBits .f32 0x3F000000#32)) z)
    (addf (broadcast S128x1024 (Scalar.ofBits .f32 0x3F800000#32))
      (tanh (mulf (broadcast S128x1024 (Scalar.ofBits .f32 0x3F4C422A#32))
        (addf z (mulf (mulf (mulf (broadcast S128x1024 (Scalar.ofBits .f32 0x3D372713#32)) z) z) z)))))) bitsLt_bf16_f32
def fin (x y : BV F) : BV F := act (addf (extf .f32 x bitsLt_bf16_f32) (extf .f32 y bitsLt_bf16_f32))

/-- Device `e`'s finished block of direction `d`. -/
def oV (d : Bool) (e : Dev nD) : BV F := fin (zA av bv d 2 (zpred d e)) (pF av bv d (slab d 3 e) e)

/-- What device `c`'s transfer `x` carries. -/
def sX : X → Dev nD → BV F
  | pa j h d, c => pA av bv d (slab d j c) h.val c
  | zr s d, c => zA av bv d s.val c
  | za s d, c => oV av bv d (blk (za s d) c)
  | pg r h d, c => oV av bv d (blk (pg r h d) c)

/-- The device that finishes block row `r` of a direction. -/
def own (d : Bool) (r : Fin 16) : Dev nD := dev (mv d ⟨r.val % 4, Nat.mod_lt _ (by decide)⟩ 1) (mv d ⟨r.val / 4, by omega⟩ 1)

theorem own_oRow (d : Bool) (e : Dev nD) : own d (oRow d e) = e := by revert d e; decide +kernel
theorem oRow_own (d : Bool) (r : Fin 16) : oRow d (own d r) = r := by revert d r; decide +kernel

/-- An element of a block from its two coordinates. -/
def bIdx (a b : ℕ) (ha : a < 128) (hb : b < 1024) : S128x1024.Idx := fun x => match x with
  | ⟨0, _⟩ => ⟨a, ha⟩
  | ⟨1, _⟩ => ⟨b, hb⟩

/-- The contents of the result. -/
def outV : Vec F S2048x2048 .bf16 := fun j =>
  oV av bv (decide (1024 ≤ (j 1).val)) (own (decide (1024 ≤ (j 1).val)) ⟨(j 0).val / 128, by have : (j 0).val < 2048 := (j 0).isLt; omega⟩)
    (bIdx ((j 0).val % 128) ((j 1).val % 1024) (Nat.mod_lt _ (by decide)) (Nat.mod_lt _ (by decide)))

theorem outV_emb (d : Bool) (e : Dev nD) (i : S128x1024.Idx) : outV av bv ((rBlock (oRow d e) d).emb i) = oV av bv d e i := by
  have h0 : (((rBlock (oRow d e) d).emb i) 0).val = 128 * (oRow d e).val + (i 0).val := by
    show 128 * (oRow d e).val + 1 * (i 0).val = _; omega
  have h1 : (((rBlock (oRow d e) d).emb i) 1).val = 1024 * d.toNat + (i 1).val := by
    show 1024 * d.toNat + 1 * (i 1).val = _; omega
  have i0 : (i 0).val < 128 := (i 0).isLt
  have i1 : (i 1).val < 1024 := (i 1).isLt
  have hd : decide (1024 ≤ (((rBlock (oRow d e) d).emb i) 1).val) = d := by rw [h1]; cases d <;> simp <;> omega
  have he : ∀ h, (⟨(((rBlock (oRow d e) d).emb i) 0).val / 128, h⟩ : Fin 16) = oRow d e := fun h => Fin.ext (by
    show (((rBlock (oRow d e) d).emb i) 0).val / 128 = _; rw [h0]; omega)
  have hi : ∀ ha hb, bIdx ((((rBlock (oRow d e) d).emb i) 0).val % 128) ((((rBlock (oRow d e) d).emb i) 1).val % 1024) ha hb = i := fun ha hb => by
    funext a
    match a with
    | ⟨0, _⟩ => exact Fin.ext (by show (((rBlock (oRow d e) d).emb i) 0).val % 128 = (i 0).val; rw [h0]; omega)
    | ⟨1, _⟩ => exact Fin.ext (by show (((rBlock (oRow d e) d).emb i) 1).val % 1024 = (i 1).val; rw [h1]; omega)
  unfold outV
  rw [hi, he, hd, own_oRow]

/-- The share of its source a transfer takes while it is under way. -/
def share : X → PosShare TreeShare
  | pa _ _ _ => fullShare
  | zr _ _ => fullShare
  | za _ _ => fullShare.left
  | pg r h _ => if r = 3 then (if h = 0 then fullShare.left else if h = 1 then fullShare.right.left else fullShare.right.right)
      else if h = 0 then fullShare.right else fullShare

end Cert.Mesh

end
-- ==== Proof.Sched.lean ====
/-
# The protocol

One round on every cell. A device's barrier cell has four duties, one for each neighbour in its row and its column, and each
hands over the places on that neighbour's buffers where this device's transfers will land. A transfer's arrival cell hands the
receiver the landing place with the carried block in it, its departure cell the sender its source back. This module states
the schedule, what each device owes at launch, the levels that order the waits, and the state of a device between two
steps of the program.
-/
module

public import proofs.«01_k».proof.Proof.Vals

@[expose] public section

noncomputable section

namespace Cert.Mesh

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.TcCoe
open Idealize.ShloMosaic.Pipeline (Dat Cfg Window BodyObligation cellOf)

open X

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (av : Dev nD → Vec F S2048x1024 .bf16) (bv : Dev nD → Vec F S1024x2048 .bf16)

/-- Device `c`'s memref `m` held at share `q` with contents `X`. -/
abbrev has {s : Shape} (c : Dev nD) (m : Memref sig .tc .vmem s .bf16) (q : PosShare TreeShare) (X : Vec F s .bf16) : sProp 𝕄 :=
  owns (c : Thread nD τ) m q X

/-- The place on `b` where transfer `x` will land, with anything in it. -/
def land (x : X) (b : Dev nD) : sProp 𝕄 := iprop(∃ Y : BV F, has b (dM x (sndr x b)) fullShare Y)

/-- The places for the two direct sends, on the device opposite `succ false b`, on their way. -/
def fars (b : Dev nD) : sProp 𝕄 := bigSepL far fun y => land y (tgt y b)

def barPay (e : Fin 4) (b : Dev nD) : sProp 𝕄 :=
  iprop((bigSepL (grants e) fun x => land x (payer e b)) ∗ if e = 0 then fars (succ false b) else iprop(emp))
def extra (x : X) (b : Dev nD) : sProp 𝕄 := if x = pa 0 0 false then fars b else iprop(emp)
def recvPay (x : X) (b : Dev nD) : sProp 𝕄 :=
  iprop(has b (dM x (sndr x b)) fullShare (sX av bv x (sndr x b)) ∗ extra x b)
def sendPay (x : X) (c : Dev nD) : sProp 𝕄 := has c (sM x c) (share x) (sX av bv x c)

omit [FloatOps F] in
instance land_storable (x : X) (b : Dev nD) : BI.Storable (upEmb : UEmb _ 𝕄) (land (F := F) x b) := by unfold land has owns; infer_instance
omit [FloatOps F] in
instance lands_storable (l : List X) (f : X → Dev nD) : BI.Storable (upEmb : UEmb _ 𝕄) (bigSepL l fun x => land (F := F) x (f x)) := by
  induction l with
  | nil => show BI.Storable (upEmb : UEmb _ 𝕄) iprop(emp); infer_instance
  | cons x l ih =>
    rw [bigSepL_cons']
    infer_instance
omit [FloatOps F] in
instance fars_storable (b : Dev nD) : BI.Storable (upEmb : UEmb _ 𝕄) (fars (F := F) b) := by unfold fars; infer_instance
omit [FloatOps F] in
instance barPay_storable (e : Fin 4) (b : Dev nD) : BI.Storable (upEmb : UEmb _ 𝕄) (barPay (F := F) e b) := by
  unfold barPay; split <;> infer_instance
omit [FloatOps F] in
instance extra_storable (x : X) (b : Dev nD) : BI.Storable (upEmb : UEmb _ 𝕄) (extra (F := F) x b) := by
  unfold extra; split <;> infer_instance
instance recvPay_storable (x : X) (b : Dev nD) : BI.Storable (upEmb : UEmb _ 𝕄) (recvPay av bv x b) := by
  unfold recvPay has owns; infer_instance
instance sendPay_storable (x : X) (b : Dev nD) : BI.Storable (upEmb : UEmb _ 𝕄) (sendPay av bv x b) := by
  unfold sendPay has owns; infer_instance

/-- The duties of the first round: four on a barrier cell, one on every cell of a transfer. -/
def dut : SemLoc sig → Finset (Fin 4)
  | .reg _ => Finset.univ
  | .dma s => if s.val < 3 then ∅ else {0}
def amt : SemLoc sig → ℕ
  | .reg _ => 1
  | .dma _ => N
def payX (c : Dev nD) : Option (X × Bool) → sProp 𝕄
  | none => iprop(emp)
  | some (x, false) => sendPay av bv x c
  | some (x, true) => recvPay av bv x c
def pay (c : Dev nD) (e : Fin 4) : SemLoc sig → sProp 𝕄
  | .reg _ => barPay e c
  | .dma s => payX av bv c (xOf s)

def rd : Rounds.Schedule (GSem nD τ sig) (Fin 4) 𝕄 where
  duties g r := if r = 0 ∧ g.1.2 = .tc then dut g.2 else ∅
  unitless _ := False
  amount g _ _ := amt g.2
  payload g _ e := pay av bv g.1.1 e g.2
  amount_pos g _ _ _ := by cases g.2 with
    | reg _ => exact Nat.one_pos
    | dma _ => exact N_pos

instance rd_storable (g : GSem nD τ sig) (r : ℕ) (e : Fin 4) : BI.Storable (upEmb : UEmb _ 𝕄) ((rd av bv).payload g r e) := by
  show BI.Storable (upEmb : UEmb _ 𝕄) (pay av bv g.1.1 e g.2)
  unfold pay payX
  (repeat' split) <;> infer_instance

section Facts
variable (x : X) (c : Dev nD)

theorem duties_bar : (rd av bv).duties (barCell c) 0 = Finset.univ := by dsimp only [rd]; rw [if_pos ⟨rfl, rfl⟩]; rfl
theorem duties_s : (rd av bv).duties (sCell x c) 0 = {0} := by
  dsimp only [rd]; rw [if_pos ⟨rfl, rfl⟩]
  show (if (3 + 2 * num x) < 3 then ∅ else {0}) = _
  exact if_neg (by omega)
theorem duties_r : (rd av bv).duties (rCell x c) 0 = {0} := by
  dsimp only [rd]; rw [if_pos ⟨rfl, rfl⟩]
  show (if (4 + 2 * num x) < 3 then ∅ else {0}) = _
  exact if_neg (by omega)
theorem duties_later (g : GSem nD τ sig) : ∀ r, 1 ≤ r → (rd av bv).duties g r = ∅ := fun r hr => by dsimp only [rd]; rw [if_neg fun h => by omega]

theorem amount_bar (e : Fin 4) : (rd av bv).amount (barCell c) 0 e = 1 := rfl
theorem amount_s (e : Fin 4) : (rd av bv).amount (sCell x c) 0 e = N := rfl
theorem amount_r (e : Fin 4) : (rd av bv).amount (rCell x c) 0 e = N := rfl

theorem expect_bar : (rd av bv).expect (barCell c) 0 = 4 := by
  unfold Schedule.expect Schedule.amountOf
  rw [duties_bar, Finset.sum_congr rfl fun d _ => amount_bar av bv c d, Finset.sum_const, Finset.card_univ, Fintype.card_fin, smul_eq_mul]
theorem expect_s : (rd av bv).expect (sCell x c) 0 = N := by
  unfold Schedule.expect Schedule.amountOf; rw [duties_s, Finset.sum_singleton, amount_s]
theorem expect_r : (rd av bv).expect (rCell x c) 0 = N := by
  unfold Schedule.expect Schedule.amountOf; rw [duties_r, Finset.sum_singleton, amount_r]

theorem payload_bar (e : Fin 4) : (rd av bv).payload (barCell c) 0 e = barPay e c := rfl
theorem payload_s (e : Fin 4) : (rd av bv).payload (sCell x c) 0 e = sendPay av bv x c := by
  show payX av bv c (xOf (sS x)) = _; rw [xOf_sS]; rfl
theorem payload_r (e : Fin 4) : (rd av bv).payload (rCell x c) 0 e = recvPay av bv x c := by
  show payX av bv c (xOf (rS x)) = _; rw [xOf_rS]; rfl

theorem rest_bar : bigSep ((rd av bv).duties (barCell c) 0 \ ∅) (fun e => (rd av bv).payload (barCell c) 0 e)
    = iprop(barPay 0 c ∗ barPay 1 c ∗ barPay 2 c ∗ barPay 3 c) := by
  rw [Finset.sdiff_empty, duties_bar]
  exact bigSep_univ_eq_bigSepL [0, 1, 2, 3] (by decide) (by decide) _
theorem rest_s : bigSep ((rd av bv).duties (sCell x c) 0 \ ∅) (fun e => (rd av bv).payload (sCell x c) 0 e) = sendPay av bv x c := by
  rw [Finset.sdiff_empty, duties_s, bigSep_singleton, payload_s]
theorem rest_r : bigSep ((rd av bv).duties (rCell x c) 0 \ ∅) (fun e => (rd av bv).payload (rCell x c) 0 e) = recvPay av bv x c := by
  rw [Finset.sdiff_empty, duties_r, bigSep_singleton, payload_r]

end Facts

/-! ## What is owed; the levels -/

/-- What device `c` owes while the transfers of `l` are still to be started, the next one last. -/
def owedL (c : Dev nD) : List X → CellTallies nD τ sig Unit
  | [] => 0
  | x :: l => owedL c l + tallyAt (rCell x (tgt x c)) () N
/-- With the barrier signals of `es` still to come as well. -/
def owedB (c : Dev nD) : List (Fin 4) → CellTallies nD τ sig Unit
  | [] => owedL c order
  | e :: l => owedB c l + tallyAt (barCell (payee e c)) () 1
/-- The order of the signals. -/
def sigs : List (Fin 4) := [1, 0, 3, 2]
def O₀ (c : Dev nD) : CellTallies nD τ sig Unit := owedB c sigs

def L (g : GSem nD τ sig) : Finset Unit := if g.1.2 = .tc then {()} else ∅
/-- Staging and departures at 0, barriers at 1, arrivals above in the order of starting. -/
def lvX : Option (X × Bool) → ℕ
  | some (x, true) => 2 + pos x
  | _ => 0
def lvS : SemLoc sig → ℕ
  | .reg _ => 1
  | .dma s => lvX (xOf s)
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_r (x : X) (c : Dev nD) (u : Unit) : lv (rCell x c) u = 2 + pos x := by show lvX (xOf (rS x)) = _; rw [xOf_rS]; rfl

theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem owedL_pos {c : Dev nD} {g : GSem nD τ sig} {u : Unit} : ∀ {l : List X}, 0 < owedL c l g u → ∃ x ∈ l, g = rCell x (tgt x c)
  | [], h => absurd h (by simp [owedL])
  | x :: l, h => by
    unfold owedL at h
    rw [Pi.add_apply, Finsupp.add_apply] at h
    rcases Nat.eq_zero_or_pos (owedL c l g u) with h0 | h0
    · rw [h0, Nat.zero_add] at h
      exact ⟨x, List.mem_cons_self, tally_pos h⟩
    · obtain ⟨y, hy, e⟩ := owedL_pos h0
      exact ⟨y, List.mem_cons_of_mem _ hy, e⟩

theorem owedB_pos {c : Dev nD} {g : GSem nD τ sig} {u : Unit} : ∀ {l : List (Fin 4)}, 0 < owedB c l g u →
    (∃ x ∈ order, g = rCell x (tgt x c)) ∨ ∃ e, g = barCell (payee e c)
  | [], h => .inl (owedL_pos h)
  | e :: l, h => by
    unfold owedB at h
    rw [Pi.add_apply, Finsupp.add_apply] at h
    rcases Nat.eq_zero_or_pos (owedB c l g u) with h0 | h0
    · rw [h0, Nat.zero_add] at h
      exact .inr ⟨e, tally_pos h⟩
    · exact owedB_pos h0

theorem mayWait_list (c : Dev nD) (sm : SemLoc sig) (l : List X) (b : ℕ) (hsm : lv ((c : Thread nD τ), sm) () ≤ b) (h : ∀ y ∈ l, b < 2 + pos y) :
    (levAts L lv : sProp 𝕄) ⊢ MayWait (c : Thread nD τ) sm () (owedL c l) :=
  MayOwe.of_cut (L := L) (lev := lv) b (fun p hp => by rw [Finset.mem_singleton.mp hp, L_tc]; exact Finset.mem_singleton_self _)
    (fun g u hg => by obtain ⟨y, -, rfl⟩ := owedL_pos hg; rw [L_tc]; exact Finset.mem_singleton_self _)
    (fun p hp => by rw [Finset.mem_singleton.mp hp]; exact hsm)
    (fun g u hg => by obtain ⟨y, hy, rfl⟩ := owedL_pos hg; rw [lv_r]; exact h y hy)

theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  have hl : lv ((c : Thread nD τ), .dma q) () ≤ 0 := by
    have h : ∀ q : Fin 123, q.val < 3 → xOf q = none := by decide +kernel
    show lvX (xOf q) ≤ 0; rw [h q hq]; exact Nat.le_refl 0
  rcases hO with rfl | rfl
  · refine MayOwe.of_cut (L := L) (lev := lv) 0 (fun p hp => by rw [Finset.mem_singleton.mp hp, L_tc]; exact Finset.mem_singleton_self _)
      (fun g u hg => by rcases owedB_pos hg with ⟨y, -, rfl⟩ | ⟨e, rfl⟩ <;> exact Finset.mem_singleton_self _)
      (fun p hp => by rw [Finset.mem_singleton.mp hp]; exact hl)
      (fun g u hg => by
        rcases owedB_pos hg with ⟨y, -, rfl⟩ | ⟨e, rfl⟩
        · rw [lv_r]; omega
        · show 0 < 1; decide)
  · rw [MayWait_zero]; iintro -; iempintro

/-! ## The state of a device -/

/-- The kernel's cells on a device: the barrier, and both ends of the transfers. -/
abbrev KI := Option (X × Bool)
abbrev csem : KI → SemLoc sig
  | none => .reg barS
  | some (x, false) => .dma (sS x)
  | some (x, true) => .dma (rS x)
abbrev kcell (ck : Dev nD × KI) : GSem nD τ sig := ((ck.1 : Thread nD τ), csem ck.2)

/-- The invariants of all cells under the names `K`, all at their first round, and the level facts. -/
def records (K : Dev nD × KI → ℕ) : sProp 𝕄 :=
  iprop((bigSep Finset.univ fun ck : Dev nD × KI => cellInv ER (rd av bv) (K ck) (kcell ck))
    ∗ (bigSep Finset.univ fun ck : Dev nD × KI => reached ER (kcell ck) 0) ∗ levAts L lv)

instance records_persistent (K : Dev nD × KI → ℕ) : BI.Persistent (records av bv K) := by unfold records; infer_instance

theorem records_inv (K : Dev nD × KI → ℕ) (ck : Dev nD × KI) : records av bv K ⊢ cellInv ER (rd av bv) (K ck) (kcell ck) := by
  unfold records; iintro ⟨#H, -, -⟩
  iapply (show iprop(bigSep Finset.univ fun ck : Dev nD × KI => (cellInv ER (rd av bv) (K ck) (kcell ck) : sProp 𝕄)) ⊢ cellInv ER (rd av bv) (K ck) (kcell ck) from bigSep_elim (Finset.mem_univ ck)); iexact H
theorem records_reached (K : Dev nD × KI → ℕ) (ck : Dev nD × KI) : records av bv K ⊢ reached ER (kcell ck) 0 := by
  unfold records; iintro ⟨-, #H, -⟩
  iapply (show iprop(bigSep Finset.univ fun ck : Dev nD × KI => (reached ER (kcell ck) 0 : sProp 𝕄)) ⊢ reached ER (kcell ck) 0 from bigSep_elim (Finset.mem_univ ck)); iexact H
theorem records_lev (K : Dev nD × KI → ℕ) : records av bv K ⊢ levAts L lv := by
  unfold records; iintro ⟨-, -, #H⟩; iexact H

/-- The tokens with which device `c` pays for transfer `x`, and its position on the departure cell. -/
def sendTok (c : Dev nD) (x : X) : sProp 𝕄 :=
  iprop(dutyTok ER (sCell x c) 0 0 ∗ dutyTok ER (rCell x (tgt x c)) 0 0 ∗ atPos ER (sCell x c) 0 ∅ 0)
/-- The landing place of transfer `x`, unless it came by another way. -/
def perm (c : Dev nD) (x : X) : sProp 𝕄 := if x ∈ far then iprop(emp) else land x (tgt x c)
/-- A transfer under way: what its departure will be claimed with. -/
def flying (c : Dev nD) (x : X) : sProp 𝕄 := iprop(cred (tallyAt (sCell x c) () N) ∗ atPos ER (sCell x c) 0 ∅ 0)
/-- A transfer to be received. -/
def coming (c : Dev nD) (x : X) : sProp 𝕄 := iprop(cred (tallyAt (rCell x c) () N) ∗ atPos ER (rCell x c) 0 ∅ 0)
/-- A cell that has been used and closed. -/
def rDone (c : Dev nD) (x : X) : sProp 𝕄 := semVal (rCell x c) 0
def sDone (c : Dev nD) (x : X) : sProp 𝕄 := semVal (sCell x c) 0

/-- Device `c` after starting its first `k` transfers and receiving its first `j`. -/
def Pst (K : Dev nD × KI → ℕ) (c : Dev nD) (k j : ℕ) : sProp 𝕄 :=
  iprop(records av bv K ∗ (∃ W, owes (c : Thread nD τ) (owedL c (order.drop k)) W)
    ∗ bigSepL (order.drop k) (sendTok c) ∗ bigSepL (order.drop k) (perm c) ∗ bigSepL (order.take k) (flying c)
    ∗ bigSepL (rOrder.drop j) (coming c) ∗ bigSepL (rOrder.take j) (rDone c))

end Cert.Mesh

end
-- ==== Proof.Steps.lean ====
/-
# One step of the program at a time

For each kind of operation the kernel performs — a transfer started, an arrival or a departure awaited, a load, a store —
the rule that takes a device's state and holdings past it.
-/
module

public import proofs.«01_k».proof.Proof.Sched

@[expose] public section

noncomputable section

namespace Cert.Mesh

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.TcCoe
open Idealize.ShloMosaic.Pipeline (Dat Cfg Window BodyObligation cellOf)

open X

variable {F : FTy → Type} [FloatOps F]

local notation "𝕄" => MT nD τ sig Unit (Elt F) ℕ UU ℕ

abbrev 𝒱₀ : Variants := Variants.none

/-- The program runs from here to `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (av : Dev nD → Vec F S2048x1024 .bf16) (bv : Dev nD → Vec F S1024x2048 .bf16)

/-! ## Lists -/

theorem drop_of_get {l : List X} {k : ℕ} {x : X} (h : l[k]? = some x) : l.drop k = x :: l.drop (k + 1) := by
  obtain ⟨hk, rfl⟩ := List.getElem?_eq_some_iff.mp h
  exact List.drop_eq_getElem_cons hk
theorem take_of_get {l : List X} {k : ℕ} {x : X} (h : l[k]? = some x) : l.take (k + 1) = l.take k ++ [x] := by
  rw [List.take_succ, h]; rfl

/-! ## Transfers -/

/-- The landing place as the issuer has it when it does not hold it from the start. -/
def ownLand (x : X) (b : Dev nD) : sProp 𝕄 := if x ∈ far then land x b else iprop(emp)

set_option maxRecDepth 8000 in
set_option maxHeartbeats 400000 in
/-- Starting transfer `x`. -/
theorem send_core (K : Dev nD × KI → ℕ) (c : Dev nD) (x : X) (k j : ℕ) (hk : order[k]? = some x)
    {n : Dev nD} (hn : n = tgt x c) {src dst : Blk} (hs : src = sM x c) (hd : dst = dM x c) {ss rs : DmaSem sig} (h₁ : ss = sS x) (h₂ : rs = rS x)
    {hsc : (dst : Memref sig (Dev.tc n : Thread nD τ).2.kind .vmem S128x1024 .bf16).view.ref.isScScratch = false}
    {hsrc : src.view.WordExact} {hdst : dst.view.WordExact}
    {hsem : DmaTarget.Typed .vmem (.dma rs) (.remote (Dev.tc n : Thread nD τ) (dst : Memref sig .tc .vmem S128x1024 .bf16) (.dma ss) hsc)}
    {α : Type} {Q : α → sProp 𝕄} {kk : PUnit → Prog (TpuEff nD τ sig (Elt F) Λ₀ .tc) α} :
    iprop(Pst av bv K c k j ∗ sendPay av bv x c ∗ ownLand x (tgt x c) ∗ extra x (tgt x c))
      ⊢ iprop((Pst av bv K c (k + 1) j -∗ runs c (kk ⟨⟩) Q)
          -∗ runs c (.op (.enqueueDma src (.remote (Dev.tc n : Thread nD τ) dst (.dma ss) hsc) (.dma rs) hsrc hdst hsem) kk) Q) := by
  subst hn hs hd h₁ h₂
  unfold Pst
  rw [drop_of_get hk, take_of_get hk, bigSepL_append, bigSepL_cons', bigSepL_cons']
  iintro ⟨⟨#HR, ⟨%W, HO⟩, ⟨Htok, Htoks⟩, ⟨Hperm, Hperms⟩, Hfl, Hco, Hdn⟩, Hsrc, Hown, Hext⟩ Hk
  ihave Hland := (show iprop(perm c x ∗ ownLand x (tgt x c)) ⊢ (iprop(∃ Y : BV F, has (tgt x c) (dM x c) fullShare Y) : sProp 𝕄) from by
    have e : land (F := F) x (tgt x c) = iprop(∃ Y : BV F, has (tgt x c) (dM x c) fullShare Y) := by unfold land; rw [sndr_tgt]
    rw [← e]
    unfold perm ownLand
    split
    · iintro ⟨-, H⟩; iexact H
    · iintro ⟨H, -⟩; iexact H) $$ [Hperm Hown]
  · isplitl [Hperm] <;> iassumption
  unfold sendPay has owns sendTok
  icases Hland with ⟨%Y, %fd, %hfd, Hdst⟩
  icases Hsrc with ⟨%fs, %hfs, Hsrc⟩
  icases Htok with ⟨Ht1, Ht2, Hat⟩
  iapply (Rounds.wp_send_pointsTo_with 𝒱₀ ER (rd av bv) (c : Thread nD τ) none (κ₁ := K (c, some (x, false))) (κ₂ := K (tgt x c, some (x, true)))
    (r₁ := 0) (r₂ := 0) (d₁ := 0) (d₂ := 0) (fd := fd) (fs := fs) (q := share x) (F := extra x (tgt x c))
    (by rw [duties_s]; exact Finset.mem_singleton_self _) (by rw [duties_r]; exact Finset.mem_singleton_self _)
    () () N (show (dM x c).view.amount (.dma (rS x)) = N from dM_credit x c) (amount_s av bv x c 0) (amount_r av bv x (tgt x c) 0) (owedL c (order.drop (k + 1))) rfl (W := W)
    (by rw [payload_s]; unfold sendPay has; rw [← hfs]; exact owns_intro _ _ _ _)
    (by
      rw [payload_r]; unfold recvPay has; rw [sndr_tgt, ← hfs]
      refine sep_mono_left ((owns_intro _ _ _ _).trans (Entails.of_eq ?_))
      rw [View.read_write_univ])) $$ [Hsrc Hdst HO Ht1 Ht2 Hext]
  · isplitr; · iapply (records_inv av bv K (c, some (x, false))); iexact HR
    isplitr; · iapply (records_inv av bv K (tgt x c, some (x, true))); iexact HR
    isplitl [Hsrc]; · iexact Hsrc
    isplitl [Hdst Hext]
    · isplitl [Hdst]; · iexact Hdst
      iexact Hext
    isplitl [HO]; · iexact HO
    isplitl [Ht1]; · iexact Ht1
    isplitr; · iapply (records_reached av bv K (c, some (x, false))); iexact HR
    isplitl [Ht2]; · iexact Ht2
    iapply (records_reached av bv K (tgt x c, some (x, true))); iexact HR
  iintro ⟨Hcr, HO⟩
  iapply Hk
  isplitr; · iexact HR
  isplitl [HO]; · iexists W; iexact HO
  isplitl [Htoks]; · iexact Htoks
  isplitl [Hperms]; · iexact Hperms
  isplitl [Hfl Hcr Hat]
  · isplitl [Hfl]; · iexact Hfl
    rw [bigSepL_singleton]
    unfold flying
    isplitl [Hcr] <;> iassumption
  isplitl [Hco] <;> iassumption

set_option maxRecDepth 8000 in
set_option maxHeartbeats 400000 in
/-- Waiting for the arrival of transfer `x`. -/
theorem recv_step (K : Dev nD × KI → ℕ) (c : Dev nD) (x : X) (k j : ℕ) (hj : rOrder[j]? = some x) (hlv : ∀ y ∈ order.drop k, pos x < pos y)
    {rs : DmaSem sig} (h₂ : rs = rS x) {src dst : Blk} (hN : dst.view.dmaCredit = N)
    {hsrc : src.view.WordExact} {hdst : dst.view.WordExact}
    {α : Type} {Q : α → sProp 𝕄} {kk : PUnit → Prog (TpuEff nD τ sig (Elt F) Λ₀ .tc) α} :
    Pst av bv K c k j
      ⊢ iprop((iprop(Pst av bv K c k (j + 1) ∗ recvPay av bv x c) -∗ runs c (kk ⟨⟩) Q)
          -∗ runs c (.op (.waitDma2 rs src dst hsrc hdst) kk) Q) := by
  subst h₂
  have hmw : (levAts L lv : sProp 𝕄) ⊢ MayWait (c : Thread nD τ) (.dma (rS x)) () (owedL c (order.drop k)) :=
    mayWait_list c (.dma (rS x)) (order.drop k) (2 + pos x) (Nat.le_of_eq (lv_r x c ())) fun y hy => Nat.add_lt_add_left (hlv y hy) 2
  unfold Pst
  rw [drop_of_get hj, take_of_get hj, bigSepL_append, bigSepL_cons']
  iintro ⟨#HR, ⟨%W, HO⟩, Htoks, Hperms, Hfl, ⟨Hc, Hco⟩, Hdn⟩ Hk
  unfold coming
  icases Hc with ⟨Hcr, Hat⟩
  iapply (Rounds.wp_wait_rest_token 𝒱₀ ER (rd av bv) (c : Thread nD τ) none (κ := K (c, some (x, true)))
      (wpE_waitDma2_eq 𝒱₀ (c : Thread nD τ) none Set.univ) (Set.mem_univ _) () (O := owedL c (order.drop k)) (W := W) (R := 0) (m := 0) (T := ∅)
      (by rw [Nat.zero_add, hN, expect_r])) $$ [Hcr HO Hat]
  · isplitr; · iapply (records_inv av bv K (c, some (x, true))); iexact HR
    isplitl [Hcr]; · rw [hN]; iexact Hcr
    isplitl [HO]; · iexact HO
    isplitr
    · iapply ((records_lev av bv K).trans hmw); iexact HR
    iexact Hat
  iintro ⟨HO, Hat, -, Hpay⟩
  ihave Hp := (Entails.of_eq (rest_r av bv x c)) $$ Hpay
  imod (Rounds.cell_close ER (rd av bv) (Set.mem_univ (K (c, some (x, true)))) (fun h => h) (R := 0 + 1) (duties_later av bv (rCell x c))) $$ [Hat] with Hz
  · isplitr; · iapply (records_inv av bv K (c, some (x, true))); iexact HR
    iexact Hat
  iapply Hk
  isplitr [Hp]
  · isplitr; · iexact HR
    isplitl [HO]; · iexists _; iexact HO
    isplitl [Htoks]; · iexact Htoks
    isplitl [Hperms]; · iexact Hperms
    isplitl [Hfl]; · iexact Hfl
    isplitl [Hco]; · iexact Hco
    isplitl [Hdn]; · iexact Hdn
    rw [bigSepL_singleton]
    unfold rDone
    iexact Hz
  iexact Hp

/-- The order in which departures are awaited at the end. -/
def sOrder : List X :=
  [za 0 false, za 0 true, za 1 false, za 1 true, za 2 false, za 2 true,
   pg 0 0 false, pg 0 0 true, pg 1 0 false, pg 1 0 true, pg 2 0 false, pg 2 0 true,
   pg 3 0 false, pg 3 1 false, pg 3 2 false, pg 3 0 true, pg 3 1 true, pg 3 2 true,
   pg 0 1 false, pg 0 1 true, pg 1 1 false, pg 1 1 true, pg 2 1 false, pg 2 1 true,
   pg 0 2 false, pg 0 2 true, pg 1 2 false, pg 1 2 true, pg 2 2 false, pg 2 2 true,
   pa 0 0 false, pa 0 0 true, pa 1 0 false, pa 1 0 true, pa 2 0 false, pa 2 0 true, pa 3 0 false, pa 3 0 true,
   pa 0 1 false, pa 0 1 true, pa 1 1 false, pa 1 1 true, pa 0 2 false, pa 0 2 true, pa 2 1 false, pa 2 1 true,
   pa 1 2 false, pa 1 2 true, pa 3 1 false, pa 3 1 true, pa 2 2 false, pa 2 2 true, pa 3 2 false, pa 3 2 true,
   zr 0 false, zr 0 true, zr 1 false, zr 1 true, zr 2 false, zr 2 true]
theorem sOrder_perm : order.Perm sOrder := by decide +kernel

/-- Device `c` after everything is received, while it awaits its departures in the order of `l`. -/
def Fst (K : Dev nD × KI → ℕ) (c : Dev nD) (l : List X) (n : ℕ) : sProp 𝕄 :=
  iprop(records av bv K ∗ (∃ W, owes (c : Thread nD τ) 0 W)
    ∗ bigSepL (l.drop n) (flying c) ∗ bigSepL (l.take n) (fun x => iprop(sDone c x ∗ sendPay av bv x c)))

set_option maxRecDepth 8000 in
set_option maxHeartbeats 400000 in
/-- Waiting for the departure of transfer `x`. -/
theorem done_step (K : Dev nD × KI → ℕ) (c : Dev nD) (l : List X) (x : X) (n : ℕ) (hj : l[n]? = some x)
    {rs : DmaSem sig} (h₂ : rs = sS x) {src dst : Blk} (hN : dst.view.dmaCredit = N)
    {hsrc : src.view.WordExact} {hdst : dst.view.WordExact}
    {α : Type} {Q : α → sProp 𝕄} {kk : PUnit → Prog (TpuEff nD τ sig (Elt F) Λ₀ .tc) α} :
    Fst av bv K c l n
      ⊢ iprop((Fst av bv K c l (n + 1) -∗ runs c (kk ⟨⟩) Q)
          -∗ runs c (.op (.waitDma2 rs src dst hsrc hdst) kk) Q) := by
  subst h₂
  unfold Fst
  rw [drop_of_get hj, take_of_get hj, bigSepL_append, bigSepL_cons']
  iintro ⟨#HR, ⟨%W, HO⟩, ⟨Hc, Hco⟩, Hdn⟩ Hk
  unfold flying
  icases Hc with ⟨Hcr, Hat⟩
  iapply (Rounds.wp_wait_rest_token 𝒱₀ ER (rd av bv) (c : Thread nD τ) none (κ := K (c, some (x, false)))
      (wpE_waitDma2_eq 𝒱₀ (c : Thread nD τ) none Set.univ) (Set.mem_univ _) () (O := 0) (W := W) (R := 0) (m := 0) (T := ∅)
      (by rw [Nat.zero_add, hN, expect_s])) $$ [Hcr HO Hat]
  · isplitr; · iapply (records_inv av bv K (c, some (x, false))); iexact HR
    isplitl [Hcr]; · rw [hN]; iexact Hcr
    isplitl [HO]; · iexact HO
    isplitr; · rw [MayWait_zero]; iempintro
    iexact Hat
  iintro ⟨HO, Hat, -, Hpay⟩
  ihave Hp := (Entails.of_eq (rest_s av bv x c)) $$ Hpay
  imod (Rounds.cell_close ER (rd av bv) (Set.mem_univ (K (c, some (x, false)))) (fun h => h) (R := 0 + 1) (duties_later av bv (sCell x c))) $$ [Hat] with Hz
  · isplitr; · iapply (records_inv av bv K (c, some (x, false))); iexact HR
    iexact Hat
  iapply Hk
  isplitr; · iexact HR
  isplitl [HO]; · iexists _; iexact HO
  isplitl [Hco]; · iexact Hco
  isplitl [Hdn]; · iexact Hdn
  rw [bigSepL_singleton]
  unfold sDone
  isplitl [Hz] <;> iassumption

/-! ## Loads and stores -/

section Access

variable {S : Shape} {M : Memref sig .tc .vmem S .bf16} {c : Dev nD} {q : PosShare TreeShare}

/-- A load from anywhere of a buffer held whole. -/
theorem load_all {X : Vec F S .bf16} (r : Rect S) {hl : M.view.LoadsAt r.toLoadRect}
    {α : Type} {Q : α → sProp 𝕄} {kk : Vec F r.shape .bf16 → Prog (TpuEff nD τ sig (Elt F) Λ₀ .tc) α} :
    has c M q X ⊢ iprop((has c M q X -∗ runs c (kk fun j => X (r.emb j)) Q) -∗ runs c (.op (.load M r.toLoadRect hl) kk) Q) := by
  unfold has owns
  iintro ⟨%f, %hf, H⟩ Hk
  iapply (wp_load_rect 𝒱₀ (c : Thread nD τ) none Set.univ (m := M) (r := r) (S := M.view.set) (View.set_slice_subset _ _)) $$ H
  iintro H
  rw [show (M.access r).read (Elt F) f = fun j => X (r.emb j) from by rw [← hf]; rfl]
  iapply Hk
  iexists f; isplitr; · ipureintro; exact hf
  iexact H

/-- A load from a part of the rectangle that is held. -/
theorem load_sub {o₁ s₁ : Fin S.rank → ℕ} {i₁ : ∀ a, o₁ a + s₁ a ≤ S.size a} {h₁ : ∀ a, (Rect.unit o₁ s₁ i₁).stride a = 1}
    {o₂ s₂ : Fin S.rank → ℕ} {i₂ : ∀ a, o₂ a + s₂ a ≤ S.size a} {X : (⟨S.rank, s₁⟩ : Shape).Idx → Elt F .bf16}
    (o : Fin S.rank → ℕ) (io : ∀ a, o a + s₂ a ≤ (⟨S.rank, s₁⟩ : Shape).size a) (ho : o₂ = fun a => o₁ a + o a)
    {hl : M.view.LoadsAt (Rect.unit o₂ s₂ i₂).toLoadRect}
    {α : Type} {Q : α → sProp 𝕄} {kk : Vec F (Rect.unit (s := S) o₂ s₂ i₂).shape .bf16 → Prog (TpuEff nD τ sig (Elt F) Λ₀ .tc) α} :
    has c (M.slice (Rect.unit o₁ s₁ i₁) h₁) q X
      ⊢ iprop((has c (M.slice (Rect.unit o₁ s₁ i₁) h₁) q X -∗ runs c (kk fun j => X ((Rect.unit (s := ⟨S.rank, s₁⟩) o s₂ io).emb j)) Q)
        -∗ runs c (.op (.load M (Rect.unit o₂ s₂ i₂).toLoadRect hl) kk) Q) := by
  subst ho
  have he : ∀ j, (Rect.unit (s := S) o₁ s₁ i₁).emb ((Rect.unit (s := ⟨S.rank, s₁⟩) o s₂ io).emb j) = (Rect.unit (s := S) _ s₂ i₂).emb j := fun j =>
    funext fun a => Fin.ext (by
      show o₁ a + 1 * (o a + 1 * (j a).val) = o₁ a + o a + 1 * (j a).val
      omega)
  unfold has owns
  iintro ⟨%f, %hf, H⟩ Hk
  iapply (wp_load_rect 𝒱₀ (c : Thread nD τ) none Set.univ (m := M) (r := Rect.unit _ s₂ i₂) (S := (M.slice (Rect.unit o₁ s₁ i₁) h₁).view.set) (by
    have e₁ : (M.access (Rect.unit _ s₂ i₂)).set = (Rect.unit _ s₂ i₂).set.map M.view.emb := View.set_slice _ _
    have e₂ : (M.slice (Rect.unit o₁ s₁ i₁) h₁).view.set = (Rect.unit o₁ s₁ i₁).set.map M.view.emb := View.set_slice _ _
    rw [e₁, e₂]
    refine Finset.map_subset_map.mpr fun i hi => ?_
    rw [Rect.mem_set_unit] at hi ⊢
    intro a
    have h1 := hi a
    have h2 := io a
    change o a + s₂ a ≤ s₁ a at h2
    omega)) $$ H
  iintro H
  rw [show (M.access (Rect.unit _ s₂ i₂)).read (Elt F) f = fun j => X ((Rect.unit (s := ⟨S.rank, s₁⟩) o s₂ io).emb j) from by
    rw [← hf]; funext j
    show M.view.read (Elt F) f _ = M.view.read (Elt F) f _
    rw [he]]
  iapply Hk
  iexists f; isplitr; · ipureintro; exact hf
  iexact H

/-- A load of exactly what is held. -/
theorem load_eq {o₁ s₁ : Fin S.rank → ℕ} {i₁ : ∀ a, o₁ a + s₁ a ≤ S.size a} {h₁ : ∀ a, (Rect.unit o₁ s₁ i₁).stride a = 1}
    {o₂ : Fin S.rank → ℕ} {i₂ : ∀ a, o₂ a + s₁ a ≤ S.size a} {X : (⟨S.rank, s₁⟩ : Shape).Idx → Elt F .bf16} (ho : o₂ = o₁)
    {hl : M.view.LoadsAt (Rect.unit o₂ s₁ i₂).toLoadRect}
    {α : Type} {Q : α → sProp 𝕄} {kk : Vec F (Rect.unit (s := S) o₂ s₁ i₂).shape .bf16 → Prog (TpuEff nD τ sig (Elt F) Λ₀ .tc) α} :
    has c (M.slice (Rect.unit o₁ s₁ i₁) h₁) q X
      ⊢ iprop((has c (M.slice (Rect.unit o₁ s₁ i₁) h₁) q X -∗ runs c (kk X) Q)
        -∗ runs c (.op (.load M (Rect.unit o₂ s₁ i₂).toLoadRect hl) kk) Q) := by
  subst ho
  unfold has owns
  iintro ⟨%f, %hf, H⟩ Hk
  iapply (wp_load_rect 𝒱₀ (c : Thread nD τ) none Set.univ (m := M) (r := Rect.unit _ s₁ i₂) (S := (M.slice (Rect.unit _ s₁ i₁) h₁).view.set)
    (Finset.Subset.refl _)) $$ H
  iintro H
  rw [show (M.access (Rect.unit _ s₁ i₂)).read (Elt F) f = X from hf]
  iapply Hk
  iexists f; isplitr; · ipureintro; exact hf
  iexact H

/-- A store over exactly what is held. -/
theorem store_eq {o₁ s₁ : Fin S.rank → ℕ} {i₁ : ∀ a, o₁ a + s₁ a ≤ S.size a} {h₁ : ∀ a, (Rect.unit o₁ s₁ i₁).stride a = 1}
    {o₂ : Fin S.rank → ℕ} {i₂ : ∀ a, o₂ a + s₁ a ≤ S.size a} {X w : (⟨S.rank, s₁⟩ : Shape).Idx → Elt F .bf16} (ho : o₂ = o₁)
    {hx : (M.access (Rect.unit o₂ s₁ i₂)).Stores Finset.univ} {hm : (Finset.univ : Finset (Rect.unit o₂ s₁ i₂).shape.Idx) = Finset.univ ∨ ∀ a, (Rect.unit o₂ s₁ i₂).stride a = 1}
    {α : Type} {Q : α → sProp 𝕄} {kk : PUnit → Prog (TpuEff nD τ sig (Elt F) Λ₀ .tc) α} :
    has c (M.slice (Rect.unit o₁ s₁ i₁) h₁) fullShare X
      ⊢ iprop((has c (M.slice (Rect.unit o₁ s₁ i₁) h₁) fullShare w -∗ runs c (kk ⟨⟩) Q)
        -∗ runs c (.op (.store M (Rect.unit o₂ s₁ i₂) w Finset.univ hx hm) kk) Q) := by
  subst ho
  unfold has owns
  iintro ⟨%f, %hf, H⟩ Hk
  iapply (wp_store 𝒱₀ (c : Thread nD τ) none Set.univ (m := M) (r := Rect.unit _ s₁ i₂) (w := w) (Mk := Finset.univ) (S := (M.slice (Rect.unit _ s₁ i₁) h₁).view.set)
    (Finset.Subset.refl _)) $$ H
  iintro H
  iapply Hk
  iexists ((M.access (Rect.unit _ s₁ i₂)).write (Elt F) f w Finset.univ)
  isplitr
  · ipureintro
    exact View.read_write_univ _ _
  iexact H

end Access

end Cert.Mesh

end
-- ==== Proof.Places.lean ====
/-
# Where the program's addresses fall

The program computes every device number and every offset from its own number in 32-bit words. Here each of them is
identified with the place of the schedule it stands for.
-/
module

public import proofs.«01_k».proof.Proof.Vals

@[expose] public section

noncomputable section

namespace Cert.Mesh

open Cert.KernelIdeal Cert.KernelIdeal.Gen
open Idealize.SL Idealize.SL.RA Idealize.SL.BI
open Idealize.ShloMosaic Idealize.ShloMosaic.TcCoe

open X

/-! ## Offsets -/

section Offsets
variable (c : Dev nD)

theorem off1_eq : k0_off1 c = ![128 * (row (qx c) (px c)).val, 0] := by revert c; decide +kernel
theorem off2_eq : k0_off2 c = ![128 * (row (qx c) (px c)).val, 0] := by revert c; decide +kernel
theorem off7_eq (j : Fin 4) (hj : j ≠ 0) : k0_off7 c (BitVec.ofNat 32 j.val) = ![128 * (row (qx c) (px c + j)).val, 0] := by revert c j; decide +kernel
theorem off8_eq (j : Fin 4) (hj : j ≠ 0) : k0_off8 c (BitVec.ofNat 32 j.val) = ![128 * (row (qx c) (px c + j)).val, 0] := by revert c j; decide +kernel
theorem off10_eq (h : Fin 4) (hh : h.val % 2 = 1) : k0_off10 c (BitVec.ofNat 32 h.val) = ![512 * (qx c + h).val, 0] := by revert c h; decide +kernel
theorem off11_eq (h : Fin 4) (hh : h.val % 2 = 1) : k0_off11 c (BitVec.ofNat 32 h.val) = ![512 * (qx c + h).val, 0] := by revert c h; decide +kernel
theorem off18_eq : k0_off18 c = ![128 * (row (qx c + 2) (px c)).val, 0] := by revert c; decide +kernel
theorem off19_eq : k0_off19 c = ![128 * (row (qx c + 2) (px c)).val, 0] := by revert c; decide +kernel
theorem off24_eq (j : Fin 4) (hj : j ≠ 0) : k0_off24 c (BitVec.ofNat 32 j.val) = ![128 * (row (qx c + 2) (px c + j)).val, 0] := by revert c j; decide +kernel
theorem off25_eq (j : Fin 4) (hj : j ≠ 0) : k0_off25 c (BitVec.ofNat 32 j.val) = ![128 * (row (qx c + 2) (px c + j)).val, 0] := by revert c j; decide +kernel

theorem off4_eq (j : Fin 4) (hj : j ≠ 3) : k0_off4 c (BitVec.ofNat 32 j.val) = ![128 * (row (quarter false 0 c) (slab false j c)).val, 0] := by revert c j; decide +kernel
theorem off9_eq : k0_off9 c = ![128 * (row (quarter false 0 c) (slab false 3 c)).val, 0] := by revert c; decide +kernel
theorem off6_eq (j : Fin 4) : k0_off6 c (BitVec.ofNat 32 j.val) = ![128 * (row (quarter true 0 c) (slab true j c)).val, 1024] := by revert c j; decide +kernel

theorem off3_eq (j : Fin 4) (hj : j ≠ 3) : k0_off3 c (BitVec.ofNat 32 j.val) = ![0, 128 * (slab false j c).val, 0] := by revert c j; decide +kernel
theorem off5_eq (j : Fin 4) : k0_off5 c (BitVec.ofNat 32 j.val) = ![0, 128 * (slab true j c).val, 0] := by revert c j; decide +kernel
theorem off14_eq (j : Fin 4) (hj : j ≠ 3) : k0_off14 c (BitVec.ofNat 32 j.val) = ![1, 128 * (slab false j c).val, 0] := by revert c j; decide +kernel
theorem off17_eq (j : Fin 4) : k0_off17 c (BitVec.ofNat 32 j.val) = ![1, 128 * (slab true j c).val, 0] := by revert c j; decide +kernel
theorem off21_eq (j : Fin 4) (hj : j ≠ 3) : k0_off21 c (BitVec.ofNat 32 j.val) = ![2, 128 * (slab false j c).val, 0] := by revert c j; decide +kernel
theorem off23_eq (j : Fin 4) : k0_off23 c (BitVec.ofNat 32 j.val) = ![2, 128 * (slab true j c).val, 0] := by revert c j; decide +kernel
theorem off12_eq (j : Fin 4) (hj : j ≠ 3) : k0_off12 c (BitVec.ofNat 32 j.val) = ![0, 128 * (slab false j c).val, 0] := by revert c j; decide +kernel
theorem off15_eq (j : Fin 4) : k0_off15 c (BitVec.ofNat 32 j.val) = ![0, 128 * (slab true j c).val, 0] := by revert c j; decide +kernel
theorem off20_eq (j : Fin 4) (hj : j ≠ 3) : k0_off20 c (BitVec.ofNat 32 j.val) = ![1, 128 * (slab false j c).val, 0] := by revert c j; decide +kernel
theorem off22_eq (j : Fin 4) : k0_off22 c (BitVec.ofNat 32 j.val) = ![1, 128 * (slab true j c).val, 0] := by revert c j; decide +kernel
theorem off27_eq (j : Fin 4) (hj : j ≠ 3) : k0_off27 c (BitVec.ofNat 32 j.val) = ![2, 128 * (slab false j c).val, 0] := by revert c j; decide +kernel
theorem off29_eq (j : Fin 4) : k0_off29 c (BitVec.ofNat 32 j.val) = ![2, 128 * (slab true j c).val, 0] := by revert c j; decide +kernel
/-- The fourth slab to the right is the first to the left. -/
theorem slab_three : slab true 1 c = slab false 3 c := by revert c; decide +kernel
theorem three {o : Fin 3 → ℕ} {n : ℕ} (e : o = ![n, 128 * (slab true 1 c).val, 0]) : o = ![n, 128 * (slab false 3 c).val, 0] := by
  rw [e, slab_three]

theorem off13_eq (h : Fin 4) (j : Fin 4) (hh : h ≠ 3) (hj : j ≠ 3) : k0_off13 c (BitVec.ofNat 32 h.val) (BitVec.ofNat 32 j.val) = ![128 * (row (quarter false h c) (slab false j c)).val, 0] := by revert c h j; decide +kernel
theorem off26_eq (h : Fin 4) (hh : h ≠ 3) : k0_off26 c (BitVec.ofNat 32 h.val) = ![128 * (row (quarter false h c) (slab false 3 c)).val, 0] := by revert c h; decide +kernel
theorem off28_eq (j : Fin 4) (hj : j ≠ 3) : k0_off28 c (BitVec.ofNat 32 j.val) = ![128 * (row (quarter false 3 c) (slab false j c)).val, 0] := by revert c j; decide +kernel
theorem off16_eq (h : Fin 4) (j : Fin 4) : k0_off16 c (BitVec.ofNat 32 h.val) (BitVec.ofNat 32 j.val) = ![128 * (row (quarter true h c) (slab true j c)).val, 1024] := by revert c h j; decide +kernel
theorem off30_eq : k0_off30 c = ![128 * (row (quarter false 3 c) (slab false 3 c)).val, 0] := by revert c; decide +kernel

theorem off31_eq (s : Fin 3) : k0_off31 c (BitVec.ofNat 32 s.val) = ![128 * (oRow false (blk (za s false) c)).val, 0] := by revert c s; decide +kernel
theorem off33_eq (s : Fin 3) : k0_off33 c (BitVec.ofNat 32 s.val) = ![128 * (oRow true (blk (za s true) c)).val, 1024] := by revert c s; decide +kernel
theorem off32_eq (h : Fin 3) (r : Fin 4) (hr : r ≠ 3) : k0_off32 c (BitVec.ofNat 32 h.val) (BitVec.ofNat 32 r.val) = ![128 * (oRow false (blk (pg r h false) c)).val, 0] := by revert c h r; decide +kernel
theorem off34_eq (h : Fin 3) (r : Fin 4) (hr : r ≠ 3) : k0_off34 c (BitVec.ofNat 32 h.val) (BitVec.ofNat 32 r.val) = ![128 * (oRow true (blk (pg r h true) c)).val, 1024] := by revert c h r; decide +kernel
theorem off35_eq (i : Fin 3) : k0_off35 c = ![128 * (oRow false (blk (pg 3 i false) c)).val, 0] := by revert c i; decide +kernel
theorem off36_eq (i : Fin 3) : k0_off36 c = ![128 * (oRow true (blk (pg 3 i true) c)).val, 1024] := by revert c i; decide +kernel

end Offsets

/-! ## Pieces at computed offsets -/

theorem accB_at {r : Fin 16} {d : Bool} {o : Fin 2 → ℕ} {i : ∀ a, o a + S128x1024.size a ≤ S2048x2048.size a}
    {h : ∀ a, (Rect.unit (s := S2048x2048) o S128x1024.size i).stride a = 1} (ho : o = ![128 * r.val, 1024 * d.toNat]) :
    accM.slice (Rect.unit (s := S2048x2048) o S128x1024.size i) h = accB r d := Memref.slice_unit_congr _ ho _ _ _ _
theorem outB_at {r : Fin 16} {d : Bool} {o : Fin 2 → ℕ} {i : ∀ a, o a + S128x1024.size a ≤ S2048x2048.size a}
    {h : ∀ a, (Rect.unit (s := S2048x2048) o S128x1024.size i).stride a = 1} (ho : o = ![128 * r.val, 1024 * d.toNat]) :
    outM.slice (Rect.unit (s := S2048x2048) o S128x1024.size i) h = outB r d := Memref.slice_unit_congr _ ho _ _ _ _
theorem pbB_at {d : Bool} {h t : Fin 4} {o : Fin 3 → ℕ} {i : ∀ a, o a + S1x128x1024.size a ≤ S4x512x1024.size a}
    {hs : ∀ a, (Rect.unit (s := S4x512x1024) o S1x128x1024.size i).stride a = 1} (ho : o = ![h.val, 128 * t.val, 0]) :
    ((pb d).slice (Rect.unit (s := S4x512x1024) o S1x128x1024.size i) hs).squeeze S128x1024 squeezes_S1x128x1024_S128x1024 = pbB d h t :=
  congrArg (fun m : Memref sig .tc .vmem S1x128x1024 .bf16 => m.squeeze S128x1024 squeezes_S1x128x1024_S128x1024) (Memref.slice_unit_congr _ ho _ _ _ _)

/-- A computed device number. -/
theorem dv (f : Dev nD → ℕ) (x : X) (h : ∀ c, f c = (tgt x c).val) (c : Dev nD) {hlt : f c < nD} : (⟨f c, hlt⟩ : Dev nD) = tgt x c := Fin.ext (h c)

end Cert.Mesh

end
-- ==== Proof.Split.lean ====
/-
# Buffers in pieces

A buffer held whole, or a piece of it, is its parts held one by one, and back. The blocks of the row and column buffers are
planes with an axis of length one dropped; holding the plane and holding the block are the same.
-/
module

public import proofs.«01_k».proof.Proof.Steps
public import proofs.«01_k».proof.Proof.Places

@[expose] public section

noncomputable section

namespace Cert.Mesh

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.TcCoe

open X

variable {F : FTy → Type} [FloatOps F]

local notation "𝕄" => MT nD τ sig Unit (Elt F) ℕ UU ℕ

/-- There is a value of every element type. -/
instance elt_nonempty (e : EltTy) : Nonempty (Elt F e) := by
  cases e
  case fp8e4m3 => exact ⟨FloatOps.ofBits .fp8e4m3 0⟩
  case fp8e5m2 => exact ⟨FloatOps.ofBits .fp8e5m2 0⟩
  case bf16 => exact ⟨FloatOps.ofBits .bf16 0⟩
  case f16 => exact ⟨FloatOps.ofBits .f16 0⟩
  case f32 => exact ⟨FloatOps.ofBits .f32 0⟩
  all_goals exact ⟨(0 : BitVec _)⟩

/-! ## Dropping an axis -/

section Squeeze
variable {c : Dev nD} {M : Memref sig .tc .vmem S1x128x1024 .bf16} {q : PosShare TreeShare}

omit [FloatOps F] in
theorem up_down (x : Vec F S1x128x1024 .bf16) : up (down x) = x := by
  funext j
  show x (Shape.reshapeEquiv _ (Shape.reshapeEquiv _ j)) = x j
  congr 1
  rw [Shape.reshapeEquiv_reshapeEquiv, Shape.reshapeEquiv_self]

omit [FloatOps F] in
theorem has_up (x : BV F) : has c (M.squeeze S128x1024 squeezes_S1x128x1024_S128x1024) q x ⊢ has c M q (up x) := by
  unfold has owns
  iintro ⟨%f, %hf, H⟩
  iexists f
  isplitr
  · ipureintro
    funext j
    have h := congrFun hf (Shape.reshapeEquiv shapeCasts_S128x1024_S1x128x1024 j)
    show M.view.read (Elt F) f j = x _
    rw [← h]
    show M.view.read (Elt F) f j = M.view.read (Elt F) f (Shape.reshapeEquiv _ (Shape.reshapeEquiv _ j))
    rw [Shape.reshapeEquiv_reshapeEquiv, Shape.reshapeEquiv_self]
  rw [show (M.squeeze S128x1024 squeezes_S1x128x1024_S128x1024).view.set = M.view.set from View.set_reshape _ _]
  iexact H

omit [FloatOps F] in
theorem has_down (y : Vec F S1x128x1024 .bf16) : has c M q y ⊢ has c (M.squeeze S128x1024 squeezes_S1x128x1024_S128x1024) q (down y) := by
  unfold has owns
  iintro ⟨%f, %hf, H⟩
  iexists f
  isplitr
  · ipureintro
    rw [← hf]; rfl
  rw [show (M.squeeze S128x1024 squeezes_S1x128x1024_S128x1024).view.set = M.view.set from View.set_reshape _ _]
  iexact H
end Squeeze

/-! ## A piece of a piece -/

section Nest
variable {S : Shape} {M : Memref sig .tc .vmem S .bf16} {c : Dev nD} {q : PosShare TreeShare}

omit [FloatOps F] in
theorem has_nest {o₁ s₁ o s₂ o₂ : Fin S.rank → ℕ} {i₁ : ∀ a, o₁ a + s₁ a ≤ S.size a} {h₁ : ∀ a, (Rect.unit o₁ s₁ i₁).stride a = 1}
    {i : ∀ a, o a + s₂ a ≤ (⟨S.rank, s₁⟩ : Shape).size a} {h : ∀ a, (Rect.unit (s := ⟨S.rank, s₁⟩) o s₂ i).stride a = 1}
    {i₂ : ∀ a, o₂ a + s₂ a ≤ S.size a} {h₂ : ∀ a, (Rect.unit o₂ s₂ i₂).stride a = 1} (ho : ∀ a, o₂ a = o₁ a + o a)
    (X : (⟨S.rank, s₂⟩ : Shape).Idx → Elt F .bf16) :
    (has c ((M.slice (Rect.unit o₁ s₁ i₁) h₁).slice (Rect.unit (s := ⟨S.rank, s₁⟩) o s₂ i) h) q X : sProp 𝕄)
      = has c (M.slice (Rect.unit o₂ s₂ i₂) h₂) q X := by
  have he : ∀ j, (Rect.unit (s := S) o₁ s₁ i₁).emb ((Rect.unit (s := ⟨S.rank, s₁⟩) o s₂ i).emb j) = (Rect.unit (s := S) o₂ s₂ i₂).emb j := fun j =>
    funext fun a => Fin.ext (by
      show o₁ a + 1 * (o a + 1 * (j a).val) = o₂ a + 1 * (j a).val
      rw [ho]; omega)
  have hs : ((M.slice (Rect.unit o₁ s₁ i₁) h₁).slice (Rect.unit (s := ⟨S.rank, s₁⟩) o s₂ i) h).view.set = (M.slice (Rect.unit o₂ s₂ i₂) h₂).view.set := by
    show Finset.univ.map _ = Finset.univ.map _
    congr 1
    refine Function.Embedding.ext fun j => ?_
    show M.view.emb _ = M.view.emb _
    rw [he]
  unfold has owns
  rw [hs]
  congr 1
  funext f
  congr 2
  refine propext (Iff.of_eq (congrArg (· = X) ?_))
  funext j
  show M.view.read (Elt F) f _ = M.view.read (Elt F) f _
  rw [he]
end Nest

/-! ## Families -/

section Families
variable {S : Shape} {M : Memref sig .tc .vmem S .bf16} {c : Dev nD} {q : PosShare TreeShare}

/-- The place, with anything in it. -/
def any {s : Shape} (c : Dev nD) (m : Memref sig .tc .vmem s .bf16) : sProp 𝕄 := iprop(∃ Y : Vec F s .bf16, has c m fullShare Y)

omit [FloatOps F] in
theorem any_intro {s : Shape} (c : Dev nD) (m : Memref sig .tc .vmem s .bf16) (Y : Vec F s .bf16) : has c m fullShare Y ⊢ (any c m : sProp 𝕄) := by
  unfold any; iintro H; iexists Y; iexact H

variable {T : Type} [Fintype T] [DecidableEq T] (r : T → Rect S) (hr : ∀ t a, (r t).stride a = 1)
  (hd : ∀ t t', t ≠ t' → Disjoint (r t).set (r t').set)
  (hcov : (Finset.univ : Finset T).biUnion (fun t => (r t).set) = Finset.univ)
include hd hcov

omit [DecidableEq T] [FloatOps F] in
theorem any_split : (any c M : sProp 𝕄) ⊢ bigSep Finset.univ fun t => any c (M.slice (r t) (hr t)) := by
  unfold any has
  iintro ⟨%X, H⟩
  ihave H := (owns_rects (c : Thread nD τ) M fullShare r hr hd hcov X) $$ H
  iapply (show bigSep Finset.univ (fun t => owns (c : Thread nD τ) (M.slice (r t) (hr t)) fullShare (fun j => X ((r t).emb j)))
    ⊢ (bigSep Finset.univ fun t => iprop(∃ Y, owns (c : Thread nD τ) (M.slice (r t) (hr t)) fullShare Y) : sProp 𝕄) from
    bigSep_mono fun t _ => any_intro c (M.slice (r t) (hr t)) _)
  iexact H

theorem glue (fs : ∀ t, (r t).shape.Idx → Elt F .bf16) : ∃ X : S.Idx → Elt F .bf16, ∀ t, (fun j => X ((r t).emb j)) = fs t := by
  have hin : ∀ t (j : (r t).shape.Idx), (r t).emb j ∈ (r t).set := fun t j => by
    rw [← Rect.map_emb_univ (r t)]; exact Finset.mem_map_of_mem _ (Finset.mem_univ _)
  have hmem : ∀ i : S.Idx, ∃ t, ∃ j, (r t).emb j = i := fun i => by
    obtain ⟨t, -, ht⟩ := Finset.mem_biUnion.mp (hcov.symm ▸ Finset.mem_univ i : i ∈ (Finset.univ : Finset T).biUnion fun t => (r t).set)
    rw [← Rect.map_emb_univ, Finset.mem_map] at ht
    obtain ⟨j, -, hj⟩ := ht
    exact ⟨t, j, hj⟩
  refine ⟨fun i => fs (hmem i).choose (hmem i).choose_spec.choose, fun t => funext fun j => ?_⟩
  have key : ∀ (t' : T) (j' : (r t').shape.Idx), (r t').emb j' = (r t).emb j → fs t' j' = fs t j := fun t' j' h => by
    have ht : t' = t := by
      by_contra hn
      have h1 : (r t).emb j ∈ (r t').set := by rw [← h]; exact hin t' j'
      exact Finset.disjoint_left.mp (hd t' t hn) h1 (hin t j)
    subst ht
    rw [(r t').emb.injective h]
  exact key _ _ (hmem ((r t).emb j)).choose_spec.choose_spec

theorem any_join : (bigSep Finset.univ fun t => any c (M.slice (r t) (hr t))) ⊢ (any c M : sProp 𝕄) := by
  unfold any has
  haveI : ∀ t, Nonempty ((r t).shape.Idx → Elt F .bf16) := fun t => ⟨fun _ => (elt_nonempty (F := F) .bf16).some⟩
  refine (bigSep_exists_pi Finset.univ (fun t (Y : (r t).shape.Idx → Elt F .bf16) => owns (c : Thread nD τ) (M.slice (r t) (hr t)) fullShare Y)).trans ?_
  iintro ⟨%fs, H⟩
  obtain ⟨X, hX⟩ := glue r hd hcov fs
  iexists X
  iapply (owns_of_rects (c : Thread nD τ) M fullShare r hr hd hcov X)
  rw [show (fun t => (owns (c : Thread nD τ) (M.slice (r t) (hr t)) fullShare (fun j => X ((r t).emb j)) : sProp 𝕄))
    = fun t => owns (c : Thread nD τ) (M.slice (r t) (hr t)) fullShare (fs t) from funext fun t => by rw [hX]]
  iexact H
end Families

/-! ## The buffers -/

theorem quart_disj (a a' : Fin 4) (h : a ≠ a') : Disjoint (rQuart a).set (rQuart a').set :=
  Finset.disjoint_left.mpr fun i h1 h2 => h (Fin.ext (by
    have h1 := Rect.mem_set_unit.mp h1 0; have h2 := Rect.mem_set_unit.mp h2 0
    change 512 * a.val ≤ (i 0).val ∧ (i 0).val < 512 * a.val + 512 at h1
    change 512 * a'.val ≤ (i 0).val ∧ (i 0).val < 512 * a'.val + 512 at h2
    omega))
theorem quart_cov : (Finset.univ : Finset (Fin 4)).biUnion (fun a => (rQuart a).set) = Finset.univ :=
  Finset.eq_univ_iff_forall.mpr fun i => by
    have h0 : (i 0).val < 2048 := (i 0).isLt
    have h1 : (i 1).val < 2048 := (i 1).isLt
    refine Finset.mem_biUnion.mpr ⟨⟨(i 0).val / 512, by omega⟩, Finset.mem_univ _, Rect.mem_set_unit.mpr fun a => ?_⟩
    match a with
    | ⟨0, _⟩ => show 512 * ((i 0).val / 512) ≤ (i 0).val ∧ (i 0).val < 512 * ((i 0).val / 512) + 512; omega
    | ⟨1, _⟩ => show 0 ≤ (i 1).val ∧ (i 1).val < 0 + 2048; omega

theorem slabOf_disj (a a' : Fin 4) (h : a ≠ a') : Disjoint (rSlabOf a).set (rSlabOf a').set :=
  Finset.disjoint_left.mpr fun i h1 h2 => h (Fin.ext (by
    have h1 := Rect.mem_set_unit.mp h1 0; have h2 := Rect.mem_set_unit.mp h2 0
    change 128 * a.val ≤ (i 0).val ∧ (i 0).val < 128 * a.val + 128 at h1
    change 128 * a'.val ≤ (i 0).val ∧ (i 0).val < 128 * a'.val + 128 at h2
    omega))
theorem slabOf_cov : (Finset.univ : Finset (Fin 4)).biUnion (fun a => (rSlabOf a).set) = Finset.univ :=
  Finset.eq_univ_iff_forall.mpr fun i => by
    have h0 : (i 0).val < 512 := (i 0).isLt
    have h1 : (i 1).val < 2048 := (i 1).isLt
    refine Finset.mem_biUnion.mpr ⟨⟨(i 0).val / 128, by omega⟩, Finset.mem_univ _, Rect.mem_set_unit.mpr fun a => ?_⟩
    match a with
    | ⟨0, _⟩ => show 128 * ((i 0).val / 128) ≤ (i 0).val ∧ (i 0).val < 128 * ((i 0).val / 128) + 128; omega
    | ⟨1, _⟩ => show 0 ≤ (i 1).val ∧ (i 1).val < 0 + 2048; omega

theorem half_disj (d d' : Bool) (h : d ≠ d') : Disjoint (rHalf d).set (rHalf d').set :=
  Finset.disjoint_left.mpr fun i h1 h2 => by
    have h1 := Rect.mem_set_unit.mp h1 1; have h2 := Rect.mem_set_unit.mp h2 1
    change 1024 * d.toNat ≤ (i 1).val ∧ (i 1).val < 1024 * d.toNat + 1024 at h1
    change 1024 * d'.toNat ≤ (i 1).val ∧ (i 1).val < 1024 * d'.toNat + 1024 at h2
    cases d <;> cases d' <;> simp_all <;> omega
theorem half_cov : (Finset.univ : Finset Bool).biUnion (fun d => (rHalf d).set) = Finset.univ :=
  Finset.eq_univ_iff_forall.mpr fun i => by
    have h0 : (i 0).val < 128 := (i 0).isLt
    have h1 : (i 1).val < 2048 := (i 1).isLt
    have hd : 1024 * (decide (1024 ≤ (i 1).val)).toNat ≤ (i 1).val ∧ (i 1).val < 1024 * (decide (1024 ≤ (i 1).val)).toNat + 1024 := by
      by_cases h : 1024 ≤ (i 1).val <;> simp [h] <;> omega
    refine Finset.mem_biUnion.mpr ⟨decide (1024 ≤ (i 1).val), Finset.mem_univ _, Rect.mem_set_unit.mpr fun a => ?_⟩
    match a with
    | ⟨0, _⟩ => show 0 ≤ (i 0).val ∧ (i 0).val < 0 + 128; omega
    | ⟨1, _⟩ => exact hd

theorem block_disj (t t' : Fin 16 × Bool) (h : t ≠ t') : Disjoint (rBlock t.1 t.2).set (rBlock t'.1 t'.2).set :=
  Finset.disjoint_left.mpr fun i h1 h2 => by
    obtain ⟨r, d⟩ := t
    obtain ⟨r', d'⟩ := t'
    have h1' := Rect.mem_set_unit.mp h1 1; have h2' := Rect.mem_set_unit.mp h2 1
    have h1 := Rect.mem_set_unit.mp h1 0; have h2 := Rect.mem_set_unit.mp h2 0
    change 1024 * d.toNat ≤ (i 1).val ∧ (i 1).val < 1024 * d.toNat + 1024 at h1'
    change 1024 * d'.toNat ≤ (i 1).val ∧ (i 1).val < 1024 * d'.toNat + 1024 at h2'
    change 128 * r.val ≤ (i 0).val ∧ (i 0).val < 128 * r.val + 128 at h1
    change 128 * r'.val ≤ (i 0).val ∧ (i 0).val < 128 * r'.val + 128 at h2
    have hr : r = r' := Fin.ext (by omega)
    have hd : d = d' := by cases d <;> cases d' <;> simp_all <;> omega
    exact h (by rw [hr, hd])
theorem block_cov : (Finset.univ : Finset (Fin 16 × Bool)).biUnion (fun t => (rBlock t.1 t.2).set) = Finset.univ :=
  Finset.eq_univ_iff_forall.mpr fun i => by
    have h0 : (i 0).val < 2048 := (i 0).isLt
    have h1 : (i 1).val < 2048 := (i 1).isLt
    have hd : 1024 * (decide (1024 ≤ (i 1).val)).toNat ≤ (i 1).val ∧ (i 1).val < 1024 * (decide (1024 ≤ (i 1).val)).toNat + 1024 := by
      by_cases h : 1024 ≤ (i 1).val <;> simp [h] <;> omega
    refine Finset.mem_biUnion.mpr ⟨(⟨(i 0).val / 128, by omega⟩, decide (1024 ≤ (i 1).val)), Finset.mem_univ _, Rect.mem_set_unit.mpr fun a => ?_⟩
    match a with
    | ⟨0, _⟩ => show 128 * ((i 0).val / 128) ≤ (i 0).val ∧ (i 0).val < 128 * ((i 0).val / 128) + 128; omega
    | ⟨1, _⟩ => exact hd

theorem plane_disj (t t' : Fin 4 × Fin 4) (h : t ≠ t') : Disjoint (rPlane t.1 t.2).set (rPlane t'.1 t'.2).set :=
  Finset.disjoint_left.mpr fun i h1 h2 => by
    obtain ⟨r, d⟩ := t
    obtain ⟨r', d'⟩ := t'
    have h1' := Rect.mem_set_unit.mp h1 1; have h2' := Rect.mem_set_unit.mp h2 1
    have h1 := Rect.mem_set_unit.mp h1 0; have h2 := Rect.mem_set_unit.mp h2 0
    change 128 * d.val ≤ (i 1).val ∧ (i 1).val < 128 * d.val + 128 at h1'
    change 128 * d'.val ≤ (i 1).val ∧ (i 1).val < 128 * d'.val + 128 at h2'
    change r.val ≤ (i 0).val ∧ (i 0).val < r.val + 1 at h1
    change r'.val ≤ (i 0).val ∧ (i 0).val < r'.val + 1 at h2
    have hr : r = r' := Fin.ext (by omega)
    have hd : d = d' := Fin.ext (by omega)
    exact h (by rw [hr, hd])
theorem plane_cov : (Finset.univ : Finset (Fin 4 × Fin 4)).biUnion (fun t => (rPlane t.1 t.2).set) = Finset.univ :=
  Finset.eq_univ_iff_forall.mpr fun i => by
    have h0 : (i 0).val < 4 := (i 0).isLt
    have h1 : (i 1).val < 512 := (i 1).isLt
    have h2 : (i 2).val < 1024 := (i 2).isLt
    refine Finset.mem_biUnion.mpr ⟨(⟨(i 0).val, h0⟩, ⟨(i 1).val / 128, by omega⟩), Finset.mem_univ _, Rect.mem_set_unit.mpr fun a => ?_⟩
    match a with
    | ⟨0, _⟩ => show (i 0).val ≤ (i 0).val ∧ (i 0).val < (i 0).val + 1; omega
    | ⟨1, _⟩ => show 128 * ((i 1).val / 128) ≤ (i 1).val ∧ (i 1).val < 128 * ((i 1).val / 128) + 128; omega
    | ⟨2, _⟩ => show 0 ≤ (i 2).val ∧ (i 2).val < 0 + 1024; omega

theorem slot_disj (a a' : Fin 4) (h : a ≠ a') : Disjoint (rSlot a).set (rSlot a').set :=
  Finset.disjoint_left.mpr fun i h1 h2 => h (Fin.ext (by
    have h1 := Rect.mem_set_unit.mp h1 0; have h2 := Rect.mem_set_unit.mp h2 0
    change a.val ≤ (i 0).val ∧ (i 0).val < a.val + 1 at h1
    change a'.val ≤ (i 0).val ∧ (i 0).val < a'.val + 1 at h2
    omega))
theorem slot_cov : (Finset.univ : Finset (Fin 4)).biUnion (fun a => (rSlot a).set) = Finset.univ :=
  Finset.eq_univ_iff_forall.mpr fun i => by
    have h0 : (i 0).val < 4 := (i 0).isLt
    have h1 : (i 1).val < 128 := (i 1).isLt
    have h2 : (i 2).val < 1024 := (i 2).isLt
    refine Finset.mem_biUnion.mpr ⟨⟨(i 0).val, h0⟩, Finset.mem_univ _, Rect.mem_set_unit.mpr fun a => ?_⟩
    match a with
    | ⟨0, _⟩ => show (i 0).val ≤ (i 0).val ∧ (i 0).val < (i 0).val + 1; omega
    | ⟨1, _⟩ => show 0 ≤ (i 1).val ∧ (i 1).val < 0 + 128; omega
    | ⟨2, _⟩ => show 0 ≤ (i 2).val ∧ (i 2).val < 0 + 1024; omega

end Cert.Mesh

end
-- ==== Proof.Ops.lean ====
/-
# The kernel's compound steps

The kernel repeats a handful of patterns: a slab or a quarter of the local product is computed and stored; a partial sum
arrives, is added to and is sent on, along the row or along the column. Each pattern is one lemma here.
-/
module

public import proofs.«01_k».proof.Proof.Split

@[expose] public section

noncomputable section

namespace Cert.Mesh

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.TcCoe

open X

variable {F : FTy → Type} [FloatOps F]

local notation "𝕄" => MT nD τ sig Unit (Elt F) ℕ UU ℕ

variable (av : Dev nD → Vec F S2048x1024 .bf16) (bv : Dev nD → Vec F S1024x2048 .bf16)

/-! ## The local product -/

/-- The staged operands. -/
def opA (c : Dev nD) : sProp 𝕄 := has c aM fullShare (av c)
def opB (c : Dev nD) : sProp 𝕄 := has c bM fullShare (bv c)
/-- A slab, and a quarter, of the local product. -/
def slabR (c : Dev nD) (r : Fin 16) : sProp 𝕄 := has c (accS r) fullShare (slabV av bv c r)
def quartR (c : Dev nD) (a : Fin 4) : sProp 𝕄 := has c (accQ a) fullShare (quartV av bv c a)

omit [FloatOps F] in
theorem emb_zero (X : Vec F S1024x2048 .bf16) (i : ∀ a, (![0, 0] : Fin 2 → ℕ) a + S1024x2048.size a ≤ S1024x2048.size a) :
    (fun j => X ((Rect.unit (s := S1024x2048) ![0, 0] S1024x2048.size i).emb j)) = X := by
  funext j
  congr 1
  funext a
  refine Fin.ext ?_
  match a with
  | ⟨0, _⟩ => show 0 + 1 * (j 0).val = (j 0).val; omega
  | ⟨1, _⟩ => show 0 + 1 * (j 1).val = (j 1).val; omega

set_option maxRecDepth 8000 in
/-- Computing and storing a slab of 128 rows. -/
theorem slab_step (c : Dev nD) (r : Fin 16) {o₁ o₂ : Fin 2 → ℕ} (h₁ : o₁ = ![128 * r.val, 0]) (h₂ : o₂ = ![128 * r.val, 0])
    {i₁ i₂ i₃} {l₁ l₂ l₃ hx hm} (pay : Vec F S128x1024 .bf16 → Vec F S1024x2048 .bf16 → Vec F S128x2048 .bf16) (hp : pay = k0_pay4)
    {α : Type} {Q : α → sProp 𝕄} {kk : PUnit → Prog (TpuEff nD τ sig (Elt F) Λ₀ .tc) α} :
    iprop(opA av c ∗ opB bv c ∗ any c (accS r))
      ⊢ iprop((iprop(opA av c ∗ opB bv c ∗ slabR av bv c r) -∗ runs c (kk ⟨⟩) Q)
        -∗ runs c (.op (.load aM (Rect.unit (s := S2048x1024) o₁ S128x1024.size i₁).toLoadRect l₁) fun v =>
            .op (.load bM (Rect.unit (s := S1024x2048) ![0, 0] S1024x2048.size i₂).toLoadRect l₂) fun w =>
            .op (.load accM (Rect.unit (s := S2048x2048) o₂ S128x2048.size i₃).toLoadRect l₃) fun _ =>
            .op (.store accM (Rect.unit (s := S2048x2048) o₂ S128x2048.size i₃) (pay v w) Finset.univ hx hm) kk) Q) := by
  subst h₁ h₂ hp
  unfold opA opB any slabR
  iintro ⟨HA, HB, ⟨%Y, HS⟩⟩ Hk
  iapply (load_all (c := c) (Rect.unit (s := S2048x1024) _ S128x1024.size i₁)) $$ HA
  iintro HA
  iapply (load_all (c := c) (Rect.unit (s := S1024x2048) ![0, 0] S1024x2048.size i₂)) $$ HB
  iintro HB
  iapply (load_eq (c := c) rfl) $$ HS
  iintro HS
  iapply (store_eq (c := c) rfl) $$ HS
  iintro HS
  rw [emb_zero]
  iapply Hk
  isplitl [HA]; · iexact HA
  isplitl [HB]; · iexact HB
  iexact HS

set_option maxRecDepth 8000 in
/-- Computing and storing a quarter of 512 rows. -/
theorem quart_step (c : Dev nD) (r : Fin 4) {o₁ o₂ : Fin 2 → ℕ} (h₁ : o₁ = ![512 * r.val, 0]) (h₂ : o₂ = ![512 * r.val, 0])
    {i₁ i₂ i₃} {l₁ l₂ l₃ hx hm} (pay : Vec F S512x1024 .bf16 → Vec F S1024x2048 .bf16 → Vec F S512x2048 .bf16) (hp : pay = k0_pay9)
    {α : Type} {Q : α → sProp 𝕄} {kk : PUnit → Prog (TpuEff nD τ sig (Elt F) Λ₀ .tc) α} :
    iprop(opA av c ∗ opB bv c ∗ any c (accQ r))
      ⊢ iprop((iprop(opA av c ∗ opB bv c ∗ quartR av bv c r) -∗ runs c (kk ⟨⟩) Q)
        -∗ runs c (.op (.load aM (Rect.unit (s := S2048x1024) o₁ S512x1024.size i₁).toLoadRect l₁) fun v =>
            .op (.load bM (Rect.unit (s := S1024x2048) ![0, 0] S1024x2048.size i₂).toLoadRect l₂) fun w =>
            .op (.load accM (Rect.unit (s := S2048x2048) o₂ S512x2048.size i₃).toLoadRect l₃) fun _ =>
            .op (.store accM (Rect.unit (s := S2048x2048) o₂ S512x2048.size i₃) (pay v w) Finset.univ hx hm) kk) Q) := by
  subst h₁ h₂ hp
  unfold opA opB any quartR
  iintro ⟨HA, HB, ⟨%Y, HS⟩⟩ Hk
  iapply (load_all (c := c) (Rect.unit (s := S2048x1024) _ S512x1024.size i₁)) $$ HA
  iintro HA
  iapply (load_all (c := c) (Rect.unit (s := S1024x2048) ![0, 0] S1024x2048.size i₂)) $$ HB
  iintro HB
  iapply (load_eq (c := c) rfl) $$ HS
  iintro HS
  iapply (store_eq (c := c) rfl) $$ HS
  iintro HS
  rw [emb_zero]
  iapply Hk
  isplitl [HA]; · iexact HA
  isplitl [HB]; · iexact HB
  iexact HS

/-- A slab of the device's own quarter is what two first-hop transfers carry. -/
theorem slab_sends (c : Dev nD) (t j j' : Fin 4) (hj : slab false j c = t) (hj' : slab true j' c = t) :
    slabR av bv c (row (qx c) t) ⊢ iprop(sendPay av bv (pa j 0 false) c ∗ sendPay av bv (pa j' 0 true) c) := by
  have hq : ∀ d c, quarter d 0 c = qx c := by decide +kernel
  have key : ∀ (d : Bool) (j : Fin 4), slab d j c = t → sendPay av bv (pa j 0 d) c
      = has c (accB (row (qx c) t) d) fullShare (fun i => slabV av bv c (row (qx c) t) ((rHalf d).emb i)) := fun d j h => by
    subst h
    show has c (accB (row (quarter d 0 c) (slab d j c)) d) fullShare (accV av bv d (slab d j c) 0 c) = _
    unfold accV
    rw [hq, if_pos (by decide)]
  rw [key false j hj, key true j' hj']
  unfold slabR has
  refine (owns_rects (c : Thread nD τ) (accS (row (qx c) t)) fullShare rHalf (fun _ _ => rfl) half_disj half_cov _).trans ?_
  rw [bigSep_univ_eq_bigSepL [false, true] (by decide) (by decide), bigSepL_cons', bigSepL_singleton]
  exact Idealize.SL.BI.sep_mono
    (Entails.of_eq (has_nest (M := accM) (c := c) (o₂ := ![128 * (row (qx c) t).val, 1024 * false.toNat]) (i₂ := inb_block _ _) (h₂ := fun _ => rfl) (fun a => by fin_cases a <;> rfl) _))
    (Entails.of_eq (has_nest (M := accM) (c := c) (o₂ := ![128 * (row (qx c) t).val, 1024 * true.toNat]) (i₂ := inb_block _ _) (h₂ := fun _ => rfl) (fun a => by fin_cases a <;> rfl) _))

/-! ## Blocks of the row and column buffers -/

section Planes
variable {n : Fin 3 → ℕ} {M : Memref sig .tc .vmem ⟨3, n⟩ .bf16} {c : Dev nD} {o o' : Fin 3 → ℕ}
  {i : ∀ a, o a + S1x128x1024.size a ≤ (⟨3, n⟩ : Shape).size a} {i' : ∀ a, o' a + S1x128x1024.size a ≤ (⟨3, n⟩ : Shape).size a}

/-- A load of a block held with its axis dropped, -/
theorem plane_load {q : PosShare TreeShare} {x : BV F} (ho : o' = o) {l}
    {α : Type} {Q : α → sProp 𝕄} {kk : Vec F S1x128x1024 .bf16 → Prog (TpuEff nD τ sig (Elt F) Λ₀ .tc) α} :
    has c ((M.slice (Rect.unit (s := ⟨3, n⟩) o S1x128x1024.size i) (fun _ => rfl)).squeeze S128x1024 squeezes_S1x128x1024_S128x1024) q x
      ⊢ iprop((has c ((M.slice (Rect.unit (s := ⟨3, n⟩) o S1x128x1024.size i) (fun _ => rfl)).squeeze S128x1024 squeezes_S1x128x1024_S128x1024) q x
          -∗ runs c (kk (up x)) Q)
        -∗ runs c (.op (.load M (Rect.unit (s := ⟨3, n⟩) o' S1x128x1024.size i').toLoadRect l) kk) Q) := by
  iintro H Hk
  ihave H := (has_up x) $$ H
  iapply (load_eq (c := c) ho) $$ H
  iintro H
  iapply Hk
  ihave H := (has_down (up x)) $$ H
  rw [down_up]
  iexact H
/-- and a store over it. -/
theorem plane_store {x : BV F} {w : Vec F S1x128x1024 .bf16} (ho : o' = o) {hx hm}
    {α : Type} {Q : α → sProp 𝕄} {kk : PUnit → Prog (TpuEff nD τ sig (Elt F) Λ₀ .tc) α} :
    has c ((M.slice (Rect.unit (s := ⟨3, n⟩) o S1x128x1024.size i) (fun _ => rfl)).squeeze S128x1024 squeezes_S1x128x1024_S128x1024) fullShare x
      ⊢ iprop((has c ((M.slice (Rect.unit (s := ⟨3, n⟩) o S1x128x1024.size i) (fun _ => rfl)).squeeze S128x1024 squeezes_S1x128x1024_S128x1024) fullShare (down w)
          -∗ runs c (kk ⟨⟩) Q)
        -∗ runs c (.op (.store M (Rect.unit (s := ⟨3, n⟩) o' S1x128x1024.size i') w Finset.univ hx hm) kk) Q) := by
  iintro H Hk
  ihave H := (has_up x) $$ H
  iapply (store_eq (c := c) (w := w) ho) $$ H
  iintro H
  iapply Hk
  iapply (has_down w) $$ H
end Planes

/-! ## The local product where a hop reads it -/

/-- What hop `h` of the slab `t` reads of the local product. -/
def accR (d : Bool) (t h : Fin 4) (c : Dev nD) : sProp 𝕄 :=
  if h.val % 2 = 0 then slabR av bv c (row (quarter d h c) t) else quartR av bv c (quarter d h c)

set_option maxRecDepth 8000 in
theorem acc_load (d : Bool) (t h : Fin 4) (c : Dev nD) {o : Fin 2 → ℕ} (ho : o = ![128 * (row (quarter d h c) t).val, 1024 * d.toNat]) {i l}
    {α : Type} {Q : α → sProp 𝕄} {kk : Vec F S128x1024 .bf16 → Prog (TpuEff nD τ sig (Elt F) Λ₀ .tc) α} :
    accR av bv d t h c ⊢ iprop((accR av bv d t h c -∗ runs c (kk (accV av bv d t h c)) Q)
        -∗ runs c (.op (.load accM (Rect.unit (s := S2048x2048) o S128x1024.size i).toLoadRect l) kk) Q) := by
  by_cases hh : h.val % 2 = 0
  · have e₁ : accR av bv d t h c = has c (accM.slice (Rect.unit (s := S2048x2048) ![128 * (row (quarter d h c) t).val, 0] S128x2048.size (inb_slab _)) (fun _ => rfl))
        fullShare (slabV av bv c (row (quarter d h c) t)) := if_pos hh
    have e₂ : accV av bv d t h c = fun j => slabV av bv c (row (quarter d h c) t) ((rHalf d).emb j) := if_pos hh
    rw [e₁, e₂]
    exact load_sub (M := accM) (c := c) (s₁ := S128x2048.size) (s₂ := S128x1024.size) ![0, 1024 * d.toNat] (inb_half d) (by rw [ho]; funext a; fin_cases a <;> simp)
  · have e₁ : accR av bv d t h c = has c (accM.slice (Rect.unit (s := S2048x2048) ![512 * (quarter d h c).val, 0] S512x2048.size (inb_quart _)) (fun _ => rfl))
        fullShare (quartV av bv c (quarter d h c)) := if_neg hh
    have e₂ : accV av bv d t h c = fun j => quartV av bv c (quarter d h c) ((rPart t d).emb j) := if_neg hh
    rw [e₁, e₂]
    exact load_sub (M := accM) (c := c) (s₁ := S512x2048.size) (s₂ := S128x1024.size) ![128 * t.val, 1024 * d.toNat] (inb_part t d) (by
      rw [ho]; funext a
      fin_cases a
      · show 128 * (4 * (quarter d h c).val + t.val) = 512 * (quarter d h c).val + 128 * t.val; omega
      · simp)

/-! ## Along the row -/

theorem recv_pa (c : Dev nD) (d : Bool) (j : Fin 4) (h : Fin 3) : recvPay av bv (pa j h d) c
    = iprop(has c (pbB d h.castSucc (slab d j c)) fullShare (pA av bv d (slab d j c) h.val (pred d c)) ∗ extra (pa j h d) c) := by
  have e := slab_pred d j c
  show iprop(has c (pbB d h.castSucc (slab d j (pred d c))) fullShare (pA av bv d (slab d j (pred d c)) h.val (pred d c)) ∗ extra (pa j h d) c) = _
  rw [e]

omit [FloatOps F] in
theorem extra_none (x : X) (h : x ≠ pa 0 0 false) (b : Dev nD) : (extra x b : sProp 𝕄) = iprop(emp) := if_neg h
omit [FloatOps F] in
theorem ownLand_none (x : X) (h : x ∉ far) (b : Dev nD) : (ownLand x b : sProp 𝕄) = iprop(emp) := if_neg h

set_option maxRecDepth 8000 in
/-- Starting a transfer for which nothing but the carried block is needed. -/
theorem send_step (K : Dev nD × KI → ℕ) (c : Dev nD) (x : X) (k j : ℕ) (hk : order[k]? = some x) (hx : x ∉ far) (hx' : x ≠ pa 0 0 false)
    {n : Dev nD} (hn : n = tgt x c) {src dst : Blk} (hs : src = sM x c) (hd : dst = dM x c) {ss rs : DmaSem sig} (h₁ : ss = sS x) (h₂ : rs = rS x)
    {hsc : (dst : Memref sig (Dev.tc n : Thread nD τ).2.kind .vmem S128x1024 .bf16).view.ref.isScScratch = false}
    {hsrc : src.view.WordExact} {hdst : dst.view.WordExact}
    {hsem : DmaTarget.Typed .vmem (.dma rs) (.remote (Dev.tc n : Thread nD τ) (dst : Memref sig .tc .vmem S128x1024 .bf16) (.dma ss) hsc)}
    {α : Type} {Q : α → sProp 𝕄} {kk : PUnit → Prog (TpuEff nD τ sig (Elt F) Λ₀ .tc) α} :
    iprop(Pst av bv K c k j ∗ sendPay av bv x c)
      ⊢ iprop((Pst av bv K c (k + 1) j -∗ runs c (kk ⟨⟩) Q)
          -∗ runs c (.op (.enqueueDma src (.remote (Dev.tc n : Thread nD τ) dst (.dma ss) hsc) (.dma rs) hsrc hdst hsem) kk) Q) := by
  have e : iprop(Pst av bv K c k j ∗ sendPay av bv x c) ⊢ iprop(Pst av bv K c k j ∗ sendPay av bv x c ∗ ownLand x (tgt x c) ∗ extra x (tgt x c)) := by
    rw [extra_none x hx', ownLand_none x hx]
    iintro ⟨H1, H2⟩
    isplitl [H1]; · iexact H1
    isplitl [H2]; · iexact H2
    isplitr <;> iempintro
  exact e.trans (send_core av bv K c x k j hk hn hs hd h₁ h₂)

theorem pa_near (j : Fin 4) (h : Fin 3) (d : Bool) : pa j h d ∉ far := by revert j h d; decide +kernel
theorem zr_near (s : Fin 3) (d : Bool) : zr s d ∉ far := by revert s d; decide +kernel

/-- The sum a hop makes, with the leading axis. -/
def addUp (v : Vec F S1x128x1024 .bf16) (w : BV F) : Vec F S1x128x1024 .bf16 := up (addf (down v) w)

set_option maxRecDepth 8000 in
/-- One hop along the row: the arrived block is added to and sent on. -/
theorem rs_step (K : Dev nD × KI → ℕ) (c : Dev nD) (d : Bool) (jx : Fin 4) (h h' : Fin 3) (hh : h'.val = h.val + 1) (k j : ℕ)
    (hj : rOrder[j]? = some (pa jx h d)) (hlv : ∀ y ∈ order.drop k, pos (pa jx h d) < pos y) (hk : order[k]? = some (pa jx h' d))
    {R : sProp 𝕄} (hR : accR av bv d (slab d jx c) h'.castSucc c = R)
    {rs₀ : DmaSem sig} (h₀ : rs₀ = rS (pa jx h d)) {src₀ dst₀ : Blk} (hN : dst₀.view.dmaCredit = N) {w₀ w₀'}
    {op : Fin 3 → ℕ} {oc : Fin 2 → ℕ} (hop : op = ![h.castSucc.val, 128 * (slab d jx c).val, 0])
    (hoc : oc = ![128 * (row (quarter d h'.castSucc c) (slab d jx c)).val, 1024 * d.toNat])
    {i₁ i₂ l₁ l₂ l₃ hx hm} (pay : Vec F S1x128x1024 .bf16 → BV F → Vec F S1x128x1024 .bf16) (hp : pay = addUp)
    {n : Dev nD} (hn : n = tgt (pa jx h' d) c) {src dst : Blk} (hs : src = sM (pa jx h' d) c) (hd : dst = dM (pa jx h' d) c)
    {ss rs : DmaSem sig} (h₁ : ss = sS (pa jx h' d)) (h₂ : rs = rS (pa jx h' d))
    {hsc : (dst : Memref sig (Dev.tc n : Thread nD τ).2.kind .vmem S128x1024 .bf16).view.ref.isScScratch = false}
    {hsrc : src.view.WordExact} {hdst : dst.view.WordExact}
    {hsem : DmaTarget.Typed .vmem (.dma rs) (.remote (Dev.tc n : Thread nD τ) (dst : Memref sig .tc .vmem S128x1024 .bf16) (.dma ss) hsc)}
    {α : Type} {Q : α → sProp 𝕄} {kk : PUnit → Prog (TpuEff nD τ sig (Elt F) Λ₀ .tc) α} :
    iprop(Pst av bv K c k j ∗ R)
      ⊢ iprop((iprop(Pst av bv K c (k + 1) (j + 1) ∗ R ∗ extra (pa jx h d) c) -∗ runs c (kk ⟨⟩) Q)
        -∗ runs c (.op (.waitDma2 rs₀ src₀ dst₀ w₀ w₀') fun _ =>
            .op (.load (pb d) (Rect.unit (s := S4x512x1024) op S1x128x1024.size i₁).toLoadRect l₁) fun v =>
            .op (.load accM (Rect.unit (s := S2048x2048) oc S128x1024.size i₂).toLoadRect l₂) fun w =>
            .op (.load (pb d) (Rect.unit (s := S4x512x1024) op S1x128x1024.size i₁).toLoadRect l₃) fun _ =>
            .op (.store (pb d) (Rect.unit (s := S4x512x1024) op S1x128x1024.size i₁) (pay v w) Finset.univ hx hm) fun _ =>
            .op (.enqueueDma src (.remote (Dev.tc n : Thread nD τ) dst (.dma ss) hsc) (.dma rs) hsrc hdst hsem) kk) Q) := by
  subst hp hR
  have hsend : sendPay av bv (pa jx h' d) c = has c (pbB d h.castSucc (slab d jx c)) fullShare
      (down (addUp (up (pA av bv d (slab d jx c) h.val (pred d c))) (accV av bv d (slab d jx c) h'.castSucc c))) := by
    have hM : sM (pa jx h' d) c = pbB d h.castSucc (slab d jx c) := by
      match h, h', hh with
      | 0, 1, _ => rfl
      | 1, 2, _ => rfl
    show has c (sM (pa jx h' d) c) fullShare (pA av bv d (slab d jx c) h'.val c) = _
    rw [hM, hh]
    unfold addUp
    rw [down_up, down_up]
    show has c _ fullShare (addf _ (accV av bv d _ (Fin.ofNat 4 (h.val + 1)) c)) = _
    rw [show Fin.ofNat 4 (h.val + 1) = h'.castSucc from Fin.ext (by
      show (h.val + 1) % 4 = h'.val
      rw [hh]; exact Nat.mod_eq_of_lt (by have := h.isLt; omega))]
  iintro ⟨HP, HR⟩ Hk
  iapply (recv_step av bv K c (pa jx h d) k j hj hlv h₀ hN) $$ HP
  iintro ⟨HP, Hr⟩
  ihave Hr := (Entails.of_eq (recv_pa av bv c d jx h)) $$ Hr
  icases Hr with ⟨Hb, He⟩
  iapply (plane_load (c := c) (M := pb d) hop) $$ Hb
  iintro Hb
  iapply (acc_load av bv d (slab d jx c) h'.castSucc c hoc) $$ HR
  iintro HR
  iapply (plane_load (c := c) (M := pb d) hop) $$ Hb
  iintro Hb
  iapply (plane_store (c := c) (M := pb d) hop) $$ Hb
  iintro Hb
  iapply (send_step av bv K c (pa jx h' d) k (j + 1) hk (pa_near _ _ _) (by
    intro e; cases e; exact absurd hh (by simp)) hn hs hd h₁ h₂) $$ [HP Hb]
  · isplitl [HP]; · iexact HP
    iapply (Entails.of_eq hsend.symm); iexact Hb
  iintro HP
  iapply Hk
  isplitl [HP]; · iexact HP
  isplitl [HR]; · iexact HR
  iexact He

/-! ## Along the column -/

theorem recv_pa_last (c : Dev nD) (d : Bool) (j : Fin 4) : recvPay av bv (pa j 2 d) c = iprop(has c (pbB d 2 (slab d j c)) fullShare (pA av bv d (slab d j c) 2 (pred d c)) ∗ extra (pa j 2 d) c) :=
  recv_pa av bv c d j 2

theorem recv_zr (c : Dev nD) (d : Bool) (s : Fin 3) : recvPay av bv (zr s d) c = has c (zbB d s.castSucc) fullShare (zA av bv d s.val (zpred d c)) := by
  show iprop(has c (zbB d s.castSucc) fullShare (zA av bv d s.val (zpred d c)) ∗ extra (zr s d) c) = _
  rw [extra_none _ (by intro e; cases e)]
  exact sep_emp_eq _

theorem recv_zr_last (c : Dev nD) (d : Bool) : recvPay av bv (zr 2 d) c = has c (zbB d 2) fullShare (zA av bv d 2 (zpred d c)) :=
  recv_zr av bv c d 2

/-- The sums along the column, with the leading axis. -/
def addUp3 (z v : Vec F S1x128x1024 .bf16) (w : BV F) : Vec F S1x128x1024 .bf16 := up (addf (down z) (addf (down v) w))
/-- The finished block. -/
def finUp (z v : Vec F S1x128x1024 .bf16) (w : BV F) : BV F := fin (down z) (addf (down v) w)

set_option maxRecDepth 8000 in
/-- The first hop along the column. -/
theorem z0_step (K : Dev nD × KI → ℕ) (c : Dev nD) (d : Bool) (k j : ℕ)
    (hj : rOrder[j]? = some (pa 0 2 d)) (hlv : ∀ y ∈ order.drop k, pos (pa 0 2 d) < pos y) (hk : order[k]? = some (zr 0 d))
    {R : sProp 𝕄} (hR : accR av bv d (slab d 0 c) 3 c = R)
    {rs₀ : DmaSem sig} (h₀ : rs₀ = rS (pa 0 2 d)) {src₀ dst₀ : Blk} (hN : dst₀.view.dmaCredit = N) {w₀ w₀'}
    {op : Fin 3 → ℕ} {oc : Fin 2 → ℕ} (hop : op = ![(2 : Fin 4).val, 128 * (slab d 0 c).val, 0])
    (hoc : oc = ![128 * (row (quarter d 3 c) (slab d 0 c)).val, 1024 * d.toNat])
    {i₁ i₂ i₃ l₁ l₂ l₃ hx hm} (pay : Vec F S1x128x1024 .bf16 → BV F → Vec F S1x128x1024 .bf16) (hp : pay = addUp)
    {n : Dev nD} (hn : n = tgt (zr 0 d) c) {src dst : Blk} (hs : src = sM (zr 0 d) c) (hd : dst = dM (zr 0 d) c)
    {ss rs : DmaSem sig} (h₁ : ss = sS (zr 0 d)) (h₂ : rs = rS (zr 0 d))
    {hsc : (dst : Memref sig (Dev.tc n : Thread nD τ).2.kind .vmem S128x1024 .bf16).view.ref.isScScratch = false}
    {hsrc : src.view.WordExact} {hdst : dst.view.WordExact}
    {hsem : DmaTarget.Typed .vmem (.dma rs) (.remote (Dev.tc n : Thread nD τ) (dst : Memref sig .tc .vmem S128x1024 .bf16) (.dma ss) hsc)}
    {α : Type} {Q : α → sProp 𝕄} {kk : PUnit → Prog (TpuEff nD τ sig (Elt F) Λ₀ .tc) α} :
    iprop(Pst av bv K c k j ∗ R ∗ any c (zbB d 3))
      ⊢ iprop((iprop(Pst av bv K c (k + 1) (j + 1) ∗ R ∗ any c (pbB d 2 (slab d 0 c))) -∗ runs c (kk ⟨⟩) Q)
        -∗ runs c (.op (.waitDma2 rs₀ src₀ dst₀ w₀ w₀') fun _ =>
            .op (.load (pb d) (Rect.unit (s := S4x512x1024) op S1x128x1024.size i₁).toLoadRect l₁) fun v =>
            .op (.load accM (Rect.unit (s := S2048x2048) oc S128x1024.size i₂).toLoadRect l₂) fun w =>
            .op (.load (zb d) (Rect.unit (s := S4x128x1024) ![3, 0, 0] S1x128x1024.size i₃).toLoadRect l₃) fun _ =>
            .op (.store (zb d) (Rect.unit (s := S4x128x1024) ![3, 0, 0] S1x128x1024.size i₃) (pay v w) Finset.univ hx hm) fun _ =>
            .op (.enqueueDma src (.remote (Dev.tc n : Thread nD τ) dst (.dma ss) hsc) (.dma rs) hsrc hdst hsem) kk) Q) := by
  subst hp hR
  have hsend : sendPay av bv (zr 0 d) c = has c (zbB d 3) fullShare
      (down (addUp (up (pA av bv d (slab d 0 c) 2 (pred d c))) (accV av bv d (slab d 0 c) 3 c))) := by
    unfold addUp
    rw [down_up, down_up]
    rfl
  unfold any
  iintro ⟨HP, HR, ⟨%Y, Hz⟩⟩ Hk
  iapply (recv_step av bv K c (pa 0 2 d) k j hj hlv h₀ hN) $$ HP
  iintro ⟨HP, Hr⟩
  ihave Hr := (Entails.of_eq (recv_pa_last av bv c d 0)) $$ Hr
  icases Hr with ⟨Hb, -⟩
  iapply (plane_load (c := c) (M := pb d) hop) $$ Hb
  iintro Hb
  iapply (acc_load av bv d (slab d 0 c) 3 c hoc) $$ HR
  iintro HR
  iapply (plane_load (c := c) (M := zb d) rfl) $$ Hz
  iintro Hz
  iapply (plane_store (c := c) (M := zb d) rfl) $$ Hz
  iintro Hz
  iapply (send_step av bv K c (zr 0 d) k (j + 1) hk (zr_near _ _) (by intro e; cases e) hn hs hd h₁ h₂) $$ [HP Hz]
  · isplitl [HP]; · iexact HP
    iapply (Entails.of_eq hsend.symm); iexact Hz
  iintro HP
  iapply Hk
  isplitl [HP]; · iexact HP
  isplitl [HR]; · iexact HR
  iexists _; iexact Hb

set_option maxRecDepth 8000 in
/-- A later hop along the column. -/
theorem zs_step (K : Dev nD × KI → ℕ) (c : Dev nD) (d : Bool) (s s' : Fin 3) (hss : s'.val = s.val + 1) (k j : ℕ)
    (hj : rOrder[j]? = some (zr s d)) (hlv : ∀ y ∈ order.drop k, pos (zr s d) < pos y)
    (hj' : rOrder[j + 1]? = some (pa s'.castSucc 2 d)) (hlv' : ∀ y ∈ order.drop k, pos (pa s'.castSucc 2 d) < pos y) (hk : order[k]? = some (zr s' d))
    {R : sProp 𝕄} (hR : accR av bv d (slab d s'.castSucc c) 3 c = R)
    {rs₀ : DmaSem sig} (h₀ : rs₀ = rS (zr s d)) {src₀ dst₀ : Blk} (hN : dst₀.view.dmaCredit = N) {w₀ w₀'}
    {rs₁ : DmaSem sig} (h₀' : rs₁ = rS (pa s'.castSucc 2 d)) {src₁ dst₁ : Blk} (hN' : dst₁.view.dmaCredit = N) {w₁ w₁'}
    {oz op : Fin 3 → ℕ} {oc : Fin 2 → ℕ} (hoz : oz = ![s.castSucc.val, 0, 0]) (hop : op = ![(2 : Fin 4).val, 128 * (slab d s'.castSucc c).val, 0])
    (hoc : oc = ![128 * (row (quarter d 3 c) (slab d s'.castSucc c)).val, 1024 * d.toNat])
    {i₁ i₂ i₃ l₁ l₂ l₃ l₄ hx hm} (pay : Vec F S1x128x1024 .bf16 → Vec F S1x128x1024 .bf16 → BV F → Vec F S1x128x1024 .bf16) (hp : pay = addUp3)
    {n : Dev nD} (hn : n = tgt (zr s' d) c) {src dst : Blk} (hs : src = sM (zr s' d) c) (hd : dst = dM (zr s' d) c)
    {ss rs : DmaSem sig} (h₁ : ss = sS (zr s' d)) (h₂ : rs = rS (zr s' d))
    {hsc : (dst : Memref sig (Dev.tc n : Thread nD τ).2.kind .vmem S128x1024 .bf16).view.ref.isScScratch = false}
    {hsrc : src.view.WordExact} {hdst : dst.view.WordExact}
    {hsem : DmaTarget.Typed .vmem (.dma rs) (.remote (Dev.tc n : Thread nD τ) (dst : Memref sig .tc .vmem S128x1024 .bf16) (.dma ss) hsc)}
    {α : Type} {Q : α → sProp 𝕄} {kk : PUnit → Prog (TpuEff nD τ sig (Elt F) Λ₀ .tc) α} :
    iprop(Pst av bv K c k j ∗ R)
      ⊢ iprop((iprop(Pst av bv K c (k + 1) (j + 2) ∗ R ∗ any c (pbB d 2 (slab d s'.castSucc c))) -∗ runs c (kk ⟨⟩) Q)
        -∗ runs c (.op (.waitDma2 rs₀ src₀ dst₀ w₀ w₀') fun _ =>
            .op (.waitDma2 rs₁ src₁ dst₁ w₁ w₁') fun _ =>
            .op (.load (zb d) (Rect.unit (s := S4x128x1024) oz S1x128x1024.size i₃).toLoadRect l₃) fun z =>
            .op (.load (pb d) (Rect.unit (s := S4x512x1024) op S1x128x1024.size i₁).toLoadRect l₁) fun v =>
            .op (.load accM (Rect.unit (s := S2048x2048) oc S128x1024.size i₂).toLoadRect l₂) fun w =>
            .op (.load (zb d) (Rect.unit (s := S4x128x1024) oz S1x128x1024.size i₃).toLoadRect l₄) fun _ =>
            .op (.store (zb d) (Rect.unit (s := S4x128x1024) oz S1x128x1024.size i₃) (pay z v w) Finset.univ hx hm) fun _ =>
            .op (.enqueueDma src (.remote (Dev.tc n : Thread nD τ) dst (.dma ss) hsc) (.dma rs) hsrc hdst hsem) kk) Q) := by
  subst hp hR
  have hsend : sendPay av bv (zr s' d) c = has c (zbB d s.castSucc) fullShare
      (down (addUp3 (up (zA av bv d s.val (zpred d c))) (up (pA av bv d (slab d s'.castSucc c) 2 (pred d c))) (accV av bv d (slab d s'.castSucc c) 3 c))) := by
    unfold addUp3
    rw [down_up, down_up, down_up]
    match s, s', hss with
    | 0, 1, _ => rfl
    | 1, 2, _ => rfl
  iintro ⟨HP, HR⟩ Hk
  iapply (recv_step av bv K c (zr s d) k j hj hlv h₀ hN) $$ HP
  iintro ⟨HP, Hz⟩
  ihave Hz := (Entails.of_eq (recv_zr av bv c d s)) $$ Hz
  iapply (recv_step av bv K c (pa s'.castSucc 2 d) k (j + 1) hj' hlv' h₀' hN') $$ HP
  iintro ⟨HP, Hr⟩
  ihave Hr := (Entails.of_eq (recv_pa_last av bv c d s'.castSucc)) $$ Hr
  icases Hr with ⟨Hb, -⟩
  iapply (plane_load (c := c) (M := zb d) hoz) $$ Hz
  iintro Hz
  iapply (plane_load (c := c) (M := pb d) hop) $$ Hb
  iintro Hb
  iapply (acc_load av bv d (slab d s'.castSucc c) 3 c hoc) $$ HR
  iintro HR
  iapply (plane_load (c := c) (M := zb d) hoz) $$ Hz
  iintro Hz
  iapply (plane_store (c := c) (M := zb d) hoz) $$ Hz
  iintro Hz
  iapply (send_step av bv K c (zr s' d) k (j + 2) hk (zr_near _ _) (by intro e; cases e) hn hs hd h₁ h₂) $$ [HP Hz]
  · isplitl [HP]; · iexact HP
    iapply (Entails.of_eq hsend.symm); iexact Hz
  iintro HP
  iapply Hk
  isplitl [HP]; · iexact HP
  isplitl [HR]; · iexact HR
  iapply (any_intro c (pbB d 2 (slab d s'.castSucc c)) _); iexact Hb

set_option maxRecDepth 8000 in
/-- The last sum, and the finished block. -/
theorem fin_step (K : Dev nD × KI → ℕ) (c : Dev nD) (d : Bool) (k j : ℕ)
    (hj : rOrder[j]? = some (zr 2 d)) (hlv : ∀ y ∈ order.drop k, pos (zr 2 d) < pos y)
    (hj' : rOrder[j + 1]? = some (pa 3 2 d)) (hlv' : ∀ y ∈ order.drop k, pos (pa 3 2 d) < pos y)
    {R : sProp 𝕄} (hR : accR av bv d (slab d 3 c) 3 c = R)
    {rs₀ : DmaSem sig} (h₀ : rs₀ = rS (zr 2 d)) {src₀ dst₀ : Blk} (hN : dst₀.view.dmaCredit = N) {w₀ w₀'}
    {rs₁ : DmaSem sig} (h₀' : rs₁ = rS (pa 3 2 d)) {src₁ dst₁ : Blk} (hN' : dst₁.view.dmaCredit = N) {w₁ w₁'}
    {op : Fin 3 → ℕ} {oc oo : Fin 2 → ℕ} (hop : op = ![(2 : Fin 4).val, 128 * (slab d 3 c).val, 0])
    (hoc : oc = ![128 * (row (quarter d 3 c) (slab d 3 c)).val, 1024 * d.toNat]) (hoo : oo = ![128 * (oRow d c).val, 1024 * d.toNat])
    {i₁ i₂ i₃ i₄ l₁ l₂ l₃ l₄ hx hm} (pay : Vec F S1x128x1024 .bf16 → Vec F S1x128x1024 .bf16 → BV F → BV F) (hp : pay = finUp)
    {α : Type} {Q : α → sProp 𝕄} {kk : PUnit → Prog (TpuEff nD τ sig (Elt F) Λ₀ .tc) α} :
    iprop(Pst av bv K c k j ∗ R ∗ any c (outE d c))
      ⊢ iprop((iprop(Pst av bv K c k (j + 2) ∗ R ∗ has c (outE d c) fullShare (oV av bv d c) ∗ any c (zbB d 2) ∗ any c (pbB d 2 (slab d 3 c))) -∗ runs c (kk ⟨⟩) Q)
        -∗ runs c (.op (.waitDma2 rs₀ src₀ dst₀ w₀ w₀') fun _ =>
            .op (.waitDma2 rs₁ src₁ dst₁ w₁ w₁') fun _ =>
            .op (.load (zb d) (Rect.unit (s := S4x128x1024) ![2, 0, 0] S1x128x1024.size i₃).toLoadRect l₃) fun z =>
            .op (.load (pb d) (Rect.unit (s := S4x512x1024) op S1x128x1024.size i₁).toLoadRect l₁) fun v =>
            .op (.load accM (Rect.unit (s := S2048x2048) oc S128x1024.size i₂).toLoadRect l₂) fun w =>
            .op (.load outM (Rect.unit (s := S2048x2048) oo S128x1024.size i₄).toLoadRect l₄) fun _ =>
            .op (.store outM (Rect.unit (s := S2048x2048) oo S128x1024.size i₄) (pay z v w) Finset.univ hx hm) kk) Q) := by
  subst hp hR
  have hfin : oV av bv d c = finUp (up (zA av bv d 2 (zpred d c))) (up (pA av bv d (slab d 3 c) 2 (pred d c))) (accV av bv d (slab d 3 c) 3 c) := by
    unfold finUp
    rw [down_up, down_up]
    rfl
  rw [hfin]
  iintro ⟨HP, HR, Ho⟩ Hk
  unfold any
  icases Ho with ⟨%Y, Ho⟩
  iapply (recv_step av bv K c (zr 2 d) k j hj hlv h₀ hN) $$ HP
  iintro ⟨HP, Hz⟩
  ihave Hz := (Entails.of_eq (recv_zr_last av bv c d)) $$ Hz
  iapply (recv_step av bv K c (pa 3 2 d) k (j + 1) hj' hlv' h₀' hN') $$ HP
  iintro ⟨HP, Hr⟩
  ihave Hr := (Entails.of_eq (recv_pa_last av bv c d 3)) $$ Hr
  icases Hr with ⟨Hb, -⟩
  iapply (plane_load (c := c) (M := zb d) rfl) $$ Hz
  iintro Hz
  iapply (plane_load (c := c) (M := pb d) hop) $$ Hb
  iintro Hb
  iapply (acc_load av bv d (slab d 3 c) 3 c hoc) $$ HR
  iintro HR
  iapply (load_eq (c := c) (M := outM) (h₁ := fun _ => rfl) hoo) $$ Ho
  iintro Ho
  iapply (store_eq (c := c) (M := outM) (h₁ := fun _ => rfl) hoo) $$ Ho
  iintro Ho
  iapply Hk
  isplitl [HP]; · iexact HP
  isplitl [HR]; · iexact HR
  isplitl [Ho]; · iexact Ho
  isplitl [Hz]; · iexists _; iexact Hz
  iexists _; iexact Hb

end Cert.Mesh

end
-- ==== Proof.Start.lean ====
/-
# The barrier

The first operations of the program: a device hands its four neighbours the places where their transfers will land on it, and
gets its own.
-/
module

public import proofs.«01_k».proof.Proof.Ops
public import Idealize.ShloMosaic.Lib.Pipeline.TalkSched

@[expose] public section

noncomputable section

namespace Cert.Mesh

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.TcCoe

open X

variable {F : FTy → Type} [FloatOps F]

local notation "𝕄" => MT nD τ sig Unit (Elt F) ℕ UU ℕ

variable (av : Dev nD → Vec F S2048x1024 .bf16) (bv : Dev nD → Vec F S1024x2048 .bf16)

/-! ## Lists of holdings -/

omit [FloatOps F] in
theorem bigSepL_same {A : Type} {l : List A} {f g : A → sProp 𝕄} (h : ∀ x ∈ l, f x = g x) : bigSepL l f = bigSepL l g := by
  induction l with
  | nil => rfl
  | cons x l ih =>
    rw [bigSepL_cons', bigSepL_cons', h x List.mem_cons_self, ih fun y hy => h y (List.mem_cons_of_mem _ hy)]

omit [FloatOps F] in
theorem perms_eq (c : Dev nD) (l : List X) : bigSepL l (perm (F := F) c) = bigSepL (l.filter fun x => decide (x ∉ far)) fun x => land x (tgt x c) := by
  induction l with
  | nil => rfl
  | cons x l ih =>
    rw [bigSepL_cons', ih]
    unfold perm
    by_cases h : x ∈ far
    · rw [if_pos h, List.filter_cons_of_neg (by simpa using h)]
      exact emp_sep_eq _
    · rw [if_neg h, List.filter_cons_of_pos (by simpa using h), bigSepL_cons']

/-! ## Signals and the wait -/

/-- Device `c` while the signals of `es` are still to come. -/
def Bst (K : Dev nD × KI → ℕ) (c : Dev nD) (es : List (Fin 4)) : sProp 𝕄 :=
  iprop(records av bv K ∗ (∃ W, owes (c : Thread nD τ) (owedB c es) W)
    ∗ (bigSepL es fun e => iprop(dutyTok ER (barCell (payee e c)) 0 e ∗ barPay (F := F) e (payee e c)))
    ∗ cred (tallyAt (barCell c) () 4) ∗ atPos ER (barCell c) 0 ∅ 0)

set_option maxRecDepth 8000 in
theorem sig_step (K : Dev nD × KI → ℕ) (c : Dev nD) (e : Fin 4) (es : List (Fin 4)) {n : Dev nD} (hn : n = payee e c)
    {k' : ℕ} (hk : k' = 1)
    {α : Type} {Q : α → sProp 𝕄} {kk : PUnit → Prog (TpuEff nD τ sig (Elt F) Λ₀ .tc) α} :
    Bst av bv K c (e :: es) ⊢ iprop((Bst av bv K c es -∗ runs c (kk ⟨⟩) Q) -∗ runs c (.op (.semSignal (n : Thread nD τ) barS k') kk) Q) := by
  subst hn hk
  unfold Bst
  rw [bigSepL_cons']
  iintro ⟨#HR, ⟨%W, HO⟩, ⟨⟨Ht, Hp⟩, Hts⟩, Hc, Ha⟩ Hk
  iapply (Rounds.wp_signal 𝒱₀ ER (rd av bv) (c : Thread nD τ) none (dst := (payee e c : Thread nD τ)) (κ := K (payee e c, none))
      (r := 0) (d := e) (by rw [duties_bar]; exact Finset.mem_univ _) (amount_bar av bv (payee e c) e) () (owedB c es) rfl) $$ [HO Ht Hp]
  · isplitr; · iapply (records_inv av bv K (payee e c, none)); iexact HR
    isplitl [HO]; · iexact HO
    isplitl [Ht]; · iexact Ht
    isplitl [Hp]; · iapply (Entails.of_eq (payload_bar av bv (payee e c) e).symm); iexact Hp
    iapply (records_reached av bv K (payee e c, none)); iexact HR
  iintro HO
  iapply Hk
  isplitr; · iexact HR
  isplitl [HO]; · iexists W; iexact HO
  isplitl [Hts]; · iexact Hts
  isplitl [Hc] <;> iassumption

omit [FloatOps F] in
theorem grant_eq (e : Fin 4) (c : Dev nD) : (bigSepL (grants e) fun x => land (F := F) x (payer e c)) = bigSepL (grants e) fun x => land x (tgt x c) :=
  bigSepL_same fun x hx => by rw [grants_tgt e x hx c]

omit [FloatOps F] in
theorem take_bar (c : Dev nD) : iprop(barPay (F := F) 0 c ∗ barPay 1 c ∗ barPay 2 c ∗ barPay 3 c) ⊢ iprop(bigSepL order (perm c) ∗ fars (succ false c)) := by
  rw [perms_eq, Idealize.ShloMosaic.TalkSites.bigSepL_perm all_perm (order_nodup.filter _), bigSepL_append, bigSepL_append, bigSepL_append]
  unfold barPay
  rw [grant_eq, grant_eq, grant_eq, grant_eq, if_pos rfl, if_neg (by decide), if_neg (by decide), if_neg (by decide)]
  iintro ⟨⟨H0, Hf⟩, ⟨H1, -⟩, ⟨H2, -⟩, ⟨H3, -⟩⟩
  isplitr [Hf]
  · isplitr [H3]
    · isplitr [H2]
      · isplitl [H0]; · iexact H0
        iexact H1
      · iexact H2
    · iexact H3
  · iexact Hf

set_option maxRecDepth 8000 in
theorem bar_step (K : Dev nD × KI → ℕ) (c : Dev nD) {k' : ℕ} (hk : k' = 4)
    {α : Type} {Q : α → sProp 𝕄} {kk : PUnit → Prog (TpuEff nD τ sig (Elt F) Λ₀ .tc) α} :
    iprop(Bst av bv K c [] ∗ bigSepL order (sendTok c) ∗ bigSepL rOrder (coming (F := F) c))
      ⊢ iprop((iprop(Pst av bv K c 0 0 ∗ fars (succ false c) ∗ semVal (barCell c) 0) -∗ runs c (kk ⟨⟩) Q)
        -∗ runs c (.op (.semWait barS k') kk) Q) := by
  subst hk
  have hmw : (levAts L lv : sProp 𝕄) ⊢ MayWait (c : Thread nD τ) (.reg barS) () (owedB c []) :=
    mayWait_list c (.reg barS) order 1 (Nat.le_refl 1) fun y _ => by omega
  unfold Bst Pst
  iintro ⟨⟨#HR, ⟨%W, HO⟩, -, Hc, Ha⟩, Hts, Hco⟩ Hk
  iapply (Rounds.wp_wait_rest_token 𝒱₀ ER (rd av bv) (c : Thread nD τ) none (κ := K (c, none))
      (wpE_semWait_eq 𝒱₀ (c : Thread nD τ) none Set.univ) (Set.mem_univ _) () (O := owedB c []) (W := W) (R := 0) (m := 0) (T := ∅)
      (by rw [Nat.zero_add, expect_bar])) $$ [Hc HO Ha]
  · isplitr; · iapply (records_inv av bv K (c, none)); iexact HR
    isplitl [Hc]; · iexact Hc
    isplitl [HO]; · iexact HO
    isplitr; · iapply ((records_lev av bv K).trans hmw); iexact HR
    iexact Ha
  iintro ⟨HO, Ha, -, Hpay⟩
  ihave Hp := (Entails.of_eq (rest_bar av bv c)) $$ Hpay
  ihave Hp := (take_bar c) $$ Hp
  icases Hp with ⟨Hp, Hf⟩
  imod (Rounds.cell_close ER (rd av bv) (Set.mem_univ (K (c, none))) (fun h => h) (R := 0 + 1) (duties_later av bv (barCell c))) $$ [Ha] with Hz
  · isplitr; · iapply (records_inv av bv K (c, none)); iexact HR
    iexact Ha
  iapply Hk
  isplitr [Hf Hz]
  · isplitr; · iexact HR
    isplitl [HO]; · iexists _; iexact HO
    isplitl [Hts]; · iexact Hts
    isplitl [Hp]; · iexact Hp
    isplitr; · iempintro
    isplitl [Hco]; · iexact Hco
    iempintro
  isplitl [Hf] <;> iassumption

/-! ## What a device hands over -/

omit [FloatOps F] in
theorem give_bar (c : Dev nD) : (bigSepL order fun x => land (F := F) x c) ⊢ bigSepL sigs fun e => barPay (F := F) e (payee e c) := by
  have hg : ∀ e, (bigSepL (grants e) fun x => land (F := F) x (payer e (payee e c))) = bigSepL (grants e) fun x => land x c := fun e => by
    rw [payer_payee]
  have hf : fars (F := F) (succ false (payee 0 c)) = bigSepL far fun x => land x c := by
    unfold fars
    exact bigSepL_same fun x hx => by rw [← far_tgt x hx, payer_payee]
  rw [Idealize.ShloMosaic.TalkSites.bigSepL_perm lands_perm order_nodup, bigSepL_append, bigSepL_append, bigSepL_append, bigSepL_append]
  unfold sigs
  rw [bigSepL_cons', bigSepL_cons', bigSepL_cons', bigSepL_singleton]
  unfold barPay
  rw [hg, hg, hg, hg, hf, if_pos rfl, if_neg (by decide), if_neg (by decide), if_neg (by decide)]
  iintro ⟨⟨⟨⟨H0, H1⟩, H2⟩, H3⟩, Hf⟩
  isplitl [H1]; · isplitl [H1]; · iexact H1
                  iempintro
  isplitl [H0 Hf]; · isplitl [H0] <;> iassumption
  isplitl [H3]; · isplitl [H3]; · iexact H3
                  iempintro
  isplitl [H2]; · iexact H2
  iempintro

end Cert.Mesh

end
-- ==== Proof.Segs.lean ====
/-
# The program in segments

The kernel's body is a chain of parts, with no payload crossing the cuts made here. Each segment is written with what comes
after it as an argument.
-/
module

public import proofs.«01_k».proof.Proof.Start

@[expose] public section

noncomputable section

namespace Cert.Mesh

open Cert.KernelIdeal Cert.KernelIdeal.Gen
open Idealize.SL Idealize.SL.RA Idealize.SL.BI Idealize.SL.Sem
open Idealize.ShloMosaic Idealize.ShloMosaic.TcCoe

variable {F : FTy → Type} [FloatOps F]

abbrev wA : aM.IsWhole := Memref.isWhole_whole _
abbrev wB : bM.IsWhole := Memref.isWhole_whole _
abbrev wO : outM.IsWhole := Memref.isWhole_whole _
abbrev wC : accM.IsWhole := Memref.isWhole_whole _
abbrev wP : (pb false).IsWhole := Memref.isWhole_whole _
abbrev wQ : (pb true).IsWhole := Memref.isWhole_whole _
abbrev wZ : (zb false).IsWhole := Memref.isWhole_whole _
abbrev wY : (zb true).IsWhole := Memref.isWhole_whole _

/-- Parts 1 to 9, and then `kk`. -/
def seg1 {α : Type}
    (kk : Dev nD → BitVec 32 → BitVec 32 → BitVec 32 → BitVec 32 → BitVec 32 → BitVec 32 → BitVec 32 → BitVec 32 → BitVec 32 → BitVec 32 → BitVec 32 → BitVec 32 → BitVec 32 → Prog (TpuEff nD τ sig (Elt F) Λ₀ .tc) α) : Prog (TpuEff nD τ sig (Elt F) Λ₀ .tc) α := do
  let ⟨d0, v19, v20, v24, v28, v32, v36⟩ ← k0_part1 aM wA bM wB outM wO accM wC (pb false) wP (pb true) wQ (zb false) wZ (zb true) wY cc0_scratch5 cc0_scratch6 cc0_scratch7 cc0_scratch8
  let ⟨v47, v49, v51, v53, v57, v60, v62, cst⟩ ← k0_part2 aM wA bM wB outM wO accM wC (pb false) wP (pb true) wQ (zb false) wZ (zb true) wY cc0_scratch5 cc0_scratch6 cc0_scratch7 cc0_scratch8 d0 v19 v20 v24 v28 v32 v36
  k0_part3 aM wA bM wB outM wO accM wC (pb false) wP (pb true) wQ (zb false) wZ (zb true) wY cc0_scratch5 cc0_scratch6 cc0_scratch7 cc0_scratch8 d0 v19 v20 v24 v57 v60 v62 cst
  k0_part4 aM wA bM wB outM wO accM wC (pb false) wP (pb true) wQ (zb false) wZ (zb true) wY cc0_scratch5 cc0_scratch6 cc0_scratch7 cc0_scratch8 d0 v19 v20 v28
  let v154 ← k0_part5 aM wA bM wB outM wO accM wC (pb false) wP (pb true) wQ (zb false) wZ (zb true) wY cc0_scratch5 cc0_scratch6 cc0_scratch7 cc0_scratch8 d0 v19 v20 v24 v28
  let v186 ← k0_part6 aM wA bM wB outM wO accM wC (pb false) wP (pb true) wQ (zb false) wZ (zb true) wY cc0_scratch5 cc0_scratch6 cc0_scratch7 cc0_scratch8 d0 v19 v20 v24 v154
  k0_part7 aM wA bM wB outM wO accM wC (pb false) wP (pb true) wQ (zb false) wZ (zb true) wY cc0_scratch5 cc0_scratch6 cc0_scratch7 cc0_scratch8 d0 v19 v20 v28 v186
  let ⟨v241, v245⟩ ← k0_part8 aM wA bM wB outM wO accM wC (pb false) wP (pb true) wQ (zb false) wZ (zb true) wY cc0_scratch5 cc0_scratch6 cc0_scratch7 cc0_scratch8 d0 v19 v20 v24 v28
  let ⟨v271, v274, v277⟩ ← k0_part9 aM wA bM wB outM wO accM wC (pb false) wP (pb true) wQ (zb false) wZ (zb true) wY cc0_scratch5 cc0_scratch6 cc0_scratch7 cc0_scratch8 d0 v19 v20 v241 v245
  kk d0 v19 v20 v24 v28 v32 v36 v47 v49 v51 v53 v271 v274 v277

/-- Parts 10 to 15, and then `kk`. -/
def seg2 {α : Type} (d0 : Dev nD) (v24 : BitVec 32) (v274 : BitVec 32) (v277 : BitVec 32) (v19 : BitVec 32) (v20 : BitVec 32) (v28 : BitVec 32) (v271 : BitVec 32)
    (kk : BitVec 32 → BitVec 32 → Prog (TpuEff nD τ sig (Elt F) Λ₀ .tc) α) : Prog (TpuEff nD τ sig (Elt F) Λ₀ .tc) α := do
  k0_part10 aM wA bM wB outM wO accM wC (pb false) wP (pb true) wQ (zb false) wZ (zb true) wY cc0_scratch5 cc0_scratch6 cc0_scratch7 cc0_scratch8 d0 v24 v274 v277
  let ⟨v313, c128_i32_282⟩ ← k0_part11 aM wA bM wB outM wO accM wC (pb false) wP (pb true) wQ (zb false) wZ (zb true) wY cc0_scratch5 cc0_scratch6 cc0_scratch7 cc0_scratch8 d0 v19 v20 v28
  let ⟨v352, v355⟩ ← k0_part12 aM wA bM wB outM wO accM wC (pb false) wP (pb true) wQ (zb false) wZ (zb true) wY cc0_scratch5 cc0_scratch6 cc0_scratch7 cc0_scratch8 d0 v19 v20 v24 v28 v313 c128_i32_282
  let ⟨v391, v393⟩ ← k0_part13 aM wA bM wB outM wO accM wC (pb false) wP (pb true) wQ (zb false) wZ (zb true) wY cc0_scratch5 cc0_scratch6 cc0_scratch7 cc0_scratch8 d0 v19 v20 v24 v352 v355
  k0_part14 aM wA bM wB outM wO accM wC (pb false) wP (pb true) wQ (zb false) wZ (zb true) wY cc0_scratch5 cc0_scratch6 cc0_scratch7 cc0_scratch8 d0 v28 v391 v393
  let ⟨v445, v448⟩ ← k0_part15 aM wA bM wB outM wO accM wC (pb false) wP (pb true) wQ (zb false) wZ (zb true) wY cc0_scratch5 cc0_scratch6 cc0_scratch7 cc0_scratch8 d0 v19 v20 v24 v271
  kk v445 v448

/-- Parts 16 to 21, and then `kk`. -/
def seg3 {α : Type} (d0 : Dev nD) (v19 : BitVec 32) (v24 : BitVec 32) (v445 : BitVec 32) (v448 : BitVec 32) (v20 : BitVec 32) (v28 : BitVec 32) (v271 : BitVec 32)
    (kk : BitVec 32 → BitVec 32 → Prog (TpuEff nD τ sig (Elt F) Λ₀ .tc) α) : Prog (TpuEff nD τ sig (Elt F) Λ₀ .tc) α := do
  let ⟨v485, c2_i32_423⟩ ← k0_part16 aM wA bM wB outM wO accM wC (pb false) wP (pb true) wQ (zb false) wZ (zb true) wY cc0_scratch5 cc0_scratch6 cc0_scratch7 cc0_scratch8 d0 v19 v24 v445 v448
  k0_part17 aM wA bM wB outM wO accM wC (pb false) wP (pb true) wQ (zb false) wZ (zb true) wY cc0_scratch5 cc0_scratch6 cc0_scratch7 cc0_scratch8 d0 v20 v28 v485 c2_i32_423
  let ⟨v525, v539⟩ ← k0_part18 aM wA bM wB outM wO accM wC (pb false) wP (pb true) wQ (zb false) wZ (zb true) wY cc0_scratch5 cc0_scratch6 cc0_scratch7 cc0_scratch8 d0 v19 v20 v24 v28
  let ⟨v564, v566⟩ ← k0_part19 aM wA bM wB outM wO accM wC (pb false) wP (pb true) wQ (zb false) wZ (zb true) wY cc0_scratch5 cc0_scratch6 cc0_scratch7 cc0_scratch8 d0 v19 v20 v24 v28 v525 v539
  let v601 ← k0_part20 aM wA bM wB outM wO accM wC (pb false) wP (pb true) wQ (zb false) wZ (zb true) wY cc0_scratch5 cc0_scratch6 cc0_scratch7 cc0_scratch8 d0 v19 v28 v564 v566
  let ⟨v635, v637⟩ ← k0_part21 aM wA bM wB outM wO accM wC (pb false) wP (pb true) wQ (zb false) wZ (zb true) wY cc0_scratch5 cc0_scratch6 cc0_scratch7 cc0_scratch8 d0 v19 v20 v271 v601
  kk v635 v637

/-- Parts 22 to 27, and then `kk`. -/
def seg4 {α : Type} (d0 : Dev nD) (v24 : BitVec 32) (v635 : BitVec 32) (v637 : BitVec 32) (v19 : BitVec 32) (v20 : BitVec 32) (v28 : BitVec 32) (v271 : BitVec 32)
    (kk : PUnit → Prog (TpuEff nD τ sig (Elt F) Λ₀ .tc) α) : Prog (TpuEff nD τ sig (Elt F) Λ₀ .tc) α := do
  k0_part22 aM wA bM wB outM wO accM wC (pb false) wP (pb true) wQ (zb false) wZ (zb true) wY cc0_scratch5 cc0_scratch6 cc0_scratch7 cc0_scratch8 d0 v24 v635 v637
  let ⟨v675, v695⟩ ← k0_part23 aM wA bM wB outM wO accM wC (pb false) wP (pb true) wQ (zb false) wZ (zb true) wY cc0_scratch5 cc0_scratch6 cc0_scratch7 cc0_scratch8 d0 v19 v20 v24 v28
  let ⟨v714, v717⟩ ← k0_part24 aM wA bM wB outM wO accM wC (pb false) wP (pb true) wQ (zb false) wZ (zb true) wY cc0_scratch5 cc0_scratch6 cc0_scratch7 cc0_scratch8 d0 v19 v20 v24 v28 v675 v695
  let ⟨v752, c4_i32_676⟩ ← k0_part25 aM wA bM wB outM wO accM wC (pb false) wP (pb true) wQ (zb false) wZ (zb true) wY cc0_scratch5 cc0_scratch6 cc0_scratch7 cc0_scratch8 d0 v19 v24 v714 v717
  k0_part26 aM wA bM wB outM wO accM wC (pb false) wP (pb true) wQ (zb false) wZ (zb true) wY cc0_scratch5 cc0_scratch6 cc0_scratch7 cc0_scratch8 d0 v20 v28 v752 c4_i32_676
  k0_part27 aM wA bM wB outM wO accM wC (pb false) wP (pb true) wQ (zb false) wZ (zb true) wY cc0_scratch5 cc0_scratch6 cc0_scratch7 cc0_scratch8 d0 v19 v24 v28 v271
  kk ⟨⟩

/-- Parts 28 to 32, and then `kk`. -/
def seg5 {α : Type} (d0 : Dev nD) (v19 : BitVec 32) (v32 : BitVec 32) (v47 : BitVec 32) (v28 : BitVec 32) (v36 : BitVec 32) (v49 : BitVec 32) (v20 : BitVec 32) (v24 : BitVec 32)
    (kk : BitVec 32 → Prog (TpuEff nD τ sig (Elt F) Λ₀ .tc) α) : Prog (TpuEff nD τ sig (Elt F) Λ₀ .tc) α := do
  k0_part28 aM wA bM wB outM wO accM wC (pb false) wP (pb true) wQ (zb false) wZ (zb true) wY cc0_scratch5 cc0_scratch6 cc0_scratch7 cc0_scratch8 d0 v19 v32 v47
  k0_part29 aM wA bM wB outM wO accM wC (pb false) wP (pb true) wQ (zb false) wZ (zb true) wY cc0_scratch5 cc0_scratch6 cc0_scratch7 cc0_scratch8 d0 v19 v28 v36 v49
  let ⟨v875, v896⟩ ← k0_part30 aM wA bM wB outM wO accM wC (pb false) wP (pb true) wQ (zb false) wZ (zb true) wY cc0_scratch5 cc0_scratch6 cc0_scratch7 cc0_scratch8 d0 v19 v20 v24
  let ⟨v915, v917⟩ ← k0_part31 aM wA bM wB outM wO accM wC (pb false) wP (pb true) wQ (zb false) wZ (zb true) wY cc0_scratch5 cc0_scratch6 cc0_scratch7 cc0_scratch8 d0 v19 v20 v24 v28 v875 v896
  let v953 ← k0_part32 aM wA bM wB outM wO accM wC (pb false) wP (pb true) wQ (zb false) wZ (zb true) wY cc0_scratch5 cc0_scratch6 cc0_scratch7 cc0_scratch8 d0 v28 v32 v915 v917
  kk v953

/-- Parts 33 to 38, and then `kk`. -/
def seg6 {α : Type} (d0 : Dev nD) (v19 : BitVec 32) (v24 : BitVec 32) (v47 : BitVec 32) (v953 : BitVec 32) (v32 : BitVec 32) (v36 : BitVec 32) (v28 : BitVec 32) (v49 : BitVec 32) (v20 : BitVec 32)
    (kk : PUnit → Prog (TpuEff nD τ sig (Elt F) Λ₀ .tc) α) : Prog (TpuEff nD τ sig (Elt F) Λ₀ .tc) α := do
  let ⟨v970, v977, v982⟩ ← k0_part33 aM wA bM wB outM wO accM wC (pb false) wP (pb true) wQ (zb false) wZ (zb true) wY cc0_scratch5 cc0_scratch6 cc0_scratch7 cc0_scratch8 d0 v19 v24 v47 v953
  k0_part34 aM wA bM wB outM wO accM wC (pb false) wP (pb true) wQ (zb false) wZ (zb true) wY cc0_scratch5 cc0_scratch6 cc0_scratch7 cc0_scratch8 d0 v32 v36 v970 v977 v982
  k0_part35 aM wA bM wB outM wO accM wC (pb false) wP (pb true) wQ (zb false) wZ (zb true) wY cc0_scratch5 cc0_scratch6 cc0_scratch7 cc0_scratch8 d0 v19 v28 v36 v49
  let ⟨v1043, v1064, v1065⟩ ← k0_part36 aM wA bM wB outM wO accM wC (pb false) wP (pb true) wQ (zb false) wZ (zb true) wY cc0_scratch5 cc0_scratch6 cc0_scratch7 cc0_scratch8 d0 v19 v20 v24
  let ⟨v1083, v1085⟩ ← k0_part37 aM wA bM wB outM wO accM wC (pb false) wP (pb true) wQ (zb false) wZ (zb true) wY cc0_scratch5 cc0_scratch6 cc0_scratch7 cc0_scratch8 d0 v19 v20 v24 v28 v1043 v1064 v1065
  k0_part38 aM wA bM wB outM wO accM wC (pb false) wP (pb true) wQ (zb false) wZ (zb true) wY cc0_scratch5 cc0_scratch6 cc0_scratch7 cc0_scratch8 d0 v28 v1083 v1085
  kk ⟨⟩

/-- Parts 39 to 45, and then `kk`. -/
def seg7 {α : Type} (d0 : Dev nD) (v19 : BitVec 32) (v24 : BitVec 32) (v32 : BitVec 32) (v47 : BitVec 32) (v36 : BitVec 32) (v28 : BitVec 32) (v49 : BitVec 32) (v51 : BitVec 32) (v53 : BitVec 32) (v20 : BitVec 32)
    (kk : BitVec 32 → BitVec 32 → Prog (TpuEff nD τ sig (Elt F) Λ₀ .tc) α) : Prog (TpuEff nD τ sig (Elt F) Λ₀ .tc) α := do
  let ⟨v1138, v1145⟩ ← k0_part39 aM wA bM wB outM wO accM wC (pb false) wP (pb true) wQ (zb false) wZ (zb true) wY cc0_scratch5 cc0_scratch6 cc0_scratch7 cc0_scratch8 d0 v19 v24 v32 v47
  k0_part40 aM wA bM wB outM wO accM wC (pb false) wP (pb true) wQ (zb false) wZ (zb true) wY cc0_scratch5 cc0_scratch6 cc0_scratch7 cc0_scratch8 d0 v32 v36 v1138 v1145
  k0_part41 aM wA bM wB outM wO accM wC (pb false) wP (pb true) wQ (zb false) wZ (zb true) wY cc0_scratch5 cc0_scratch6 cc0_scratch7 cc0_scratch8 d0 v19 v28 v36 v49
  let v1228 ← k0_part42 aM wA bM wB outM wO accM wC (pb false) wP (pb true) wQ (zb false) wZ (zb true) wY cc0_scratch5 cc0_scratch6 cc0_scratch7 cc0_scratch8 d0 v24 v32
  k0_part43 aM wA bM wB outM wO accM wC (pb false) wP (pb true) wQ (zb false) wZ (zb true) wY cc0_scratch5 cc0_scratch6 cc0_scratch7 cc0_scratch8 d0 v36 v47 v51 v1228
  let ⟨v1292, v1297⟩ ← k0_part44 aM wA bM wB outM wO accM wC (pb false) wP (pb true) wQ (zb false) wZ (zb true) wY cc0_scratch5 cc0_scratch6 cc0_scratch7 cc0_scratch8 d0 v28 v49 v53
  let ⟨v1328, v1330⟩ ← k0_part45 aM wA bM wB outM wO accM wC (pb false) wP (pb true) wQ (zb false) wZ (zb true) wY cc0_scratch5 cc0_scratch6 cc0_scratch7 cc0_scratch8 d0 v19 v20 v32 v47 v49 v53 v1292 v1297
  kk v1328 v1330

/-- Parts 46 to 60, and then `kk`. -/
def seg8 {α : Type} (d0 : Dev nD) (v19 : BitVec 32) (v24 : BitVec 32) (v36 : BitVec 32) (v49 : BitVec 32) (v1328 : BitVec 32) (v1330 : BitVec 32) (v20 : BitVec 32) (v28 : BitVec 32) (v32 : BitVec 32) (v47 : BitVec 32)
    (kk : BitVec 32 → BitVec 32 → Prog (TpuEff nD τ sig (Elt F) Λ₀ .tc) α) : Prog (TpuEff nD τ sig (Elt F) Λ₀ .tc) α := do
  let v1359 ← k0_part46 aM wA bM wB outM wO accM wC (pb false) wP (pb true) wQ (zb false) wZ (zb true) wY cc0_scratch5 cc0_scratch6 cc0_scratch7 cc0_scratch8 d0 v19 v24 v36 v49 v1328 v1330
  let v1381 ← k0_part47 aM wA bM wB outM wO accM wC (pb false) wP (pb true) wQ (zb false) wZ (zb true) wY cc0_scratch5 cc0_scratch6 cc0_scratch7 cc0_scratch8 d0 v19 v20 v28 v32 v1359
  let ⟨v1414, c0_i32_1342⟩ ← k0_part48 aM wA bM wB outM wO accM wC (pb false) wP (pb true) wQ (zb false) wZ (zb true) wY cc0_scratch5 cc0_scratch6 cc0_scratch7 cc0_scratch8 d0 v19 v20 v24 v32 v47
  let ⟨v1444, c4_i32_1369⟩ ← k0_part49 aM wA bM wB outM wO accM wC (pb false) wP (pb true) wQ (zb false) wZ (zb true) wY cc0_scratch5 cc0_scratch6 cc0_scratch7 cc0_scratch8 d0 v19 v36 v49 v1414 c0_i32_1342
  let ⟨v1471, v1472⟩ ← k0_part50 aM wA bM wB outM wO accM wC (pb false) wP (pb true) wQ (zb false) wZ (zb true) wY cc0_scratch5 cc0_scratch6 cc0_scratch7 cc0_scratch8 d0 v19 v20 v28 v32 v47 v1444 c4_i32_1369
  k0_part51 aM wA bM wB outM wO accM wC (pb false) wP (pb true) wQ (zb false) wZ (zb true) wY cc0_scratch5 cc0_scratch6 cc0_scratch7 cc0_scratch8 d0 v19 v20 v24 v32 v1471 v1472
  let ⟨v1526, v1529, c4_i32_1458⟩ ← k0_part52 aM wA bM wB outM wO accM wC (pb false) wP (pb true) wQ (zb false) wZ (zb true) wY cc0_scratch5 cc0_scratch6 cc0_scratch7 cc0_scratch8 d0 v19 v20 v36 v49
  k0_part53 aM wA bM wB outM wO accM wC (pb false) wP (pb true) wQ (zb false) wZ (zb true) wY cc0_scratch5 cc0_scratch6 cc0_scratch7 cc0_scratch8 d0 v19 v24 v28 v32 v47 v1526 v1529 c4_i32_1458
  k0_part54 aM wA bM wB outM wO accM wC (pb false) wP (pb true) wQ (zb false) wZ (zb true) wY cc0_scratch5 cc0_scratch6 cc0_scratch7 cc0_scratch8 d0 v28 v36 v1381
  k0_part55 aM wA bM wB outM wO accM wC (pb false) wP (pb true) wQ (zb false) wZ (zb true) wY cc0_scratch5 cc0_scratch6 cc0_scratch7 cc0_scratch8 d0 v19 v24 v28 v49 v1381
  k0_part56 aM wA bM wB outM wO accM wC (pb false) wP (pb true) wQ (zb false) wZ (zb true) wY cc0_scratch5 cc0_scratch6 cc0_scratch7 cc0_scratch8 d0 v19 v20 v24
  k0_part57 aM wA bM wB outM wO accM wC (pb false) wP (pb true) wQ (zb false) wZ (zb true) wY cc0_scratch5 cc0_scratch6 cc0_scratch7 cc0_scratch8 d0 v19 v20 v28
  k0_part58 aM wA bM wB outM wO accM wC (pb false) wP (pb true) wQ (zb false) wZ (zb true) wY cc0_scratch5 cc0_scratch6 cc0_scratch7 cc0_scratch8 d0 v19 v20 v24
  k0_part59 aM wA bM wB outM wO accM wC (pb false) wP (pb true) wQ (zb false) wZ (zb true) wY cc0_scratch5 cc0_scratch6 cc0_scratch7 cc0_scratch8 d0 v19 v20 v28
  let v1737 ← k0_part60 aM wA bM wB outM wO accM wC (pb false) wP (pb true) wQ (zb false) wZ (zb true) wY cc0_scratch5 cc0_scratch6 cc0_scratch7 cc0_scratch8 d0 v19 v20 v24 v28
  kk v1381 v1737

/-- Parts 61 to 70, and then `kk`. -/
def seg9 {α : Type} (d0 : Dev nD) (v19 : BitVec 32) (v20 : BitVec 32) (v24 : BitVec 32) (v28 : BitVec 32) (v1737 : BitVec 32) (v1381 : BitVec 32)
    (kk : PUnit → Prog (TpuEff nD τ sig (Elt F) Λ₀ .tc) α) : Prog (TpuEff nD τ sig (Elt F) Λ₀ .tc) α := do
  k0_part61 aM wA bM wB outM wO accM wC (pb false) wP (pb true) wQ (zb false) wZ (zb true) wY cc0_scratch5 cc0_scratch6 cc0_scratch7 cc0_scratch8 d0 v19 v20 v24 v28 v1737
  k0_part62 aM wA bM wB outM wO accM wC (pb false) wP (pb true) wQ (zb false) wZ (zb true) wY cc0_scratch5 cc0_scratch6 cc0_scratch7 cc0_scratch8 d0 v19 v20 v24 v28
  k0_part63 aM wA bM wB outM wO accM wC (pb false) wP (pb true) wQ (zb false) wZ (zb true) wY cc0_scratch5 cc0_scratch6 cc0_scratch7 cc0_scratch8 d0 v19 v20 v24 v28
  let ⟨v1843, c1_i32_1836⟩ ← k0_part64 aM wA bM wB outM wO accM wC (pb false) wP (pb true) wQ (zb false) wZ (zb true) wY cc0_scratch5 cc0_scratch6 cc0_scratch7 cc0_scratch8 d0 v19 v20 v24 v28
  let v1870 ← k0_part65 aM wA bM wB outM wO accM wC (pb false) wP (pb true) wQ (zb false) wZ (zb true) wY cc0_scratch5 cc0_scratch6 cc0_scratch7 cc0_scratch8 d0 v19 v20 v24 v28 v1843 c1_i32_1836
  let ⟨v1896, c1_i32_1899⟩ ← k0_part66 aM wA bM wB outM wO accM wC (pb false) wP (pb true) wQ (zb false) wZ (zb true) wY cc0_scratch5 cc0_scratch6 cc0_scratch7 cc0_scratch8 d0 v19 v20 v24 v28 v1870
  k0_part67 aM wA bM wB outM wO accM wC (pb false) wP (pb true) wQ (zb false) wZ (zb true) wY cc0_scratch5 cc0_scratch6 cc0_scratch7 cc0_scratch8 d0 v20 v24 v28 v1896 c1_i32_1899
  k0_part68 aM wA bM wB outM wO accM wC (pb false) wP (pb true) wQ (zb false) wZ (zb true) wY cc0_scratch5 cc0_scratch6 cc0_scratch7 cc0_scratch8 d0 v24 v28
  k0_part69 aM wA bM wB outM wO accM wC (pb false) wP (pb true) wQ (zb false) wZ (zb true) wY cc0_scratch5 cc0_scratch6 cc0_scratch7 cc0_scratch8 d0 v24 v28
  k0_part70 aM wA bM wB outM wO accM wC (pb false) wP (pb true) wQ (zb false) wZ (zb true) wY cc0_scratch5 cc0_scratch6 cc0_scratch7 cc0_scratch8 d0 v28 v1381
  kk ⟨⟩

/-- Parts 71 to 85, and then `kk`. -/
def seg10 {α : Type} (d0 : Dev nD)
    (kk : PUnit → Prog (TpuEff nD τ sig (Elt F) Λ₀ .tc) α) : Prog (TpuEff nD τ sig (Elt F) Λ₀ .tc) α := do
  k0_part71 aM wA bM wB outM wO accM wC (pb false) wP (pb true) wQ (zb false) wZ (zb true) wY cc0_scratch5 cc0_scratch6 cc0_scratch7 cc0_scratch8 d0
  k0_part72 aM wA bM wB outM wO accM wC (pb false) wP (pb true) wQ (zb false) wZ (zb true) wY cc0_scratch5 cc0_scratch6 cc0_scratch7 cc0_scratch8 d0
  k0_part73 aM wA bM wB outM wO accM wC (pb false) wP (pb true) wQ (zb false) wZ (zb true) wY cc0_scratch5 cc0_scratch6 cc0_scratch7 cc0_scratch8 d0
  k0_part74 aM wA bM wB outM wO accM wC (pb false) wP (pb true) wQ (zb false) wZ (zb true) wY cc0_scratch5 cc0_scratch6 cc0_scratch7 cc0_scratch8 d0
  k0_part75 aM wA bM wB outM wO accM wC (pb false) wP (pb true) wQ (zb false) wZ (zb true) wY cc0_scratch5 cc0_scratch6 cc0_scratch7 cc0_scratch8 d0
  k0_part76 aM wA bM wB outM wO accM wC (pb false) wP (pb true) wQ (zb false) wZ (zb true) wY cc0_scratch5 cc0_scratch6 cc0_scratch7 cc0_scratch8 d0
  k0_part77 aM wA bM wB outM wO accM wC (pb false) wP (pb true) wQ (zb false) wZ (zb true) wY cc0_scratch5 cc0_scratch6 cc0_scratch7 cc0_scratch8 d0
  k0_part78 aM wA bM wB outM wO accM wC (pb false) wP (pb true) wQ (zb false) wZ (zb true) wY cc0_scratch5 cc0_scratch6 cc0_scratch7 cc0_scratch8 d0
  k0_part79 aM wA bM wB outM wO accM wC (pb false) wP (pb true) wQ (zb false) wZ (zb true) wY cc0_scratch5 cc0_scratch6 cc0_scratch7 cc0_scratch8 d0
  k0_part80 aM wA bM wB outM wO accM wC (pb false) wP (pb true) wQ (zb false) wZ (zb true) wY cc0_scratch5 cc0_scratch6 cc0_scratch7 cc0_scratch8 d0
  k0_part81 aM wA bM wB outM wO accM wC (pb false) wP (pb true) wQ (zb false) wZ (zb true) wY cc0_scratch5 cc0_scratch6 cc0_scratch7 cc0_scratch8 d0
  k0_part82 aM wA bM wB outM wO accM wC (pb false) wP (pb true) wQ (zb false) wZ (zb true) wY cc0_scratch5 cc0_scratch6 cc0_scratch7 cc0_scratch8 d0
  k0_part83 aM wA bM wB outM wO accM wC (pb false) wP (pb true) wQ (zb false) wZ (zb true) wY cc0_scratch5 cc0_scratch6 cc0_scratch7 cc0_scratch8 d0
  k0_part84 aM wA bM wB outM wO accM wC (pb false) wP (pb true) wQ (zb false) wZ (zb true) wY cc0_scratch5 cc0_scratch6 cc0_scratch7 cc0_scratch8 d0
  k0_part85 aM wA bM wB outM wO accM wC (pb false) wP (pb true) wQ (zb false) wZ (zb true) wY cc0_scratch5 cc0_scratch6 cc0_scratch7 cc0_scratch8
  kk ⟨⟩

end Cert.Mesh

end
-- ==== Proof.Seg1.lean ====
/-
# The first segment

The barrier; the device's own quarter of the local product, slab by slab, each slab sent on as soon as it is there; and the
two odd quarters.
-/
module

public import proofs.«01_k».proof.Proof.Segs

@[expose] public section

noncomputable section

namespace Cert.Mesh

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.TcCoe

open X

variable {F : FTy → Type} [FloatOps F]

local notation "𝕄" => MT nD τ sig Unit (Elt F) ℕ UU ℕ

variable (av : Dev nD → Vec F S2048x1024 .bf16) (bv : Dev nD → Vec F S1024x2048 .bf16)

/-- Quarter `a` of the local product's buffer, in slabs counted from the device's own row, before anything is in it. -/
def blankS (c : Dev nD) (a : Fin 4) : sProp 𝕄 :=
  iprop(any c (accS (row a (px c))) ∗ any c (accS (row a (px c + 3))) ∗ any c (accS (row a (px c + 1))) ∗ any c (accS (row a (px c + 2))))

omit [FloatOps F] in
theorem extra_first (b : Dev nD) : (extra (pa 0 0 false) b : sProp 𝕄) = fars b := by unfold extra; exact if_pos rfl

set_option maxRecDepth 8000 in
set_option maxHeartbeats 4000000 in
theorem seg1_ok (K : Dev nD × KI → ℕ) (c : Dev nD) {α : Type} {Q : α → sProp 𝕄}
    {kk : Dev nD → BitVec 32 → BitVec 32 → BitVec 32 → BitVec 32 → BitVec 32 → BitVec 32 → BitVec 32 → BitVec 32 → BitVec 32 → BitVec 32 → BitVec 32 → BitVec 32 → BitVec 32 → Prog (TpuEff nD τ sig (Elt F) Λ₀ .tc) α}
    (R : sProp 𝕄)
    (hk : ∀ v19 v20 v24 v28 v32 v36 v47 v49 v51 v53 v271 v274 v277,
      iprop(Pst av bv K c 8 0 ∗ semVal (barCell c) 0 ∗ opA av c ∗ opB bv c ∗ quartR av bv c (qx c + 1) ∗ quartR av bv c (qx c + 3) ∗ R)
        ⊢ runs c (kk c v19 v20 v24 v28 v32 v36 v47 v49 v51 v53 v271 v274 v277) Q) :
    iprop(Bst av bv K c sigs ∗ bigSepL order (sendTok c) ∗ bigSepL rOrder (coming (F := F) c) ∗ opA av c ∗ opB bv c ∗ blankS c (qx c)
        ∗ any c (accQ (qx c + 1)) ∗ any c (accQ (qx c + 3)) ∗ R)
      ⊢ runs c (seg1 kk) Q := by
  unfold seg1
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold sigs blankS
  iintro ⟨HB, Hts, Hco, Ha, Hb, ⟨HS0, HS3, HS1, HS2⟩, HQ1, HQ3, HR⟩
  iapply (sig_step av bv K c 1 [0, 3, 2] (Fin.ext ((by decide +kernel : ∀ c, k0_dev1 c = (payee 1 c).val) c)) (by decide)) $$ HB
  iintro HB
  iapply (sig_step av bv K c 0 [3, 2] (Fin.ext ((by decide +kernel : ∀ c, k0_dev2 c = (payee 0 c).val) c)) (by decide)) $$ HB
  iintro HB
  iapply (sig_step av bv K c 3 [2] (Fin.ext ((by decide +kernel : ∀ c, k0_dev3 c = (payee 3 c).val) c)) (by decide)) $$ HB
  iintro HB
  iapply (sig_step av bv K c 2 [] (Fin.ext ((by decide +kernel : ∀ c, k0_dev4 c = (payee 2 c).val) c)) (by decide)) $$ HB
  iintro HB
  iapply (bar_step av bv K c (by decide)) $$ [HB Hts Hco]
  · isplitl [HB]; · iexact HB
    isplitl [Hts] <;> iassumption
  iintro ⟨HP, Hf, Hz⟩
  iapply (slab_step av bv c (row (qx c) (px c)) (off1_eq c) (off2_eq c) _ rfl) $$ [Ha Hb HS0]
  · isplitl [Ha]; · iexact Ha
    isplitl [Hb] <;> iassumption
  iintro ⟨Ha, Hb, HS0⟩
  ihave HS0 := (slab_sends av bv c (px c) 0 0 ((by decide +kernel : ∀ c, slab false 0 c = px c) c) ((by decide +kernel : ∀ c, slab true 0 c = px c) c)) $$ HS0
  icases HS0 with ⟨H00, H01⟩
  iapply (send_core av bv K c (pa 0 0 false) 0 0 rfl (dv k0_dev5 (pa 0 0 false) (by decide +kernel) c) (accB_at (off4_eq c 0 (by decide))) (pbB_at (d := false) (off3_eq c 0 (by decide))) rfl rfl)
    $$ [HP H00 Hf]
  · isplitl [HP]; · iexact HP
    isplitl [H00]; · iexact H00
    isplitr; · iapply (Entails.of_eq (ownLand_none (pa 0 0 false) (pa_near _ _ _) _).symm); iempintro
    iapply (Entails.of_eq (extra_first (tgt (pa 0 0 false) c)).symm); iexact Hf
  iintro HP
  iapply (send_step av bv K c (pa 0 0 true) 1 0 rfl (pa_near _ _ _) (by decide) (dv k0_dev6 (pa 0 0 true) (by decide +kernel) c) (accB_at (off6_eq c 0)) (pbB_at (d := true) (off5_eq c 0)) rfl rfl) $$ [HP H01]
  · isplitl [HP] <;> iassumption
  iintro HP
  iapply (slab_step av bv c (row (qx c) (px c + 3)) (off7_eq c 3 (by decide)) (off8_eq c 3 (by decide)) _ rfl) $$ [Ha Hb HS3]
  · isplitl [Ha]; · iexact Ha
    isplitl [Hb] <;> iassumption
  iintro ⟨Ha, Hb, HS3⟩
  ihave HS3 := (slab_sends av bv c (px c + 3) 1 3 ((by decide +kernel : ∀ c, slab false 1 c = px c + 3) c) ((by decide +kernel : ∀ c, slab true 3 c = px c + 3) c)) $$ HS3
  icases HS3 with ⟨H10, H31⟩
  iapply (send_step av bv K c (pa 1 0 false) 2 0 rfl (pa_near _ _ _) (by decide) (dv k0_dev7 (pa 1 0 false) (by decide +kernel) c) (accB_at (off4_eq c 1 (by decide))) (pbB_at (d := false) (off3_eq c 1 (by decide))) rfl rfl) $$ [HP H10]
  · isplitl [HP] <;> iassumption
  iintro HP
  iapply (slab_step av bv c (row (qx c) (px c + 1)) (off7_eq c 1 (by decide)) (off8_eq c 1 (by decide)) _ rfl) $$ [Ha Hb HS1]
  · isplitl [Ha]; · iexact Ha
    isplitl [Hb] <;> iassumption
  iintro ⟨Ha, Hb, HS1⟩
  ihave HS1 := (slab_sends av bv c (px c + 1) 3 1 ((by decide +kernel : ∀ c, slab false 3 c = px c + 1) c) ((by decide +kernel : ∀ c, slab true 1 c = px c + 1) c)) $$ HS1
  icases HS1 with ⟨H30, H11⟩
  iapply (send_step av bv K c (pa 1 0 true) 3 0 rfl (pa_near _ _ _) (by decide) (dv k0_dev8 (pa 1 0 true) (by decide +kernel) c) (accB_at (off6_eq c 1)) (pbB_at (d := true) (off5_eq c 1)) rfl rfl) $$ [HP H11]
  · isplitl [HP] <;> iassumption
  iintro HP
  iapply (slab_step av bv c (row (qx c) (px c + 2)) (off7_eq c 2 (by decide)) (off8_eq c 2 (by decide)) _ rfl) $$ [Ha Hb HS2]
  · isplitl [Ha]; · iexact Ha
    isplitl [Hb] <;> iassumption
  iintro ⟨Ha, Hb, HS2⟩
  ihave HS2 := (slab_sends av bv c (px c + 2) 2 2 ((by decide +kernel : ∀ c, slab false 2 c = px c + 2) c) ((by decide +kernel : ∀ c, slab true 2 c = px c + 2) c)) $$ HS2
  icases HS2 with ⟨H20, H21⟩
  iapply (send_step av bv K c (pa 2 0 false) 4 0 rfl (pa_near _ _ _) (by decide) (dv k0_dev9 (pa 2 0 false) (by decide +kernel) c) (accB_at (off4_eq c 2 (by decide))) (pbB_at (d := false) (off3_eq c 2 (by decide))) rfl rfl) $$ [HP H20]
  · isplitl [HP] <;> iassumption
  iintro HP
  iapply (send_step av bv K c (pa 2 0 true) 5 0 rfl (pa_near _ _ _) (by decide) (dv k0_dev10 (pa 2 0 true) (by decide +kernel) c) (accB_at (off6_eq c 2)) (pbB_at (d := true) (off5_eq c 2)) rfl rfl) $$ [HP H21]
  · isplitl [HP] <;> iassumption
  iintro HP
  iapply (send_step av bv K c (pa 3 0 false) 6 0 rfl (pa_near _ _ _) (by decide) (dv k0_dev11 (pa 3 0 false) (by decide +kernel) c) (accB_at (off9_eq c)) (pbB_at (d := false) (three c (off5_eq c 1))) rfl rfl) $$ [HP H30]
  · isplitl [HP] <;> iassumption
  iintro HP
  iapply (send_step av bv K c (pa 3 0 true) 7 0 rfl (pa_near _ _ _) (by decide) (dv k0_dev12 (pa 3 0 true) (by decide +kernel) c) (accB_at (off6_eq c 3)) (pbB_at (d := true) (off5_eq c 3)) rfl rfl) $$ [HP H31]
  · isplitl [HP] <;> iassumption
  iintro HP
  iapply (quart_step av bv c (qx c + 1) (off10_eq c 1 (by decide)) (off11_eq c 1 (by decide)) _ rfl) $$ [Ha Hb HQ1]
  · isplitl [Ha]; · iexact Ha
    isplitl [Hb] <;> iassumption
  iintro ⟨Ha, Hb, HQ1⟩
  iapply (quart_step av bv c (qx c + 3) (off10_eq c 3 (by decide)) (off11_eq c 3 (by decide)) _ rfl) $$ [Ha Hb HQ3]
  · isplitl [Ha]; · iexact Ha
    isplitl [Hb] <;> iassumption
  iintro ⟨Ha, Hb, HQ3⟩
  iapply hk
  isplitl [HP]; · iexact HP
  isplitl [Hz]; · iexact Hz
  isplitl [Ha]; · iexact Ha
  isplitl [Hb]; · iexact Hb
  isplitl [HQ1]; · iexact HQ1
  isplitl [HQ3] <;> iassumption

end Cert.Mesh

end
-- ==== Proof.Seg2.lean ====
/-
# The second and third segment

The first hops along the row, and the second ones of the first chain.
-/
module

public import proofs.«01_k».proof.Proof.Seg1

@[expose] public section

noncomputable section

namespace Cert.Mesh

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.TcCoe

open X

variable {F : FTy → Type} [FloatOps F]

local notation "𝕄" => MT nD τ sig Unit (Elt F) ℕ UU ℕ

variable (av : Dev nD → Vec F S2048x1024 .bf16) (bv : Dev nD → Vec F S1024x2048 .bf16)

/-! ## Which part of the local product a hop adds -/

theorem acc_one_r (t : Fin 4) (c : Dev nD) : accR av bv false t 1 c = quartR av bv c (qx c + 3) := by
  unfold accR; rw [if_neg (by decide), (by decide +kernel : ∀ c, quarter false 1 c = qx c + 3) c]
theorem acc_one_l (t : Fin 4) (c : Dev nD) : accR av bv true t 1 c = quartR av bv c (qx c + 1) := by
  unfold accR; rw [if_neg (by decide), (by decide +kernel : ∀ c, quarter true 1 c = qx c + 1) c]
theorem acc_three_r (t : Fin 4) (c : Dev nD) : accR av bv false t 3 c = quartR av bv c (qx c + 1) := by
  unfold accR; rw [if_neg (by decide), (by decide +kernel : ∀ c, quarter false 3 c = qx c + 1) c]
theorem acc_three_l (t : Fin 4) (c : Dev nD) : accR av bv true t 3 c = quartR av bv c (qx c + 3) := by
  unfold accR; rw [if_neg (by decide), (by decide +kernel : ∀ c, quarter true 3 c = qx c + 3) c]
theorem acc_two (d : Bool) (j : Fin 4) (c : Dev nD) (t : Fin 4) (ht : slab d j c = t) : accR av bv d (slab d j c) 2 c = slabR av bv c (row (qx c + 2) t) := by
  unfold accR; rw [if_pos (by decide), (by decide +kernel : ∀ d c, quarter d 2 c = qx c + 2) d c, ht]

set_option maxRecDepth 8000 in
set_option maxHeartbeats 4000000 in
theorem seg2_ok (K : Dev nD × KI → ℕ) (c : Dev nD) {v24 v274 v277 v19 v20 v28 v271 : BitVec 32} {α : Type} {Q : α → sProp 𝕄}
    {kk : BitVec 32 → BitVec 32 → Prog (TpuEff nD τ sig (Elt F) Λ₀ .tc) α} (R : sProp 𝕄)
    (hk : ∀ v445 v448, iprop(Pst av bv K c 12 4 ∗ opA av c ∗ opB bv c ∗ quartR av bv c (qx c + 1) ∗ quartR av bv c (qx c + 3) ∗ slabR av bv c (row (qx c + 2) (px c)) ∗ fars c ∗ R)
      ⊢ runs c (kk v445 v448) Q) :
    iprop(Pst av bv K c 8 0 ∗ opA av c ∗ opB bv c ∗ quartR av bv c (qx c + 1) ∗ quartR av bv c (qx c + 3) ∗ any c (accS (row (qx c + 2) (px c))) ∗ R)
      ⊢ runs c (seg2 c v24 v274 v277 v19 v20 v28 v271 kk) Q := by
  unfold seg2
  simp only [k0_part10_eq_skeleton, k0_part11_eq_skeleton, k0_part12_eq_skeleton, k0_part13_eq_skeleton, k0_part14_eq_skeleton, k0_part15_eq_skeleton]
  unfold k0_part10_skel k0_part11_skel k0_part12_skel k0_part13_skel k0_part14_skel k0_part15_skel
  simp only [Prog.lift, Prog.bind_op, Prog.bind_ret, Prog.pure_eq_ret]
  iintro ⟨HP, HA, HB, H1, H3, S0, HR⟩
  iapply (rs_step av bv K c false 0 0 1 rfl 8 0 rfl (by decide +kernel) rfl (acc_one_r av bv _ c) rfl (blk_credit _)
      (off12_eq c 0 (by decide)) (off13_eq c 1 0 (by decide) (by decide)) _ rfl
      (dv k0_dev13 (pa 0 1 false) (by decide +kernel) c) (pbB_at (d := false) (off3_eq c 0 (by decide))) (pbB_at (d := false) (off14_eq c 0 (by decide))) rfl rfl) $$ [HP H3]
  · isplitl [HP] <;> iassumption
  iintro ⟨HP, H3, HF⟩
  ihave HF := (Entails.of_eq (extra_first c)) $$ HF
  iapply (rs_step av bv K c true 0 0 1 rfl 9 1 rfl (by decide +kernel) rfl (acc_one_l av bv _ c) rfl (blk_credit _)
      (off15_eq c 0) (off16_eq c 1 0) _ rfl
      (dv k0_dev14 (pa 0 1 true) (by decide +kernel) c) (pbB_at (d := true) (off5_eq c 0)) (pbB_at (d := true) (off17_eq c 0)) rfl rfl) $$ [HP H1]
  · isplitl [HP] <;> iassumption
  iintro ⟨HP, H1, -⟩
  iapply (rs_step av bv K c false 1 0 1 rfl 10 2 rfl (by decide +kernel) rfl (acc_one_r av bv _ c) rfl (blk_credit _)
      (off12_eq c 1 (by decide)) (off13_eq c 1 1 (by decide) (by decide)) _ rfl
      (dv k0_dev15 (pa 1 1 false) (by decide +kernel) c) (pbB_at (d := false) (off3_eq c 1 (by decide))) (pbB_at (d := false) (off14_eq c 1 (by decide))) rfl rfl) $$ [HP H3]
  · isplitl [HP] <;> iassumption
  iintro ⟨HP, H3, -⟩
  iapply (rs_step av bv K c true 1 0 1 rfl 11 3 rfl (by decide +kernel) rfl (acc_one_l av bv _ c) rfl (blk_credit _)
      (off15_eq c 1) (off16_eq c 1 1) _ rfl
      (dv k0_dev16 (pa 1 1 true) (by decide +kernel) c) (pbB_at (d := true) (off5_eq c 1)) (pbB_at (d := true) (off17_eq c 1)) rfl rfl) $$ [HP H1]
  · isplitl [HP] <;> iassumption
  iintro ⟨HP, H1, -⟩
  iapply (slab_step av bv c (row (qx c + 2) (px c)) (off18_eq c) (off19_eq c) _ rfl) $$ [HA HB S0]
  · isplitl [HA]; · iexact HA
    isplitl [HB] <;> iassumption
  iintro ⟨HA, HB, S0⟩
  iapply hk
  isplitl [HP]; · iexact HP
  isplitl [HA]; · iexact HA
  isplitl [HB]; · iexact HB
  isplitl [H1]; · iexact H1
  isplitl [H3]; · iexact H3
  isplitl [S0]; · iexact S0
  isplitl [HF]; · iexact HF
  iexact HR

set_option maxRecDepth 8000 in
set_option maxHeartbeats 4000000 in
theorem seg3_ok (K : Dev nD × KI → ℕ) (c : Dev nD) {v19 v24 v445 v448 v20 v28 v271 : BitVec 32} {α : Type} {Q : α → sProp 𝕄}
    {kk : BitVec 32 → BitVec 32 → Prog (TpuEff nD τ sig (Elt F) Λ₀ .tc) α} (R : sProp 𝕄)
    (hk : ∀ v635 v637, iprop(Pst av bv K c 16 8 ∗ opA av c ∗ opB bv c ∗ quartR av bv c (qx c + 1) ∗ quartR av bv c (qx c + 3) ∗ slabR av bv c (row (qx c + 2) (px c)) ∗ slabR av bv c (row (qx c + 2) (px c + 3)) ∗ slabR av bv c (row (qx c + 2) (px c + 1)) ∗ R)
      ⊢ runs c (kk v635 v637) Q) :
    iprop(Pst av bv K c 12 4 ∗ opA av c ∗ opB bv c ∗ quartR av bv c (qx c + 1) ∗ quartR av bv c (qx c + 3) ∗ slabR av bv c (row (qx c + 2) (px c)) ∗ any c (accS (row (qx c + 2) (px c + 3))) ∗ any c (accS (row (qx c + 2) (px c + 1))) ∗ R)
      ⊢ runs c (seg3 c v19 v24 v445 v448 v20 v28 v271 kk) Q := by
  unfold seg3
  simp only [k0_part16_eq_skeleton, k0_part17_eq_skeleton, k0_part18_eq_skeleton, k0_part19_eq_skeleton, k0_part20_eq_skeleton, k0_part21_eq_skeleton]
  unfold k0_part16_skel k0_part17_skel k0_part18_skel k0_part19_skel k0_part20_skel k0_part21_skel
  simp only [Prog.lift, Prog.bind_op, Prog.bind_ret, Prog.pure_eq_ret]
  iintro ⟨HP, HA, HB, H1, H3, S0, S3, S1, HR⟩
  iapply (rs_step av bv K c false 0 1 2 rfl 12 4 rfl (by decide +kernel) rfl (acc_two av bv false 0 c (px c) ((by decide +kernel : ∀ c, slab false 0 c = px c) c)) rfl (blk_credit _)
      (off20_eq c 0 (by decide)) (off13_eq c 2 0 (by decide) (by decide)) _ rfl
      (dv k0_dev17 (pa 0 2 false) (by decide +kernel) c) (pbB_at (d := false) (off14_eq c 0 (by decide))) (pbB_at (d := false) (off21_eq c 0 (by decide))) rfl rfl) $$ [HP S0]
  · isplitl [HP] <;> iassumption
  iintro ⟨HP, S0, -⟩
  iapply (rs_step av bv K c true 0 1 2 rfl 13 5 rfl (by decide +kernel) rfl (acc_two av bv true 0 c (px c) ((by decide +kernel : ∀ c, slab true 0 c = px c) c)) rfl (blk_credit _)
      (off22_eq c 0) (off16_eq c 2 0) _ rfl
      (dv k0_dev18 (pa 0 2 true) (by decide +kernel) c) (pbB_at (d := true) (off17_eq c 0)) (pbB_at (d := true) (off23_eq c 0)) rfl rfl) $$ [HP S0]
  · isplitl [HP] <;> iassumption
  iintro ⟨HP, S0, -⟩
  iapply (rs_step av bv K c false 2 0 1 rfl 14 6 rfl (by decide +kernel) rfl (acc_one_r av bv _ c) rfl (blk_credit _)
      (off12_eq c 2 (by decide)) (off13_eq c 1 2 (by decide) (by decide)) _ rfl
      (dv k0_dev19 (pa 2 1 false) (by decide +kernel) c) (pbB_at (d := false) (off3_eq c 2 (by decide))) (pbB_at (d := false) (off14_eq c 2 (by decide))) rfl rfl) $$ [HP H3]
  · isplitl [HP] <;> iassumption
  iintro ⟨HP, H3, -⟩
  iapply (rs_step av bv K c true 2 0 1 rfl 15 7 rfl (by decide +kernel) rfl (acc_one_l av bv _ c) rfl (blk_credit _)
      (off15_eq c 2) (off16_eq c 1 2) _ rfl
      (dv k0_dev20 (pa 2 1 true) (by decide +kernel) c) (pbB_at (d := true) (off5_eq c 2)) (pbB_at (d := true) (off17_eq c 2)) rfl rfl) $$ [HP H1]
  · isplitl [HP] <;> iassumption
  iintro ⟨HP, H1, -⟩
  iapply (slab_step av bv c (row (qx c + 2) (px c + 3)) (off24_eq c 3 (by decide)) (off25_eq c 3 (by decide)) _ rfl) $$ [HA HB S3]
  · isplitl [HA]; · iexact HA
    isplitl [HB] <;> iassumption
  iintro ⟨HA, HB, S3⟩
  iapply (slab_step av bv c (row (qx c + 2) (px c + 1)) (off24_eq c 1 (by decide)) (off25_eq c 1 (by decide)) _ rfl) $$ [HA HB S1]
  · isplitl [HA]; · iexact HA
    isplitl [HB] <;> iassumption
  iintro ⟨HA, HB, S1⟩
  iapply hk
  isplitl [HP]; · iexact HP
  isplitl [HA]; · iexact HA
  isplitl [HB]; · iexact HB
  isplitl [H1]; · iexact H1
  isplitl [H3]; · iexact H3
  isplitl [S0]; · iexact S0
  isplitl [S3]; · iexact S3
  isplitl [S1]; · iexact S1
  iexact HR

end Cert.Mesh

end
-- ==== Proof.Seg4.lean ====
/-
# The fourth and fifth segment

More hops along the row; the first ones along the column.
-/
module

public import proofs.«01_k».proof.Proof.Seg2

@[expose] public section

noncomputable section

namespace Cert.Mesh

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.TcCoe

open X

variable {F : FTy → Type} [FloatOps F]

local notation "𝕄" => MT nD τ sig Unit (Elt F) ℕ UU ℕ

variable (av : Dev nD → Vec F S2048x1024 .bf16) (bv : Dev nD → Vec F S1024x2048 .bf16)

set_option maxRecDepth 8000 in
set_option maxHeartbeats 4000000 in
theorem seg4_ok (K : Dev nD × KI → ℕ) (c : Dev nD) {v24 v635 v637 v19 v20 v28 v271 : BitVec 32} {α : Type} {Q : α → sProp 𝕄}
    {kk : PUnit → Prog (TpuEff nD τ sig (Elt F) Λ₀ .tc) α} (R : sProp 𝕄)
    (hk : iprop(Pst av bv K c 20 12 ∗ opA av c ∗ opB bv c ∗ quartR av bv c (qx c + 1) ∗ quartR av bv c (qx c + 3) ∗ slabR av bv c (row (qx c + 2) (px c + 3)) ∗ slabR av bv c (row (qx c + 2) (px c + 1)) ∗ slabR av bv c (row (qx c + 2) (px c + 2)) ∗ R)
      ⊢ runs c (kk ⟨⟩) Q) :
    iprop(Pst av bv K c 16 8 ∗ opA av c ∗ opB bv c ∗ quartR av bv c (qx c + 1) ∗ quartR av bv c (qx c + 3) ∗ slabR av bv c (row (qx c + 2) (px c + 3)) ∗ slabR av bv c (row (qx c + 2) (px c + 1)) ∗ any c (accS (row (qx c + 2) (px c + 2))) ∗ R)
      ⊢ runs c (seg4 c v24 v635 v637 v19 v20 v28 v271 kk) Q := by
  unfold seg4
  simp only [k0_part22_eq_skeleton, k0_part23_eq_skeleton, k0_part24_eq_skeleton, k0_part25_eq_skeleton, k0_part26_eq_skeleton, k0_part27_eq_skeleton]
  unfold k0_part22_skel k0_part23_skel k0_part24_skel k0_part25_skel k0_part26_skel k0_part27_skel
  simp only [Prog.lift, Prog.bind_op, Prog.bind_ret, Prog.pure_eq_ret]
  iintro ⟨HP, HA, HB, H1, H3, S3, S1, S2, HR⟩
  iapply (rs_step av bv K c false 1 1 2 rfl 16 8 rfl (by decide +kernel) rfl (acc_two av bv false 1 c (px c + 3) ((by decide +kernel : ∀ c, slab false 1 c = px c + 3) c)) rfl (blk_credit _)
      (off20_eq c 1 (by decide)) (off13_eq c 2 1 (by decide) (by decide)) _ rfl
      (dv k0_dev21 (pa 1 2 false) (by decide +kernel) c) (pbB_at (d := false) (off14_eq c 1 (by decide))) (pbB_at (d := false) (off21_eq c 1 (by decide))) rfl rfl) $$ [HP S3]
  · isplitl [HP] <;> iassumption
  iintro ⟨HP, S3, -⟩
  iapply (rs_step av bv K c true 1 1 2 rfl 17 9 rfl (by decide +kernel) rfl (acc_two av bv true 1 c (px c + 1) ((by decide +kernel : ∀ c, slab true 1 c = px c + 1) c)) rfl (blk_credit _)
      (off22_eq c 1) (off16_eq c 2 1) _ rfl
      (dv k0_dev22 (pa 1 2 true) (by decide +kernel) c) (pbB_at (d := true) (off17_eq c 1)) (pbB_at (d := true) (off23_eq c 1)) rfl rfl) $$ [HP S1]
  · isplitl [HP] <;> iassumption
  iintro ⟨HP, S1, -⟩
  iapply (rs_step av bv K c false 3 0 1 rfl 18 10 rfl (by decide +kernel) rfl (acc_one_r av bv _ c) rfl (blk_credit _)
      (three c (off15_eq c 1)) (off26_eq c 1 (by decide)) _ rfl
      (dv k0_dev23 (pa 3 1 false) (by decide +kernel) c) (pbB_at (d := false) (three c (off5_eq c 1))) (pbB_at (d := false) (three c (off17_eq c 1))) rfl rfl) $$ [HP H3]
  · isplitl [HP] <;> iassumption
  iintro ⟨HP, H3, -⟩
  iapply (rs_step av bv K c true 3 0 1 rfl 19 11 rfl (by decide +kernel) rfl (acc_one_l av bv _ c) rfl (blk_credit _)
      (off15_eq c 3) (off16_eq c 1 3) _ rfl
      (dv k0_dev24 (pa 3 1 true) (by decide +kernel) c) (pbB_at (d := true) (off5_eq c 3)) (pbB_at (d := true) (off17_eq c 3)) rfl rfl) $$ [HP H1]
  · isplitl [HP] <;> iassumption
  iintro ⟨HP, H1, -⟩
  iapply (slab_step av bv c (row (qx c + 2) (px c + 2)) (off24_eq c 2 (by decide)) (off25_eq c 2 (by decide)) _ rfl) $$ [HA HB S2]
  · isplitl [HA]; · iexact HA
    isplitl [HB] <;> iassumption
  iintro ⟨HA, HB, S2⟩
  iapply hk
  isplitl [HP]; · iexact HP
  isplitl [HA]; · iexact HA
  isplitl [HB]; · iexact HB
  isplitl [H1]; · iexact H1
  isplitl [H3]; · iexact H3
  isplitl [S3]; · iexact S3
  isplitl [S1]; · iexact S1
  isplitl [S2]; · iexact S2
  iexact HR

set_option maxRecDepth 8000 in
set_option maxHeartbeats 4000000 in
theorem seg5_ok (K : Dev nD × KI → ℕ) (c : Dev nD) {v19 v32 v47 v28 v36 v49 v20 v24 : BitVec 32} {α : Type} {Q : α → sProp 𝕄}
    {kk : BitVec 32 → Prog (TpuEff nD τ sig (Elt F) Λ₀ .tc) α} (R : sProp 𝕄)
    (hk : ∀ v953, iprop(Pst av bv K c 24 16 ∗ quartR av bv c (qx c + 1) ∗ quartR av bv c (qx c + 3) ∗ slabR av bv c (row (qx c + 2) (px c + 2)) ∗ any c (pbB false 2 (slab false 0 c)) ∗ any c (pbB true 2 (slab true 0 c)) ∗ R)
      ⊢ runs c (kk v953) Q) :
    iprop(Pst av bv K c 20 12 ∗ quartR av bv c (qx c + 1) ∗ quartR av bv c (qx c + 3) ∗ slabR av bv c (row (qx c + 2) (px c + 2)) ∗ any c (zbB false 3) ∗ any c (zbB true 3) ∗ R)
      ⊢ runs c (seg5 c v19 v32 v47 v28 v36 v49 v20 v24 kk) Q := by
  unfold seg5
  simp only [k0_part28_eq_skeleton, k0_part29_eq_skeleton, k0_part30_eq_skeleton, k0_part31_eq_skeleton, k0_part32_eq_skeleton]
  unfold k0_part28_skel k0_part29_skel k0_part30_skel k0_part31_skel k0_part32_skel
  simp only [Prog.lift, Prog.bind_op, Prog.bind_ret, Prog.pure_eq_ret]
  iintro ⟨HP, H1, H3, S2, Z0, Z1, HR⟩
  iapply (z0_step av bv K c false 20 12 rfl (by decide +kernel) rfl (acc_three_r av bv _ c) rfl (blk_credit _)
      (off27_eq c 0 (by decide)) (off28_eq c 0 (by decide)) _ rfl (dv k0_dev25 (zr 0 false) (by decide +kernel) c) rfl rfl rfl rfl) $$ [HP H1 Z0]
  · isplitl [HP]; · iexact HP
    isplitl [H1] <;> iassumption
  iintro ⟨HP, H1, P00⟩
  iapply (z0_step av bv K c true 21 13 rfl (by decide +kernel) rfl (acc_three_l av bv _ c) rfl (blk_credit _)
      (off29_eq c 0) (off16_eq c 3 0) _ rfl (dv k0_dev26 (zr 0 true) (by decide +kernel) c) rfl rfl rfl rfl) $$ [HP H3 Z1]
  · isplitl [HP]; · iexact HP
    isplitl [H3] <;> iassumption
  iintro ⟨HP, H3, P10⟩
  iapply (rs_step av bv K c false 2 1 2 rfl 22 14 rfl (by decide +kernel) rfl (acc_two av bv false 2 c (px c + 2) ((by decide +kernel : ∀ c, slab false 2 c = px c + 2) c)) rfl (blk_credit _)
      (off20_eq c 2 (by decide)) (off13_eq c 2 2 (by decide) (by decide)) _ rfl
      (dv k0_dev27 (pa 2 2 false) (by decide +kernel) c) (pbB_at (d := false) (off14_eq c 2 (by decide))) (pbB_at (d := false) (off21_eq c 2 (by decide))) rfl rfl) $$ [HP S2]
  · isplitl [HP] <;> iassumption
  iintro ⟨HP, S2, -⟩
  iapply (rs_step av bv K c true 2 1 2 rfl 23 15 rfl (by decide +kernel) rfl (acc_two av bv true 2 c (px c + 2) ((by decide +kernel : ∀ c, slab true 2 c = px c + 2) c)) rfl (blk_credit _)
      (off22_eq c 2) (off16_eq c 2 2) _ rfl
      (dv k0_dev28 (pa 2 2 true) (by decide +kernel) c) (pbB_at (d := true) (off17_eq c 2)) (pbB_at (d := true) (off23_eq c 2)) rfl rfl) $$ [HP S2]
  · isplitl [HP] <;> iassumption
  iintro ⟨HP, S2, -⟩
  iapply hk
  isplitl [HP]; · iexact HP
  isplitl [H1]; · iexact H1
  isplitl [H3]; · iexact H3
  isplitl [S2]; · iexact S2
  isplitl [P00]; · iexact P00
  isplitl [P10]; · iexact P10
  iexact HR

end Cert.Mesh

end
-- ==== Proof.Ag.lean ====
/-
# Passing the finished blocks on

A finished block travels along the column and then along the row. Every device it passes keeps it and reads it for the next
transfers at the same time, so each of those takes a share of it.
-/
module

public import proofs.«01_k».proof.Proof.Ops

@[expose] public section

noncomputable section

namespace Cert.Mesh

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.TcCoe

open X

variable {F : FTy → Type} [FloatOps F]

local notation "𝕄" => MT nD τ sig Unit (Elt F) ℕ UU ℕ

variable (av : Dev nD → Vec F S2048x1024 .bf16) (bv : Dev nD → Vec F S1024x2048 .bf16)

/-- A share of device `e`'s finished block, in device `c`'s copy of the result. -/
def piece (c : Dev nD) (d : Bool) (e : Dev nD) (q : PosShare TreeShare) : sProp 𝕄 := has c (outE d e) q (oV av bv d e)

theorem send_za (s : Fin 3) (d : Bool) (c : Dev nD) : sendPay av bv (za s d) c = piece av bv c d (blk (za s d) c) fullShare.left := rfl
theorem send_pg (r : Fin 4) (h : Fin 3) (d : Bool) (c : Dev nD) : sendPay av bv (pg r h d) c = piece av bv c d (blk (pg r h d) c) (share (pg r h d)) := rfl
theorem recv_za (s : Fin 3) (d : Bool) (c : Dev nD) : recvPay av bv (za s d) c = piece av bv c d (blk (za s d) (zpred d c)) fullShare := by
  show iprop(piece av bv c d (blk (za s d) (zpred d c)) fullShare ∗ extra (za s d) c) = _
  rw [extra_none _ (by intro e; cases e)]
  exact sep_emp_eq _
theorem recv_pg (r : Fin 4) (h : Fin 3) (d : Bool) (c : Dev nD) : recvPay av bv (pg r h d) c = piece av bv c d (blk (pg r h d) (sndr (pg r h d) c)) fullShare := by
  show iprop(piece av bv c d (blk (pg r h d) (sndr (pg r h d) c)) fullShare ∗ extra (pg r h d) c) = _
  rw [extra_none _ (by intro e; cases e)]
  exact sep_emp_eq _

theorem piece_halves (c : Dev nD) (d : Bool) (e : Dev nD) (q : PosShare TreeShare) :
    piece av bv c d e q = iprop(piece av bv c d e q.left ∗ piece av bv c d e q.right) := by
  unfold piece has
  exact Entails.antisymm (owns_halves _ _ _ _).1 (owns_halves _ _ _ _).2

/-- The device's own block goes along the column and along the row, -/
theorem own_two (d : Bool) (c : Dev nD) : piece av bv c d c fullShare = iprop(sendPay av bv (za 0 d) c ∗ sendPay av bv (pg 0 0 d) c) := by
  rw [send_za, send_pg, (by decide +kernel : ∀ d c, blk (za 0 d) c = c) d c, (by decide +kernel : ∀ d c, blk (pg 0 0 d) c = c) d c]
  exact piece_halves av bv c d c fullShare
/-- and so does a block that came along the column, -/
theorem za_two (s s' : Fin 3) (r : Fin 4) (hs : s'.val = s.val + 1) (hr : r.val = s'.val) (d : Bool) (c : Dev nD) :
    recvPay av bv (za s d) c = iprop(sendPay av bv (za s' d) c ∗ sendPay av bv (pg r 0 d) c) := by
  have h3 : r ≠ 3 := fun e => by subst e; have := s'.isLt; simp at hr; omega
  rw [recv_za, send_za, send_pg,
    (by decide +kernel : ∀ (s s' : Fin 3) d c, s'.val = s.val + 1 → blk (za s d) (zpred d c) = blk (za s' d) c) s s' d c hs,
    (by decide +kernel : ∀ (s' : Fin 3) (r : Fin 4) d c, r.val = s'.val → blk (pg r 0 d) c = blk (za s' d) c) s' r d c hr,
    show share (pg r 0 d) = fullShare.right from by unfold share; simp only [if_neg h3]; rfl]
  exact piece_halves av bv c d _ fullShare
/-- until the last one, which goes to the three others of the row at once. -/
theorem za_three (d : Bool) (c : Dev nD) :
    recvPay av bv (za 2 d) c = iprop(sendPay av bv (pg 3 0 d) c ∗ sendPay av bv (pg 3 1 d) c ∗ sendPay av bv (pg 3 2 d) c) := by
  rw [recv_za, send_pg, send_pg, send_pg,
    (by decide +kernel : ∀ (i : Fin 3) d c, blk (pg 3 i d) c = blk (za 2 d) (zpred d c)) 0 d c,
    (by decide +kernel : ∀ (i : Fin 3) d c, blk (pg 3 i d) c = blk (za 2 d) (zpred d c)) 1 d c,
    (by decide +kernel : ∀ (i : Fin 3) d c, blk (pg 3 i d) c = blk (za 2 d) (zpred d c)) 2 d c,
    piece_halves av bv c d _ fullShare, piece_halves av bv c d _ fullShare.right]
  rfl
/-- A block that came along the row goes on along it. -/
theorem pg_one (r : Fin 4) (hr : r ≠ 3) (h h' : Fin 3) (hh : h'.val = h.val + 1) (d : Bool) (c : Dev nD) :
    recvPay av bv (pg r h d) c = sendPay av bv (pg r h' d) c := by
  have h0 : h' ≠ 0 := fun e => by subst e; simp at hh
  rw [recv_pg, send_pg,
    (by decide +kernel : ∀ (r : Fin 4) (h h' : Fin 3) d c, r ≠ 3 → h'.val = h.val + 1 → blk (pg r h d) (sndr (pg r h d) c) = blk (pg r h' d) c) r h h' d c hr hh,
    show share (pg r h' d) = fullShare from by unfold share; simp only [if_neg hr, if_neg h0]]

theorem za_near (s : Fin 3) (d : Bool) : za s d ∉ far := by revert s d; decide +kernel

omit [FloatOps F] in
theorem fars_two (c : Dev nD) : (fars c : sProp 𝕄) = iprop(ownLand (pg 3 2 false) (tgt (pg 3 2 false) c) ∗ ownLand (pg 3 2 true) (tgt (pg 3 2 true) c)) := by
  unfold fars far ownLand
  rw [bigSepL_cons', bigSepL_singleton, if_pos (by decide), if_pos (by decide)]

set_option maxRecDepth 8000 in
/-- One of the two direct sends to the device opposite. -/
theorem far_step (K : Dev nD × KI → ℕ) (c : Dev nD) (x : X) (k j : ℕ) (hk : order[k]? = some x) (hx' : x ≠ pa 0 0 false)
    {n : Dev nD} (hn : n = tgt x c) {src dst : Blk} (hs : src = sM x c) (hd : dst = dM x c) {ss rs : DmaSem sig} (h₁ : ss = sS x) (h₂ : rs = rS x)
    {hsc : (dst : Memref sig (Dev.tc n : Thread nD τ).2.kind .vmem S128x1024 .bf16).view.ref.isScScratch = false}
    {hsrc : src.view.WordExact} {hdst : dst.view.WordExact}
    {hsem : DmaTarget.Typed .vmem (.dma rs) (.remote (Dev.tc n : Thread nD τ) (dst : Memref sig .tc .vmem S128x1024 .bf16) (.dma ss) hsc)}
    {α : Type} {Q : α → sProp 𝕄} {kk : PUnit → Prog (TpuEff nD τ sig (Elt F) Λ₀ .tc) α} :
    iprop(Pst av bv K c k j ∗ sendPay av bv x c ∗ ownLand x (tgt x c))
      ⊢ iprop((Pst av bv K c (k + 1) j -∗ runs c (kk ⟨⟩) Q)
          -∗ runs c (.op (.enqueueDma src (.remote (Dev.tc n : Thread nD τ) dst (.dma ss) hsc) (.dma rs) hsrc hdst hsem) kk) Q) := by
  have e : iprop(Pst av bv K c k j ∗ sendPay av bv x c ∗ ownLand x (tgt x c))
      ⊢ iprop(Pst av bv K c k j ∗ sendPay av bv x c ∗ ownLand x (tgt x c) ∗ extra x (tgt x c)) := by
    rw [extra_none x hx']
    iintro ⟨H1, H2, H3⟩
    isplitl [H1]; · iexact H1
    isplitl [H2]; · iexact H2
    isplitl [H3]; · iexact H3
    iempintro
  exact e.trans (send_core av bv K c x k j hk hn hs hd h₁ h₂)

set_option maxRecDepth 8000 in
/-- A block arrives and is passed on once, -/
theorem pass_step (K : Dev nD × KI → ℕ) (c : Dev nD) (x y : X) (k j : ℕ)
    (hj : rOrder[j]? = some x) (hlv : ∀ z ∈ order.drop k, pos x < pos z) (hk : order[k]? = some y) (hy : y ∉ far) (hy' : y ≠ pa 0 0 false)
    (hxy : recvPay av bv x c = sendPay av bv y c)
    {rs₀ : DmaSem sig} (h₀ : rs₀ = rS x) {src₀ dst₀ : Blk} (hN : dst₀.view.dmaCredit = N) {w₀ w₀'}
    {n : Dev nD} (hn : n = tgt y c) {src dst : Blk} (hs : src = sM y c) (hd : dst = dM y c) {ss rs : DmaSem sig} (h₁ : ss = sS y) (h₂ : rs = rS y)
    {hsc : (dst : Memref sig (Dev.tc n : Thread nD τ).2.kind .vmem S128x1024 .bf16).view.ref.isScScratch = false}
    {hsrc : src.view.WordExact} {hdst : dst.view.WordExact}
    {hsem : DmaTarget.Typed .vmem (.dma rs) (.remote (Dev.tc n : Thread nD τ) (dst : Memref sig .tc .vmem S128x1024 .bf16) (.dma ss) hsc)}
    {α : Type} {Q : α → sProp 𝕄} {kk : PUnit → Prog (TpuEff nD τ sig (Elt F) Λ₀ .tc) α} :
    Pst av bv K c k j
      ⊢ iprop((Pst av bv K c (k + 1) (j + 1) -∗ runs c (kk ⟨⟩) Q)
        -∗ runs c (.op (.waitDma2 rs₀ src₀ dst₀ w₀ w₀') fun _ =>
            .op (.enqueueDma src (.remote (Dev.tc n : Thread nD τ) dst (.dma ss) hsc) (.dma rs) hsrc hdst hsem) kk) Q) := by
  iintro HP Hk
  iapply (recv_step av bv K c x k j hj hlv h₀ hN) $$ HP
  iintro ⟨HP, Hr⟩
  ihave Hr := (Entails.of_eq hxy) $$ Hr
  iapply (send_step av bv K c y k (j + 1) hk hy hy' hn hs hd h₁ h₂) $$ [HP Hr]
  · isplitl [HP] <;> iassumption
  iexact Hk

set_option maxRecDepth 8000 in
/-- or twice. -/
theorem pass_two (K : Dev nD × KI → ℕ) (c : Dev nD) (x y z : X) (k j : ℕ)
    (hj : rOrder[j]? = some x) (hlv : ∀ z ∈ order.drop k, pos x < pos z) (hk : order[k]? = some y) (hy : y ∉ far) (hy' : y ≠ pa 0 0 false)
    (hk' : order[k + 1]? = some z) (hz : z ∉ far) (hz' : z ≠ pa 0 0 false)
    (hxy : recvPay av bv x c = iprop(sendPay av bv y c ∗ sendPay av bv z c))
    {rs₀ : DmaSem sig} (h₀ : rs₀ = rS x) {src₀ dst₀ : Blk} (hN : dst₀.view.dmaCredit = N) {w₀ w₀'}
    {n : Dev nD} (hn : n = tgt y c) {src dst : Blk} (hs : src = sM y c) (hd : dst = dM y c) {ss rs : DmaSem sig} (h₁ : ss = sS y) (h₂ : rs = rS y)
    {hsc : (dst : Memref sig (Dev.tc n : Thread nD τ).2.kind .vmem S128x1024 .bf16).view.ref.isScScratch = false}
    {hsrc : src.view.WordExact} {hdst : dst.view.WordExact}
    {hsem : DmaTarget.Typed .vmem (.dma rs) (.remote (Dev.tc n : Thread nD τ) (dst : Memref sig .tc .vmem S128x1024 .bf16) (.dma ss) hsc)}
    {n' : Dev nD} (hn' : n' = tgt z c) {src' dst' : Blk} (hs' : src' = sM z c) (hd' : dst' = dM z c) {ss' rs' : DmaSem sig} (h₁' : ss' = sS z) (h₂' : rs' = rS z)
    {hsc' : (dst' : Memref sig (Dev.tc n' : Thread nD τ).2.kind .vmem S128x1024 .bf16).view.ref.isScScratch = false}
    {hsrc' : src'.view.WordExact} {hdst' : dst'.view.WordExact}
    {hsem' : DmaTarget.Typed .vmem (.dma rs') (.remote (Dev.tc n' : Thread nD τ) (dst' : Memref sig .tc .vmem S128x1024 .bf16) (.dma ss') hsc')}
    {α : Type} {Q : α → sProp 𝕄} {kk : PUnit → Prog (TpuEff nD τ sig (Elt F) Λ₀ .tc) α} :
    Pst av bv K c k j
      ⊢ iprop((Pst av bv K c (k + 2) (j + 1) -∗ runs c (kk ⟨⟩) Q)
        -∗ runs c (.op (.waitDma2 rs₀ src₀ dst₀ w₀ w₀') fun _ =>
            .op (.enqueueDma src (.remote (Dev.tc n : Thread nD τ) dst (.dma ss) hsc) (.dma rs) hsrc hdst hsem) fun _ =>
            .op (.enqueueDma src' (.remote (Dev.tc n' : Thread nD τ) dst' (.dma ss') hsc') (.dma rs') hsrc' hdst' hsem') kk) Q) := by
  iintro HP Hk
  iapply (recv_step av bv K c x k j hj hlv h₀ hN) $$ HP
  iintro ⟨HP, Hr⟩
  ihave Hr := (Entails.of_eq hxy) $$ Hr
  icases Hr with ⟨H1, H2⟩
  iapply (send_step av bv K c y k (j + 1) hk hy hy' hn hs hd h₁ h₂) $$ [HP H1]
  · isplitl [HP] <;> iassumption
  iintro HP
  iapply (send_step av bv K c z (k + 1) (j + 1) hk' hz hz' hn' hs' hd' h₁' h₂') $$ [HP H2]
  · isplitl [HP] <;> iassumption
  iexact Hk

end Cert.Mesh

end
-- ==== Proof.Seg6.lean ====
/-
# The sixth and seventh segment

The last hops of the two reductions, and the finished blocks.
-/
module

public import proofs.«01_k».proof.Proof.Seg2
public import proofs.«01_k».proof.Proof.Ag

@[expose] public section

noncomputable section

namespace Cert.Mesh

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.TcCoe

open X

variable {F : FTy → Type} [FloatOps F]

local notation "𝕄" => MT nD τ sig Unit (Elt F) ℕ UU ℕ

variable (av : Dev nD → Vec F S2048x1024 .bf16) (bv : Dev nD → Vec F S1024x2048 .bf16)

set_option maxRecDepth 8000 in
set_option maxHeartbeats 4000000 in
theorem seg6_ok (K : Dev nD × KI → ℕ) (c : Dev nD) {v19 v24 v47 v953 v32 v36 v28 v49 v20 : BitVec 32} {α : Type} {Q : α → sProp 𝕄}
    {kk : PUnit → Prog (TpuEff nD τ sig (Elt F) Λ₀ .tc) α} (R : sProp 𝕄)
    (hk : iprop(Pst av bv K c 28 22 ∗ quartR av bv c (qx c + 1) ∗ quartR av bv c (qx c + 3) ∗ slabR av bv c (row (qx c + 2) (px c + 1)) ∗ slabR av bv c (row (qx c + 2) (px c + 3)) ∗ any c (pbB false 2 (slab false 1 c)) ∗ any c (pbB true 2 (slab true 1 c)) ∗ R)
      ⊢ runs c (kk ⟨⟩) Q) :
    iprop(Pst av bv K c 24 16 ∗ quartR av bv c (qx c + 1) ∗ quartR av bv c (qx c + 3) ∗ slabR av bv c (row (qx c + 2) (px c + 1)) ∗ slabR av bv c (row (qx c + 2) (px c + 3)) ∗ R)
      ⊢ runs c (seg6 c v19 v24 v47 v953 v32 v36 v28 v49 v20 kk) Q := by
  unfold seg6
  simp only [k0_part33_eq_skeleton, k0_part34_eq_skeleton, k0_part35_eq_skeleton, k0_part36_eq_skeleton, k0_part37_eq_skeleton, k0_part38_eq_skeleton]
  unfold k0_part33_skel k0_part34_skel k0_part35_skel k0_part36_skel k0_part37_skel k0_part38_skel
  simp only [Prog.lift, Prog.bind_op, Prog.bind_ret, Prog.pure_eq_ret]
  iintro ⟨HP, H1, H3, S1, S3, HR⟩
  iapply (zs_step av bv K c false 0 1 rfl 24 16 rfl (by decide +kernel) rfl (by decide +kernel) rfl (acc_three_r av bv _ c) rfl (blk_credit _) rfl (blk_credit _)
      rfl (off27_eq c 1 (by decide)) (off28_eq c 1 (by decide)) _ rfl (dv k0_dev29 (zr 1 false) (by decide +kernel) c) rfl rfl rfl rfl) $$ [HP H1]
  · isplitl [HP] <;> iassumption
  iintro ⟨HP, H1, P01⟩
  iapply (zs_step av bv K c true 0 1 rfl 25 18 rfl (by decide +kernel) rfl (by decide +kernel) rfl (acc_three_l av bv _ c) rfl (blk_credit _) rfl (blk_credit _)
      rfl (off29_eq c 1) (off16_eq c 3 1) _ rfl (dv k0_dev30 (zr 1 true) (by decide +kernel) c) rfl rfl rfl rfl) $$ [HP H3]
  · isplitl [HP] <;> iassumption
  iintro ⟨HP, H3, P11⟩
  iapply (rs_step av bv K c false 3 1 2 rfl 26 20 rfl (by decide +kernel) rfl (acc_two av bv false 3 c (px c + 1) ((by decide +kernel : ∀ c, slab false 3 c = px c + 1) c)) rfl (blk_credit _)
      (three c (off22_eq c 1)) (off26_eq c 2 (by decide)) _ rfl
      (dv k0_dev31 (pa 3 2 false) (by decide +kernel) c) (pbB_at (d := false) (three c (off17_eq c 1))) (pbB_at (d := false) (three c (off23_eq c 1))) rfl rfl) $$ [HP S1]
  · isplitl [HP] <;> iassumption
  iintro ⟨HP, S1, -⟩
  iapply (rs_step av bv K c true 3 1 2 rfl 27 21 rfl (by decide +kernel) rfl (acc_two av bv true 3 c (px c + 3) ((by decide +kernel : ∀ c, slab true 3 c = px c + 3) c)) rfl (blk_credit _)
      (off22_eq c 3) (off16_eq c 2 3) _ rfl
      (dv k0_dev32 (pa 3 2 true) (by decide +kernel) c) (pbB_at (d := true) (off17_eq c 3)) (pbB_at (d := true) (off23_eq c 3)) rfl rfl) $$ [HP S3]
  · isplitl [HP] <;> iassumption
  iintro ⟨HP, S3, -⟩
  iapply hk
  isplitl [HP]; · iexact HP
  isplitl [H1]; · iexact H1
  isplitl [H3]; · iexact H3
  isplitl [S1]; · iexact S1
  isplitl [S3]; · iexact S3
  isplitl [P01]; · iexact P01
  isplitl [P11]; · iexact P11
  iexact HR

set_option maxRecDepth 8000 in
set_option maxHeartbeats 4000000 in
theorem seg7_ok (K : Dev nD × KI → ℕ) (c : Dev nD) {v19 v24 v32 v47 v36 v28 v49 v51 v53 v20 : BitVec 32} {α : Type} {Q : α → sProp 𝕄}
    {kk : BitVec 32 → BitVec 32 → Prog (TpuEff nD τ sig (Elt F) Λ₀ .tc) α} (R : sProp 𝕄)
    (hk : ∀ v1328 v1330, iprop(Pst av bv K c 31 30 ∗ quartR av bv c (qx c + 1) ∗ quartR av bv c (qx c + 3) ∗ any c (pbB false 2 (slab false 2 c)) ∗ any c (pbB true 2 (slab true 2 c)) ∗ any c (pbB false 2 (slab false 3 c)) ∗ any c (pbB true 2 (slab true 3 c)) ∗ any c (zbB false 2) ∗ any c (zbB true 2) ∗ sendPay av bv (pg 0 0 false) c ∗ sendPay av bv (za 0 true) c ∗ sendPay av bv (pg 0 0 true) c ∗ R)
      ⊢ runs c (kk v1328 v1330) Q) :
    iprop(Pst av bv K c 28 22 ∗ quartR av bv c (qx c + 1) ∗ quartR av bv c (qx c + 3) ∗ any c (outE false c) ∗ any c (outE true c) ∗ R)
      ⊢ runs c (seg7 c v19 v24 v32 v47 v36 v28 v49 v51 v53 v20 kk) Q := by
  unfold seg7
  simp only [k0_part39_eq_skeleton, k0_part40_eq_skeleton, k0_part41_eq_skeleton, k0_part42_eq_skeleton, k0_part43_eq_skeleton, k0_part44_eq_skeleton, k0_part45_eq_skeleton]
  unfold k0_part39_skel k0_part40_skel k0_part41_skel k0_part42_skel k0_part43_skel k0_part44_skel k0_part45_skel
  simp only [Prog.lift, Prog.bind_op, Prog.bind_ret, Prog.pure_eq_ret]
  iintro ⟨HP, H1, H3, O0, O1, HR⟩
  iapply (zs_step av bv K c false 1 2 rfl 28 22 rfl (by decide +kernel) rfl (by decide +kernel) rfl (acc_three_r av bv _ c) rfl (blk_credit _) rfl (blk_credit _)
      rfl (off27_eq c 2 (by decide)) (off28_eq c 2 (by decide)) _ rfl (dv k0_dev33 (zr 2 false) (by decide +kernel) c) rfl rfl rfl rfl) $$ [HP H1]
  · isplitl [HP] <;> iassumption
  iintro ⟨HP, H1, P02⟩
  iapply (zs_step av bv K c true 1 2 rfl 29 24 rfl (by decide +kernel) rfl (by decide +kernel) rfl (acc_three_l av bv _ c) rfl (blk_credit _) rfl (blk_credit _)
      rfl (off29_eq c 2) (off16_eq c 3 2) _ rfl (dv k0_dev34 (zr 2 true) (by decide +kernel) c) rfl rfl rfl rfl) $$ [HP H3]
  · isplitl [HP] <;> iassumption
  iintro ⟨HP, H3, P12⟩
  iapply (fin_step av bv K c false 30 26 rfl (by decide +kernel) rfl (by decide +kernel) (acc_three_r av bv _ c) rfl (blk_credit _) rfl (blk_credit _)
      (three c (off29_eq c 1)) (off30_eq c ) (off30_eq c ) _ rfl) $$ [HP H1 O0]
  · isplitl [HP]; · iexact HP
    isplitl [H1] <;> iassumption
  iintro ⟨HP, H1, O0, Z0, P03⟩
  iapply (fin_step av bv K c true 30 28 rfl (by decide +kernel) rfl (by decide +kernel) (acc_three_l av bv _ c) rfl (blk_credit _) rfl (blk_credit _)
      (off29_eq c 3) (off16_eq c 3 3) (off16_eq c 3 3) _ rfl) $$ [HP H3 O1]
  · isplitl [HP]; · iexact HP
    isplitl [H3] <;> iassumption
  iintro ⟨HP, H3, O1, Z1, P13⟩
  ihave O0 := (show has c (outE false c) fullShare (oV av bv false c) ⊢ (iprop(sendPay av bv (za 0 false) c ∗ sendPay av bv (pg 0 0 false) c) : sProp 𝕄) from
    Entails.of_eq (own_two av bv false c)) $$ O0
  icases O0 with ⟨A0, G0⟩
  ihave O1 := (show has c (outE true c) fullShare (oV av bv true c) ⊢ (iprop(sendPay av bv (za 0 true) c ∗ sendPay av bv (pg 0 0 true) c) : sProp 𝕄) from
    Entails.of_eq (own_two av bv true c)) $$ O1
  icases O1 with ⟨A1, G1⟩
  iapply (send_step av bv K c (za 0 false) 30 30 rfl (za_near _ _) (by decide) (dv k0_dev35 (za 0 false) (by decide +kernel) c) (outB_at (d := false) (off31_eq c 0)) (outB_at (d := false) (off31_eq c 0)) rfl rfl) $$ [HP A0]
  · isplitl [HP] <;> iassumption
  iintro HP
  iapply hk
  isplitl [HP]; · iexact HP
  isplitl [H1]; · iexact H1
  isplitl [H3]; · iexact H3
  isplitl [P02]; · iexact P02
  isplitl [P12]; · iexact P12
  isplitl [P03]; · iexact P03
  isplitl [P13]; · iexact P13
  isplitl [Z0]; · iexact Z0
  isplitl [Z1]; · iexact Z1
  isplitl [G0]; · iexact G0
  isplitl [A1]; · iexact A1
  isplitl [G1]; · iexact G1
  iexact HR

end Cert.Mesh

end
-- ==== Proof.Seg8.lean ====
/-
# The eighth and ninth segment

The finished blocks go round.
-/
module

public import proofs.«01_k».proof.Proof.Segs
public import proofs.«01_k».proof.Proof.Ag

@[expose] public section

noncomputable section

namespace Cert.Mesh

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.TcCoe

open X

variable {F : FTy → Type} [FloatOps F]

local notation "𝕄" => MT nD τ sig Unit (Elt F) ℕ UU ℕ

variable (av : Dev nD → Vec F S2048x1024 .bf16) (bv : Dev nD → Vec F S1024x2048 .bf16)

set_option maxRecDepth 8000 in
set_option maxHeartbeats 4000000 in
theorem seg8_ok (K : Dev nD × KI → ℕ) (c : Dev nD) {v19 v24 v36 v49 v1328 v1330 v20 v28 v32 v47 : BitVec 32} {α : Type} {Q : α → sProp 𝕄}
    {kk : BitVec 32 → BitVec 32 → Prog (TpuEff nD τ sig (Elt F) Λ₀ .tc) α} (R : sProp 𝕄)
    (hk : ∀ v1381 v1737, iprop(Pst av bv K c 53 41 ∗ R)
      ⊢ runs c (kk v1381 v1737) Q) :
    iprop(Pst av bv K c 31 30 ∗ sendPay av bv (pg 0 0 false) c ∗ sendPay av bv (za 0 true) c ∗ sendPay av bv (pg 0 0 true) c ∗ fars c ∗ R)
      ⊢ runs c (seg8 c v19 v24 v36 v49 v1328 v1330 v20 v28 v32 v47 kk) Q := by
  unfold seg8
  simp only [k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold k0_part46_skel k0_part47_skel k0_part48_skel k0_part49_skel k0_part50_skel k0_part51_skel k0_part52_skel k0_part53_skel k0_part54_skel k0_part55_skel k0_part56_skel k0_part57_skel k0_part58_skel k0_part59_skel k0_part60_skel
  simp only [Prog.lift, Prog.bind_op, Prog.bind_ret, Prog.pure_eq_ret]
  iintro ⟨HP, G0, A1, G1, HF, HR⟩
  iapply (send_step av bv K c (pg 0 0 false) 31 30 rfl (by decide) (by decide) (dv k0_dev36 (pg 0 0 false) (by decide +kernel) c) (outB_at (d := false) (off32_eq c 0 0 (by decide))) (outB_at (d := false) (off32_eq c 0 0 (by decide))) rfl rfl) $$ [HP G0]
  · isplitl [HP] <;> iassumption
  iintro HP
  iapply (send_step av bv K c (za 0 true) 32 30 rfl (za_near _ _) (by decide) (dv k0_dev37 (za 0 true) (by decide +kernel) c) (outB_at (d := true) (off33_eq c 0)) (outB_at (d := true) (off33_eq c 0)) rfl rfl) $$ [HP A1]
  · isplitl [HP] <;> iassumption
  iintro HP
  iapply (send_step av bv K c (pg 0 0 true) 33 30 rfl (by decide) (by decide) (dv k0_dev38 (pg 0 0 true) (by decide +kernel) c) (outB_at (d := true) (off34_eq c 0 0 (by decide))) (outB_at (d := true) (off34_eq c 0 0 (by decide))) rfl rfl) $$ [HP G1]
  · isplitl [HP] <;> iassumption
  iintro HP
  iapply (pass_two av bv K c (za 0 false) (za 1 false) (pg 1 0 false) 34 30 rfl (by decide +kernel) rfl (za_near _ _) (by decide) rfl (by decide) (by decide)
      (za_two av bv 0 1 1 rfl rfl false c) rfl (blk_credit _) (dv k0_dev39 (za 1 false) (by decide +kernel) c) (outB_at (d := false) (off31_eq c 1)) (outB_at (d := false) (off31_eq c 1)) rfl rfl
      (dv k0_dev40 (pg 1 0 false) (by decide +kernel) c) (outB_at (d := false) (off32_eq c 0 1 (by decide))) (outB_at (d := false) (off32_eq c 0 1 (by decide))) rfl rfl) $$ HP
  iintro HP
  iapply (pass_two av bv K c (za 0 true) (za 1 true) (pg 1 0 true) 36 31 rfl (by decide +kernel) rfl (za_near _ _) (by decide) rfl (by decide) (by decide)
      (za_two av bv 0 1 1 rfl rfl true c) rfl (blk_credit _) (dv k0_dev41 (za 1 true) (by decide +kernel) c) (outB_at (d := true) (off33_eq c 1)) (outB_at (d := true) (off33_eq c 1)) rfl rfl
      (dv k0_dev42 (pg 1 0 true) (by decide +kernel) c) (outB_at (d := true) (off34_eq c 0 1 (by decide))) (outB_at (d := true) (off34_eq c 0 1 (by decide))) rfl rfl) $$ HP
  iintro HP
  iapply (pass_two av bv K c (za 1 false) (za 2 false) (pg 2 0 false) 38 32 rfl (by decide +kernel) rfl (za_near _ _) (by decide) rfl (by decide) (by decide)
      (za_two av bv 1 2 2 rfl rfl false c) rfl (blk_credit _) (dv k0_dev43 (za 2 false) (by decide +kernel) c) (outB_at (d := false) (off31_eq c 2)) (outB_at (d := false) (off31_eq c 2)) rfl rfl
      (dv k0_dev44 (pg 2 0 false) (by decide +kernel) c) (outB_at (d := false) (off32_eq c 0 2 (by decide))) (outB_at (d := false) (off32_eq c 0 2 (by decide))) rfl rfl) $$ HP
  iintro HP
  iapply (pass_two av bv K c (za 1 true) (za 2 true) (pg 2 0 true) 40 33 rfl (by decide +kernel) rfl (za_near _ _) (by decide) rfl (by decide) (by decide)
      (za_two av bv 1 2 2 rfl rfl true c) rfl (blk_credit _) (dv k0_dev45 (za 2 true) (by decide +kernel) c) (outB_at (d := true) (off33_eq c 2)) (outB_at (d := true) (off33_eq c 2)) rfl rfl
      (dv k0_dev46 (pg 2 0 true) (by decide +kernel) c) (outB_at (d := true) (off34_eq c 0 2 (by decide))) (outB_at (d := true) (off34_eq c 0 2 (by decide))) rfl rfl) $$ HP
  iintro HP
  ihave HF := (Entails.of_eq (fars_two c)) $$ HF
  icases HF with ⟨F0, F1⟩
  iapply (recv_step av bv K c (za 2 false) 42 34 rfl (by decide +kernel) rfl (blk_credit _)) $$ HP
  iintro ⟨HP, HT⟩
  ihave HT := (Entails.of_eq (za_three av bv false c)) $$ HT
  icases HT with ⟨HT0, HT1, HT2⟩
  iapply (send_step av bv K c (pg 3 0 false) 42 35 rfl (by decide) (by decide) (dv k0_dev47 (pg 3 0 false) (by decide +kernel) c) (outB_at (d := false) (off35_eq c 0)) (outB_at (d := false) (off35_eq c 0)) rfl rfl) $$ [HP HT0]
  · isplitl [HP] <;> iassumption
  iintro HP
  iapply (send_step av bv K c (pg 3 1 false) 43 35 rfl (by decide) (by decide) (dv k0_dev48 (pg 3 1 false) (by decide +kernel) c) (outB_at (d := false) (off35_eq c 1)) (outB_at (d := false) (off35_eq c 1)) rfl rfl) $$ [HP HT1]
  · isplitl [HP] <;> iassumption
  iintro HP
  iapply (far_step av bv K c (pg 3 2 false) 44 35 rfl (by decide) (dv k0_dev49 (pg 3 2 false) (by decide +kernel) c) (outB_at (d := false) (off35_eq c 2)) (outB_at (d := false) (off35_eq c 2)) rfl rfl) $$ [HP HT2 F0]
  · isplitl [HP]; · iexact HP
    isplitl [HT2] <;> iassumption
  iintro HP
  iapply (recv_step av bv K c (za 2 true) 45 35 rfl (by decide +kernel) rfl (blk_credit _)) $$ HP
  iintro ⟨HP, HT⟩
  ihave HT := (Entails.of_eq (za_three av bv true c)) $$ HT
  icases HT with ⟨HT0, HT1, HT2⟩
  iapply (send_step av bv K c (pg 3 0 true) 45 36 rfl (by decide) (by decide) (dv k0_dev50 (pg 3 0 true) (by decide +kernel) c) (outB_at (d := true) (off36_eq c 0)) (outB_at (d := true) (off36_eq c 0)) rfl rfl) $$ [HP HT0]
  · isplitl [HP] <;> iassumption
  iintro HP
  iapply (send_step av bv K c (pg 3 1 true) 46 36 rfl (by decide) (by decide) (dv k0_dev51 (pg 3 1 true) (by decide +kernel) c) (outB_at (d := true) (off36_eq c 1)) (outB_at (d := true) (off36_eq c 1)) rfl rfl) $$ [HP HT1]
  · isplitl [HP] <;> iassumption
  iintro HP
  iapply (far_step av bv K c (pg 3 2 true) 47 36 rfl (by decide) (dv k0_dev52 (pg 3 2 true) (by decide +kernel) c) (outB_at (d := true) (off36_eq c 2)) (outB_at (d := true) (off36_eq c 2)) rfl rfl) $$ [HP HT2 F1]
  · isplitl [HP]; · iexact HP
    isplitl [HT2] <;> iassumption
  iintro HP
  iapply (pass_step av bv K c (pg 0 0 false) (pg 0 1 false) 48 36 rfl (by decide +kernel) rfl (by decide) (by decide)
      (pg_one av bv 0 (by decide) 0 1 rfl false c) rfl (blk_credit _) (dv k0_dev53 (pg 0 1 false) (by decide +kernel) c) (outB_at (d := false) (off32_eq c 1 0 (by decide))) (outB_at (d := false) (off32_eq c 1 0 (by decide))) rfl rfl) $$ HP
  iintro HP
  iapply (pass_step av bv K c (pg 0 0 true) (pg 0 1 true) 49 37 rfl (by decide +kernel) rfl (by decide) (by decide)
      (pg_one av bv 0 (by decide) 0 1 rfl true c) rfl (blk_credit _) (dv k0_dev54 (pg 0 1 true) (by decide +kernel) c) (outB_at (d := true) (off34_eq c 1 0 (by decide))) (outB_at (d := true) (off34_eq c 1 0 (by decide))) rfl rfl) $$ HP
  iintro HP
  iapply (pass_step av bv K c (pg 1 0 false) (pg 1 1 false) 50 38 rfl (by decide +kernel) rfl (by decide) (by decide)
      (pg_one av bv 1 (by decide) 0 1 rfl false c) rfl (blk_credit _) (dv k0_dev55 (pg 1 1 false) (by decide +kernel) c) (outB_at (d := false) (off32_eq c 1 1 (by decide))) (outB_at (d := false) (off32_eq c 1 1 (by decide))) rfl rfl) $$ HP
  iintro HP
  iapply (pass_step av bv K c (pg 1 0 true) (pg 1 1 true) 51 39 rfl (by decide +kernel) rfl (by decide) (by decide)
      (pg_one av bv 1 (by decide) 0 1 rfl true c) rfl (blk_credit _) (dv k0_dev56 (pg 1 1 true) (by decide +kernel) c) (outB_at (d := true) (off34_eq c 1 1 (by decide))) (outB_at (d := true) (off34_eq c 1 1 (by decide))) rfl rfl) $$ HP
  iintro HP
  iapply (pass_step av bv K c (pg 2 0 false) (pg 2 1 false) 52 40 rfl (by decide +kernel) rfl (by decide) (by decide)
      (pg_one av bv 2 (by decide) 0 1 rfl false c) rfl (blk_credit _) (dv k0_dev57 (pg 2 1 false) (by decide +kernel) c) (outB_at (d := false) (off32_eq c 1 2 (by decide))) (outB_at (d := false) (off32_eq c 1 2 (by decide))) rfl rfl) $$ HP
  iintro HP
  iapply hk
  isplitl [HP]; · iexact HP
  iexact HR

set_option maxRecDepth 8000 in
set_option maxHeartbeats 4000000 in
theorem seg9_ok (K : Dev nD × KI → ℕ) (c : Dev nD) {v19 v20 v24 v28 v1737 v1381 : BitVec 32} {α : Type} {Q : α → sProp 𝕄}
    {kk : PUnit → Prog (TpuEff nD τ sig (Elt F) Λ₀ .tc) α} (R : sProp 𝕄)
    (hk : iprop(Pst av bv K c 60 60 ∗ recvPay av bv (pg 0 2 false) c ∗ recvPay av bv (pg 0 2 true) c ∗ recvPay av bv (pg 1 2 false) c ∗ recvPay av bv (pg 1 2 true) c ∗ recvPay av bv (pg 2 2 false) c ∗ recvPay av bv (pg 2 2 true) c ∗ recvPay av bv (pg 3 0 false) c ∗ recvPay av bv (pg 3 0 true) c ∗ recvPay av bv (pg 3 1 false) c ∗ recvPay av bv (pg 3 1 true) c ∗ recvPay av bv (pg 3 2 false) c ∗ recvPay av bv (pg 3 2 true) c ∗ R)
      ⊢ runs c (kk ⟨⟩) Q) :
    iprop(Pst av bv K c 53 41 ∗ R)
      ⊢ runs c (seg9 c v19 v20 v24 v28 v1737 v1381 kk) Q := by
  unfold seg9
  simp only [k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
  unfold k0_part61_skel k0_part62_skel k0_part63_skel k0_part64_skel k0_part65_skel k0_part66_skel k0_part67_skel k0_part68_skel k0_part69_skel k0_part70_skel
  simp only [Prog.lift, Prog.bind_op, Prog.bind_ret, Prog.pure_eq_ret]
  iintro ⟨HP, HR⟩
  iapply (pass_step av bv K c (pg 2 0 true) (pg 2 1 true) 53 41 rfl (by decide +kernel) rfl (by decide) (by decide)
      (pg_one av bv 2 (by decide) 0 1 rfl true c) rfl (blk_credit _) (dv k0_dev58 (pg 2 1 true) (by decide +kernel) c) (outB_at (d := true) (off34_eq c 1 2 (by decide))) (outB_at (d := true) (off34_eq c 1 2 (by decide))) rfl rfl) $$ HP
  iintro HP
  iapply (pass_step av bv K c (pg 0 1 false) (pg 0 2 false) 54 42 rfl (by decide +kernel) rfl (by decide) (by decide)
      (pg_one av bv 0 (by decide) 1 2 rfl false c) rfl (blk_credit _) (dv k0_dev59 (pg 0 2 false) (by decide +kernel) c) (outB_at (d := false) (off32_eq c 2 0 (by decide))) (outB_at (d := false) (off32_eq c 2 0 (by decide))) rfl rfl) $$ HP
  iintro HP
  iapply (pass_step av bv K c (pg 0 1 true) (pg 0 2 true) 55 43 rfl (by decide +kernel) rfl (by decide) (by decide)
      (pg_one av bv 0 (by decide) 1 2 rfl true c) rfl (blk_credit _) (dv k0_dev60 (pg 0 2 true) (by decide +kernel) c) (outB_at (d := true) (off34_eq c 2 0 (by decide))) (outB_at (d := true) (off34_eq c 2 0 (by decide))) rfl rfl) $$ HP
  iintro HP
  iapply (pass_step av bv K c (pg 1 1 false) (pg 1 2 false) 56 44 rfl (by decide +kernel) rfl (by decide) (by decide)
      (pg_one av bv 1 (by decide) 1 2 rfl false c) rfl (blk_credit _) (dv k0_dev61 (pg 1 2 false) (by decide +kernel) c) (outB_at (d := false) (off32_eq c 2 1 (by decide))) (outB_at (d := false) (off32_eq c 2 1 (by decide))) rfl rfl) $$ HP
  iintro HP
  iapply (pass_step av bv K c (pg 1 1 true) (pg 1 2 true) 57 45 rfl (by decide +kernel) rfl (by decide) (by decide)
      (pg_one av bv 1 (by decide) 1 2 rfl true c) rfl (blk_credit _) (dv k0_dev62 (pg 1 2 true) (by decide +kernel) c) (outB_at (d := true) (off34_eq c 2 1 (by decide))) (outB_at (d := true) (off34_eq c 2 1 (by decide))) rfl rfl) $$ HP
  iintro HP
  iapply (pass_step av bv K c (pg 2 1 false) (pg 2 2 false) 58 46 rfl (by decide +kernel) rfl (by decide) (by decide)
      (pg_one av bv 2 (by decide) 1 2 rfl false c) rfl (blk_credit _) (dv k0_dev63 (pg 2 2 false) (by decide +kernel) c) (outB_at (d := false) (off32_eq c 2 2 (by decide))) (outB_at (d := false) (off32_eq c 2 2 (by decide))) rfl rfl) $$ HP
  iintro HP
  iapply (pass_step av bv K c (pg 2 1 true) (pg 2 2 true) 59 47 rfl (by decide +kernel) rfl (by decide) (by decide)
      (pg_one av bv 2 (by decide) 1 2 rfl true c) rfl (blk_credit _) (dv k0_dev64 (pg 2 2 true) (by decide +kernel) c) (outB_at (d := true) (off34_eq c 2 2 (by decide))) (outB_at (d := true) (off34_eq c 2 2 (by decide))) rfl rfl) $$ HP
  iintro HP
  iapply (recv_step av bv K c (pg 0 2 false) 60 48 rfl (by decide +kernel) rfl (blk_credit _)) $$ HP
  iintro ⟨HP, K020⟩
  iapply (recv_step av bv K c (pg 0 2 true) 60 49 rfl (by decide +kernel) rfl (blk_credit _)) $$ HP
  iintro ⟨HP, K021⟩
  iapply (recv_step av bv K c (pg 1 2 false) 60 50 rfl (by decide +kernel) rfl (blk_credit _)) $$ HP
  iintro ⟨HP, K120⟩
  iapply (recv_step av bv K c (pg 1 2 true) 60 51 rfl (by decide +kernel) rfl (blk_credit _)) $$ HP
  iintro ⟨HP, K121⟩
  iapply (recv_step av bv K c (pg 2 2 false) 60 52 rfl (by decide +kernel) rfl (blk_credit _)) $$ HP
  iintro ⟨HP, K220⟩
  iapply (recv_step av bv K c (pg 2 2 true) 60 53 rfl (by decide +kernel) rfl (blk_credit _)) $$ HP
  iintro ⟨HP, K221⟩
  iapply (recv_step av bv K c (pg 3 0 false) 60 54 rfl (by decide +kernel) rfl (blk_credit _)) $$ HP
  iintro ⟨HP, K300⟩
  iapply (recv_step av bv K c (pg 3 0 true) 60 55 rfl (by decide +kernel) rfl (blk_credit _)) $$ HP
  iintro ⟨HP, K301⟩
  iapply (recv_step av bv K c (pg 3 1 false) 60 56 rfl (by decide +kernel) rfl (blk_credit _)) $$ HP
  iintro ⟨HP, K310⟩
  iapply (recv_step av bv K c (pg 3 1 true) 60 57 rfl (by decide +kernel) rfl (blk_credit _)) $$ HP
  iintro ⟨HP, K311⟩
  iapply (recv_step av bv K c (pg 3 2 false) 60 58 rfl (by decide +kernel) rfl (blk_credit _)) $$ HP
  iintro ⟨HP, K320⟩
  iapply (recv_step av bv K c (pg 3 2 true) 60 59 rfl (by decide +kernel) rfl (blk_credit _)) $$ HP
  iintro ⟨HP, K321⟩
  iapply hk
  isplitl [HP]; · iexact HP
  isplitl [K020]; · iexact K020
  isplitl [K021]; · iexact K021
  isplitl [K120]; · iexact K120
  isplitl [K121]; · iexact K121
  isplitl [K220]; · iexact K220
  isplitl [K221]; · iexact K221
  isplitl [K300]; · iexact K300
  isplitl [K301]; · iexact K301
  isplitl [K310]; · iexact K310
  isplitl [K311]; · iexact K311
  isplitl [K320]; · iexact K320
  isplitl [K321]; · iexact K321
  iexact HR

end Cert.Mesh

end
-- ==== Proof.Seg10.lean ====
/-
# The tenth segment

The departures.
-/
module

public import proofs.«01_k».proof.Proof.Segs
public import proofs.«01_k».proof.Proof.Ag

@[expose] public section

noncomputable section

namespace Cert.Mesh

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.TcCoe

open X

variable {F : FTy → Type} [FloatOps F]

local notation "𝕄" => MT nD τ sig Unit (Elt F) ℕ UU ℕ

variable (av : Dev nD → Vec F S2048x1024 .bf16) (bv : Dev nD → Vec F S1024x2048 .bf16)

set_option maxRecDepth 8000 in
set_option maxHeartbeats 4000000 in
theorem seg10_ok (K : Dev nD × KI → ℕ) (c : Dev nD)  {α : Type} {Q : α → sProp 𝕄}
    {kk : PUnit → Prog (TpuEff nD τ sig (Elt F) Λ₀ .tc) α} (R : sProp 𝕄)
    (hk : iprop(Fst av bv K c sOrder 58 ∗ R)
      ⊢ runs c (kk ⟨⟩) Q) :
    iprop(Fst av bv K c sOrder 0 ∗ R)
      ⊢ runs c (seg10 c kk) Q := by
  unfold seg10
  simp only [k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
  unfold k0_part71_skel k0_part72_skel k0_part73_skel k0_part74_skel k0_part75_skel k0_part76_skel k0_part77_skel k0_part78_skel k0_part79_skel k0_part80_skel k0_part81_skel k0_part82_skel k0_part83_skel k0_part84_skel k0_part85_skel
  simp only [Prog.lift, Prog.bind_op, Prog.bind_ret, Prog.pure_eq_ret]
  iintro ⟨HP, HR⟩
  iapply (done_step av bv K c sOrder (za 0 false) 0 rfl rfl (blk_credit _)) $$ HP
  iintro HP
  iapply (done_step av bv K c sOrder (za 0 true) 1 rfl rfl (blk_credit _)) $$ HP
  iintro HP
  iapply (done_step av bv K c sOrder (za 1 false) 2 rfl rfl (blk_credit _)) $$ HP
  iintro HP
  iapply (done_step av bv K c sOrder (za 1 true) 3 rfl rfl (blk_credit _)) $$ HP
  iintro HP
  iapply (done_step av bv K c sOrder (za 2 false) 4 rfl rfl (blk_credit _)) $$ HP
  iintro HP
  iapply (done_step av bv K c sOrder (za 2 true) 5 rfl rfl (blk_credit _)) $$ HP
  iintro HP
  iapply (done_step av bv K c sOrder (pg 0 0 false) 6 rfl rfl (blk_credit _)) $$ HP
  iintro HP
  iapply (done_step av bv K c sOrder (pg 0 0 true) 7 rfl rfl (blk_credit _)) $$ HP
  iintro HP
  iapply (done_step av bv K c sOrder (pg 1 0 false) 8 rfl rfl (blk_credit _)) $$ HP
  iintro HP
  iapply (done_step av bv K c sOrder (pg 1 0 true) 9 rfl rfl (blk_credit _)) $$ HP
  iintro HP
  iapply (done_step av bv K c sOrder (pg 2 0 false) 10 rfl rfl (blk_credit _)) $$ HP
  iintro HP
  iapply (done_step av bv K c sOrder (pg 2 0 true) 11 rfl rfl (blk_credit _)) $$ HP
  iintro HP
  iapply (done_step av bv K c sOrder (pg 3 0 false) 12 rfl rfl (blk_credit _)) $$ HP
  iintro HP
  iapply (done_step av bv K c sOrder (pg 3 1 false) 13 rfl rfl (blk_credit _)) $$ HP
  iintro HP
  iapply (done_step av bv K c sOrder (pg 3 2 false) 14 rfl rfl (blk_credit _)) $$ HP
  iintro HP
  iapply (done_step av bv K c sOrder (pg 3 0 true) 15 rfl rfl (blk_credit _)) $$ HP
  iintro HP
  iapply (done_step av bv K c sOrder (pg 3 1 true) 16 rfl rfl (blk_credit _)) $$ HP
  iintro HP
  iapply (done_step av bv K c sOrder (pg 3 2 true) 17 rfl rfl (blk_credit _)) $$ HP
  iintro HP
  iapply (done_step av bv K c sOrder (pg 0 1 false) 18 rfl rfl (blk_credit _)) $$ HP
  iintro HP
  iapply (done_step av bv K c sOrder (pg 0 1 true) 19 rfl rfl (blk_credit _)) $$ HP
  iintro HP
  iapply (done_step av bv K c sOrder (pg 1 1 false) 20 rfl rfl (blk_credit _)) $$ HP
  iintro HP
  iapply (done_step av bv K c sOrder (pg 1 1 true) 21 rfl rfl (blk_credit _)) $$ HP
  iintro HP
  iapply (done_step av bv K c sOrder (pg 2 1 false) 22 rfl rfl (blk_credit _)) $$ HP
  iintro HP
  iapply (done_step av bv K c sOrder (pg 2 1 true) 23 rfl rfl (blk_credit _)) $$ HP
  iintro HP
  iapply (done_step av bv K c sOrder (pg 0 2 false) 24 rfl rfl (blk_credit _)) $$ HP
  iintro HP
  iapply (done_step av bv K c sOrder (pg 0 2 true) 25 rfl rfl (blk_credit _)) $$ HP
  iintro HP
  iapply (done_step av bv K c sOrder (pg 1 2 false) 26 rfl rfl (blk_credit _)) $$ HP
  iintro HP
  iapply (done_step av bv K c sOrder (pg 1 2 true) 27 rfl rfl (blk_credit _)) $$ HP
  iintro HP
  iapply (done_step av bv K c sOrder (pg 2 2 false) 28 rfl rfl (blk_credit _)) $$ HP
  iintro HP
  iapply (done_step av bv K c sOrder (pg 2 2 true) 29 rfl rfl (blk_credit _)) $$ HP
  iintro HP
  iapply (done_step av bv K c sOrder (pa 0 0 false) 30 rfl rfl (blk_credit _)) $$ HP
  iintro HP
  iapply (done_step av bv K c sOrder (pa 0 0 true) 31 rfl rfl (blk_credit _)) $$ HP
  iintro HP
  iapply (done_step av bv K c sOrder (pa 1 0 false) 32 rfl rfl (blk_credit _)) $$ HP
  iintro HP
  iapply (done_step av bv K c sOrder (pa 1 0 true) 33 rfl rfl (blk_credit _)) $$ HP
  iintro HP
  iapply (done_step av bv K c sOrder (pa 2 0 false) 34 rfl rfl (blk_credit _)) $$ HP
  iintro HP
  iapply (done_step av bv K c sOrder (pa 2 0 true) 35 rfl rfl (blk_credit _)) $$ HP
  iintro HP
  iapply (done_step av bv K c sOrder (pa 3 0 false) 36 rfl rfl (blk_credit _)) $$ HP
  iintro HP
  iapply (done_step av bv K c sOrder (pa 3 0 true) 37 rfl rfl (blk_credit _)) $$ HP
  iintro HP
  iapply (done_step av bv K c sOrder (pa 0 1 false) 38 rfl rfl (blk_credit _)) $$ HP
  iintro HP
  iapply (done_step av bv K c sOrder (pa 0 1 true) 39 rfl rfl (blk_credit _)) $$ HP
  iintro HP
  iapply (done_step av bv K c sOrder (pa 1 1 false) 40 rfl rfl (blk_credit _)) $$ HP
  iintro HP
  iapply (done_step av bv K c sOrder (pa 1 1 true) 41 rfl rfl (blk_credit _)) $$ HP
  iintro HP
  iapply (done_step av bv K c sOrder (pa 0 2 false) 42 rfl rfl (blk_credit _)) $$ HP
  iintro HP
  iapply (done_step av bv K c sOrder (pa 0 2 true) 43 rfl rfl (blk_credit _)) $$ HP
  iintro HP
  iapply (done_step av bv K c sOrder (pa 2 1 false) 44 rfl rfl (blk_credit _)) $$ HP
  iintro HP
  iapply (done_step av bv K c sOrder (pa 2 1 true) 45 rfl rfl (blk_credit _)) $$ HP
  iintro HP
  iapply (done_step av bv K c sOrder (pa 1 2 false) 46 rfl rfl (blk_credit _)) $$ HP
  iintro HP
  iapply (done_step av bv K c sOrder (pa 1 2 true) 47 rfl rfl (blk_credit _)) $$ HP
  iintro HP
  iapply (done_step av bv K c sOrder (pa 3 1 false) 48 rfl rfl (blk_credit _)) $$ HP
  iintro HP
  iapply (done_step av bv K c sOrder (pa 3 1 true) 49 rfl rfl (blk_credit _)) $$ HP
  iintro HP
  iapply (done_step av bv K c sOrder (pa 2 2 false) 50 rfl rfl (blk_credit _)) $$ HP
  iintro HP
  iapply (done_step av bv K c sOrder (pa 2 2 true) 51 rfl rfl (blk_credit _)) $$ HP
  iintro HP
  iapply (done_step av bv K c sOrder (pa 3 2 false) 52 rfl rfl (blk_credit _)) $$ HP
  iintro HP
  iapply (done_step av bv K c sOrder (pa 3 2 true) 53 rfl rfl (blk_credit _)) $$ HP
  iintro HP
  iapply (done_step av bv K c sOrder (zr 0 false) 54 rfl rfl (blk_credit _)) $$ HP
  iintro HP
  iapply (done_step av bv K c sOrder (zr 0 true) 55 rfl rfl (blk_credit _)) $$ HP
  iintro HP
  iapply (done_step av bv K c sOrder (zr 1 false) 56 rfl rfl (blk_credit _)) $$ HP
  iintro HP
  iapply (done_step av bv K c sOrder (zr 1 true) 57 rfl rfl (blk_credit _)) $$ HP
  iintro HP
  iapply hk
  isplitl [HP]; · iexact HP
  iexact HR

end Cert.Mesh

end
-- ==== Proof.Body.lean ====
/-
# The whole body

The ten segments one after another.
-/
module

public import proofs.«01_k».proof.Proof.Seg1
public import proofs.«01_k».proof.Proof.Seg2
public import proofs.«01_k».proof.Proof.Seg4
public import proofs.«01_k».proof.Proof.Seg6
public import proofs.«01_k».proof.Proof.Seg8
public import proofs.«01_k».proof.Proof.Seg10

@[expose] public section

noncomputable section

namespace Cert.Mesh

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.TcCoe

open X

variable {F : FTy → Type} [FloatOps F]

local notation "𝕄" => MT nD τ sig Unit (Elt F) ℕ UU ℕ

variable (av : Dev nD → Vec F S2048x1024 .bf16) (bv : Dev nD → Vec F S1024x2048 .bf16)

/-- What device `c`'s body starts with besides its signals, tokens and cells: the two operand blocks and the pieces of its own
    buffers that no other device writes. -/
def Ini (c : Dev nD) : sProp 𝕄 :=
  iprop(opA av c ∗ opB bv c ∗ blankS c (qx c) ∗ blankS c (qx c + 2)
    ∗ any c (accQ (qx c + 1)) ∗ any c (accQ (qx c + 3)) ∗ any c (zbB false 3) ∗ any c (zbB true 3) ∗ any c (outE false c) ∗ any c (outE true c))

/-- What device `c`'s body still holds after its last receipt, besides the transfers under way. -/
def Left (c : Dev nD) : sProp 𝕄 :=
  iprop(recvPay av bv (pg 0 2 false) c ∗ recvPay av bv (pg 0 2 true) c ∗ recvPay av bv (pg 1 2 false) c ∗ recvPay av bv (pg 1 2 true) c ∗ recvPay av bv (pg 2 2 false) c ∗ recvPay av bv (pg 2 2 true) c ∗ recvPay av bv (pg 3 0 false) c ∗ recvPay av bv (pg 3 0 true) c ∗ recvPay av bv (pg 3 1 false) c ∗ recvPay av bv (pg 3 1 true) c ∗ recvPay av bv (pg 3 2 false) c ∗ recvPay av bv (pg 3 2 true) c ∗ quartR av bv c (qx c + 1) ∗ quartR av bv c (qx c + 3) ∗ any c (pbB false 2 (slab false 2 c)) ∗ any c (pbB true 2 (slab true 2 c)) ∗ any c (pbB false 2 (slab false 3 c)) ∗ any c (pbB true 2 (slab true 3 c)) ∗ any c (zbB false 2) ∗ any c (zbB true 2) ∗ slabR av bv c (row (qx c + 2) (px c + 1)) ∗ slabR av bv c (row (qx c + 2) (px c + 3)) ∗ any c (pbB false 2 (slab false 1 c)) ∗ any c (pbB true 2 (slab true 1 c)) ∗ slabR av bv c (row (qx c + 2) (px c + 2)) ∗ any c (pbB false 2 (slab false 0 c)) ∗ any c (pbB true 2 (slab true 0 c)) ∗ opA av c ∗ opB bv c ∗ slabR av bv c (row (qx c + 2) (px c)) ∗ semVal (barCell c) 0)

/-- The first half of the body, in segments. -/
def half1 : Prog (TpuEff nD τ sig (Elt F) Λ₀ .tc) (Σ' (d0 : Dev nD) (v19 : BitVec 32) (v20 : BitVec 32) (v24 : BitVec 32) (v28 : BitVec 32) (v1381 : BitVec 32), BitVec 32) :=
  seg1 fun d0 v19 v20 v24 v28 v32 v36 v47 v49 v51 v53 v271 v274 v277 =>
  seg2 d0 v24 v274 v277 v19 v20 v28 v271 fun v445 v448 =>
  seg3 d0 v19 v24 v445 v448 v20 v28 v271 fun v635 v637 =>
  seg4 d0 v24 v635 v637 v19 v20 v28 v271 fun (_ : PUnit.{1}) =>
  seg5 d0 v19 v32 v47 v28 v36 v49 v20 v24 fun v953 =>
  seg6 d0 v19 v24 v47 v953 v32 v36 v28 v49 v20 fun (_ : PUnit.{1}) =>
  seg7 d0 v19 v24 v32 v47 v36 v28 v49 v51 v53 v20 fun v1328 v1330 =>
  seg8 d0 v19 v24 v36 v49 v1328 v1330 v20 v28 v32 v47 fun v1381 v1737 =>
  pure ⟨d0, v19, v20, v24, v28, v1381, v1737⟩

set_option maxRecDepth 65536 in
theorem half1_eq : k0_part86 (F := F) aM wA bM wB outM wO accM wC (pb false) wP (pb true) wQ (zb false) wZ (zb true) wY cc0_scratch5 cc0_scratch6 cc0_scratch7 cc0_scratch8 = half1 := by
  rw [k0_part86_eq_skeleton]; rfl

set_option maxRecDepth 8000 in
set_option maxHeartbeats 4000000 in
theorem half1_ok (K : Dev nD × KI → ℕ) (c : Dev nD) (R : sProp 𝕄) {Q : _ → sProp 𝕄}
    (hk : ∀ v19 v20 v24 v28 v1381 v1737, iprop(Pst av bv K c 53 41 ∗ quartR av bv c (qx c + 1) ∗ quartR av bv c (qx c + 3) ∗ any c (pbB false 2 (slab false 2 c)) ∗ any c (pbB true 2 (slab true 2 c)) ∗ any c (pbB false 2 (slab false 3 c)) ∗ any c (pbB true 2 (slab true 3 c)) ∗ any c (zbB false 2) ∗ any c (zbB true 2) ∗ slabR av bv c (row (qx c + 2) (px c + 1)) ∗ slabR av bv c (row (qx c + 2) (px c + 3)) ∗ any c (pbB false 2 (slab false 1 c)) ∗ any c (pbB true 2 (slab true 1 c)) ∗ slabR av bv c (row (qx c + 2) (px c + 2)) ∗ any c (pbB false 2 (slab false 0 c)) ∗ any c (pbB true 2 (slab true 0 c)) ∗ opA av c ∗ opB bv c ∗ slabR av bv c (row (qx c + 2) (px c)) ∗ semVal (barCell c) 0 ∗ R) ⊢ Q ⟨c, v19, v20, v24, v28, v1381, v1737⟩) :
    iprop(Bst av bv K c sigs ∗ bigSepL order (sendTok c) ∗ bigSepL rOrder (coming (F := F) c) ∗ opA av c ∗ opB bv c ∗ blankS c (qx c) ∗ any c (accS (row (qx c + 2) (px c))) ∗ any c (accS (row (qx c + 2) (px c + 3))) ∗ any c (accS (row (qx c + 2) (px c + 1))) ∗ any c (accS (row (qx c + 2) (px c + 2))) ∗ any c (accQ (qx c + 1)) ∗ any c (accQ (qx c + 3)) ∗ any c (zbB false 3) ∗ any c (zbB true 3) ∗ any c (outE false c) ∗ any c (outE true c) ∗ R) ⊢ runs c half1 Q := by
  unfold half1
  refine BIBase.Entails.trans ?_ (seg1_ok av bv K c iprop(any c (accS (row (qx c + 2) (px c))) ∗ any c (accS (row (qx c + 2) (px c + 3))) ∗ any c (accS (row (qx c + 2) (px c + 1))) ∗ any c (accS (row (qx c + 2) (px c + 2))) ∗ any c (zbB false 3) ∗ any c (zbB true 3) ∗ any c (outE false c) ∗ any c (outE true c) ∗ R) (fun v19 v20 v24 v28 v32 v36 v47 v49 v51 v53 v271 v274 v277 => ?_))
  · iintro ⟨HT, Hs, Hr, HA, HB, BS, S0a, S3a, S1a, S2a, Q1, Q3, Z03, Z13, O0, O1, HR⟩
    isplitl [HT]; · iexact HT
    isplitl [Hs]; · iexact Hs
    isplitl [Hr]; · iexact Hr
    isplitl [HA]; · iexact HA
    isplitl [HB]; · iexact HB
    isplitl [BS]; · iexact BS
    isplitl [Q1]; · iexact Q1
    isplitl [Q3]; · iexact Q3
    isplitl [S0a]; · iexact S0a
    isplitl [S3a]; · iexact S3a
    isplitl [S1a]; · iexact S1a
    isplitl [S2a]; · iexact S2a
    isplitl [Z03]; · iexact Z03
    isplitl [Z13]; · iexact Z13
    isplitl [O0]; · iexact O0
    isplitl [O1]; · iexact O1
    iexact HR
  refine BIBase.Entails.trans ?_ (seg2_ok av bv K c iprop(semVal (barCell c) 0 ∗ any c (accS (row (qx c + 2) (px c + 3))) ∗ any c (accS (row (qx c + 2) (px c + 1))) ∗ any c (accS (row (qx c + 2) (px c + 2))) ∗ any c (zbB false 3) ∗ any c (zbB true 3) ∗ any c (outE false c) ∗ any c (outE true c) ∗ R) (fun v445 v448 => ?_))
  · iintro ⟨HP8, SV, HA, HB, H1, H3, S0a, S3a, S1a, S2a, Z03, Z13, O0, O1, HR⟩
    isplitl [HP8]; · iexact HP8
    isplitl [HA]; · iexact HA
    isplitl [HB]; · iexact HB
    isplitl [H1]; · iexact H1
    isplitl [H3]; · iexact H3
    isplitl [S0a]; · iexact S0a
    isplitl [SV]; · iexact SV
    isplitl [S3a]; · iexact S3a
    isplitl [S1a]; · iexact S1a
    isplitl [S2a]; · iexact S2a
    isplitl [Z03]; · iexact Z03
    isplitl [Z13]; · iexact Z13
    isplitl [O0]; · iexact O0
    isplitl [O1]; · iexact O1
    iexact HR
  refine BIBase.Entails.trans ?_ (seg3_ok av bv K c iprop(fars c ∗ semVal (barCell c) 0 ∗ any c (accS (row (qx c + 2) (px c + 2))) ∗ any c (zbB false 3) ∗ any c (zbB true 3) ∗ any c (outE false c) ∗ any c (outE true c) ∗ R) (fun v635 v637 => ?_))
  · iintro ⟨HP12, HA, HB, H1, H3, S0, HF, SV, S3a, S1a, S2a, Z03, Z13, O0, O1, HR⟩
    isplitl [HP12]; · iexact HP12
    isplitl [HA]; · iexact HA
    isplitl [HB]; · iexact HB
    isplitl [H1]; · iexact H1
    isplitl [H3]; · iexact H3
    isplitl [S0]; · iexact S0
    isplitl [S3a]; · iexact S3a
    isplitl [S1a]; · iexact S1a
    isplitl [HF]; · iexact HF
    isplitl [SV]; · iexact SV
    isplitl [S2a]; · iexact S2a
    isplitl [Z03]; · iexact Z03
    isplitl [Z13]; · iexact Z13
    isplitl [O0]; · iexact O0
    isplitl [O1]; · iexact O1
    iexact HR
  refine BIBase.Entails.trans ?_ (seg4_ok av bv K c iprop(slabR av bv c (row (qx c + 2) (px c)) ∗ fars c ∗ semVal (barCell c) 0 ∗ any c (zbB false 3) ∗ any c (zbB true 3) ∗ any c (outE false c) ∗ any c (outE true c) ∗ R) ?_)
  · iintro ⟨HP16, HA, HB, H1, H3, S0, S3, S1, HF, SV, S2a, Z03, Z13, O0, O1, HR⟩
    isplitl [HP16]; · iexact HP16
    isplitl [HA]; · iexact HA
    isplitl [HB]; · iexact HB
    isplitl [H1]; · iexact H1
    isplitl [H3]; · iexact H3
    isplitl [S3]; · iexact S3
    isplitl [S1]; · iexact S1
    isplitl [S2a]; · iexact S2a
    isplitl [S0]; · iexact S0
    isplitl [HF]; · iexact HF
    isplitl [SV]; · iexact SV
    isplitl [Z03]; · iexact Z03
    isplitl [Z13]; · iexact Z13
    isplitl [O0]; · iexact O0
    isplitl [O1]; · iexact O1
    iexact HR
  refine BIBase.Entails.trans ?_ (seg5_ok av bv K c iprop(opA av c ∗ opB bv c ∗ slabR av bv c (row (qx c + 2) (px c + 3)) ∗ slabR av bv c (row (qx c + 2) (px c + 1)) ∗ slabR av bv c (row (qx c + 2) (px c)) ∗ fars c ∗ semVal (barCell c) 0 ∗ any c (outE false c) ∗ any c (outE true c) ∗ R) (fun v953 => ?_))
  · iintro ⟨HP20, HA, HB, H1, H3, S3, S1, S2, S0, HF, SV, Z03, Z13, O0, O1, HR⟩
    isplitl [HP20]; · iexact HP20
    isplitl [H1]; · iexact H1
    isplitl [H3]; · iexact H3
    isplitl [S2]; · iexact S2
    isplitl [Z03]; · iexact Z03
    isplitl [Z13]; · iexact Z13
    isplitl [HA]; · iexact HA
    isplitl [HB]; · iexact HB
    isplitl [S3]; · iexact S3
    isplitl [S1]; · iexact S1
    isplitl [S0]; · iexact S0
    isplitl [HF]; · iexact HF
    isplitl [SV]; · iexact SV
    isplitl [O0]; · iexact O0
    isplitl [O1]; · iexact O1
    iexact HR
  refine BIBase.Entails.trans ?_ (seg6_ok av bv K c iprop(slabR av bv c (row (qx c + 2) (px c + 2)) ∗ any c (pbB false 2 (slab false 0 c)) ∗ any c (pbB true 2 (slab true 0 c)) ∗ opA av c ∗ opB bv c ∗ slabR av bv c (row (qx c + 2) (px c)) ∗ fars c ∗ semVal (barCell c) 0 ∗ any c (outE false c) ∗ any c (outE true c) ∗ R) ?_)
  · iintro ⟨HP24, H1, H3, S2, P00, P10, HA, HB, S3, S1, S0, HF, SV, O0, O1, HR⟩
    isplitl [HP24]; · iexact HP24
    isplitl [H1]; · iexact H1
    isplitl [H3]; · iexact H3
    isplitl [S1]; · iexact S1
    isplitl [S3]; · iexact S3
    isplitl [S2]; · iexact S2
    isplitl [P00]; · iexact P00
    isplitl [P10]; · iexact P10
    isplitl [HA]; · iexact HA
    isplitl [HB]; · iexact HB
    isplitl [S0]; · iexact S0
    isplitl [HF]; · iexact HF
    isplitl [SV]; · iexact SV
    isplitl [O0]; · iexact O0
    isplitl [O1]; · iexact O1
    iexact HR
  refine BIBase.Entails.trans ?_ (seg7_ok av bv K c iprop(slabR av bv c (row (qx c + 2) (px c + 1)) ∗ slabR av bv c (row (qx c + 2) (px c + 3)) ∗ any c (pbB false 2 (slab false 1 c)) ∗ any c (pbB true 2 (slab true 1 c)) ∗ slabR av bv c (row (qx c + 2) (px c + 2)) ∗ any c (pbB false 2 (slab false 0 c)) ∗ any c (pbB true 2 (slab true 0 c)) ∗ opA av c ∗ opB bv c ∗ slabR av bv c (row (qx c + 2) (px c)) ∗ fars c ∗ semVal (barCell c) 0 ∗ R) (fun v1328 v1330 => ?_))
  · iintro ⟨HP28, H1, H3, S1, S3, P01, P11, S2, P00, P10, HA, HB, S0, HF, SV, O0, O1, HR⟩
    isplitl [HP28]; · iexact HP28
    isplitl [H1]; · iexact H1
    isplitl [H3]; · iexact H3
    isplitl [O0]; · iexact O0
    isplitl [O1]; · iexact O1
    isplitl [S1]; · iexact S1
    isplitl [S3]; · iexact S3
    isplitl [P01]; · iexact P01
    isplitl [P11]; · iexact P11
    isplitl [S2]; · iexact S2
    isplitl [P00]; · iexact P00
    isplitl [P10]; · iexact P10
    isplitl [HA]; · iexact HA
    isplitl [HB]; · iexact HB
    isplitl [S0]; · iexact S0
    isplitl [HF]; · iexact HF
    isplitl [SV]; · iexact SV
    iexact HR
  refine BIBase.Entails.trans ?_ (seg8_ok av bv K c iprop(quartR av bv c (qx c + 1) ∗ quartR av bv c (qx c + 3) ∗ any c (pbB false 2 (slab false 2 c)) ∗ any c (pbB true 2 (slab true 2 c)) ∗ any c (pbB false 2 (slab false 3 c)) ∗ any c (pbB true 2 (slab true 3 c)) ∗ any c (zbB false 2) ∗ any c (zbB true 2) ∗ slabR av bv c (row (qx c + 2) (px c + 1)) ∗ slabR av bv c (row (qx c + 2) (px c + 3)) ∗ any c (pbB false 2 (slab false 1 c)) ∗ any c (pbB true 2 (slab true 1 c)) ∗ slabR av bv c (row (qx c + 2) (px c + 2)) ∗ any c (pbB false 2 (slab false 0 c)) ∗ any c (pbB true 2 (slab true 0 c)) ∗ opA av c ∗ opB bv c ∗ slabR av bv c (row (qx c + 2) (px c)) ∗ semVal (barCell c) 0 ∗ R) (fun v1381 v1737 => ?_))
  · iintro ⟨HP31, H1, H3, P02, P12, P03, P13, Z02, Z12, G0, A1, G1, S1, S3, P01, P11, S2, P00, P10, HA, HB, S0, HF, SV, HR⟩
    isplitl [HP31]; · iexact HP31
    isplitl [G0]; · iexact G0
    isplitl [A1]; · iexact A1
    isplitl [G1]; · iexact G1
    isplitl [HF]; · iexact HF
    isplitl [H1]; · iexact H1
    isplitl [H3]; · iexact H3
    isplitl [P02]; · iexact P02
    isplitl [P12]; · iexact P12
    isplitl [P03]; · iexact P03
    isplitl [P13]; · iexact P13
    isplitl [Z02]; · iexact Z02
    isplitl [Z12]; · iexact Z12
    isplitl [S1]; · iexact S1
    isplitl [S3]; · iexact S3
    isplitl [P01]; · iexact P01
    isplitl [P11]; · iexact P11
    isplitl [S2]; · iexact S2
    isplitl [P00]; · iexact P00
    isplitl [P10]; · iexact P10
    isplitl [HA]; · iexact HA
    isplitl [HB]; · iexact HB
    isplitl [S0]; · iexact S0
    isplitl [SV]; · iexact SV
    iexact HR
  show _ ⊢ wp _ _ _ _ _
  rw [wp_pure]
  iintro H; imodintro; iapply (hk _ _ _ _ _ _) $$ H

/-- All transfers started and all received: what is left is to wait for the departures. -/
theorem turn (K : Dev nD × KI → ℕ) (c : Dev nD) :
    Pst av bv K c 60 60 ⊢ iprop(Fst av bv K c sOrder 0 ∗ bigSepL rOrder (rDone c)) := by
  unfold Pst Fst
  rw [show order.drop 60 = [] from rfl, show order.take 60 = order from rfl, show rOrder.drop 60 = [] from rfl,
    show rOrder.take 60 = rOrder from rfl]
  iintro ⟨#HR, HO, H1, H2, H3, H4, H5⟩
  isplitl [HO H3]
  · isplitl []; · iexact HR
    isplitl [HO]; · iexact HO
    isplitl [H3]
    · iapply (Entails.of_eq (TalkSites.bigSepL_perm sOrder_perm order_nodup _)) $$ H3
    · rw [show sOrder.take 0 = [] from rfl]; iempintro
  · iexact H5

set_option maxRecDepth 65536 in
set_option maxHeartbeats 4000000 in
theorem body_ok (K : Dev nD × KI → ℕ) (c : Dev nD) (R : sProp 𝕄) {Q : PUnit → sProp 𝕄}
    (hk : iprop(Fst av bv K c sOrder 60 ∗ bigSepL rOrder (rDone c) ∗ Left av bv c ∗ R) ⊢ Q ⟨⟩) :
    iprop(Bst av bv K c sigs ∗ bigSepL order (sendTok c) ∗ bigSepL rOrder (coming (F := F) c) ∗ Ini av bv c ∗ R)
      ⊢ runs c (cc0_body (F := F) aM wA bM wB outM wO accM wC (pb false) wP (pb true) wQ (zb false) wZ (zb true) wY cc0_scratch5 cc0_scratch6 cc0_scratch7 cc0_scratch8) Q := by
  rw [cc0_body_eq_skeleton]
  unfold cc0_body_skel
  show _ ⊢ wp _ _ _ (_ >>= _) _
  rw [wp_bind, half1_eq]
  refine BIBase.Entails.trans ?_ (half1_ok av bv K c R (fun v19 v20 v24 v28 v1381 v1737 => ?_))
  · unfold Ini blankS
    iintro ⟨HT, Hs, Hr, ⟨HA, HB, BS, ⟨S0a, S3a, S1a, S2a⟩, Q1, Q3, Z03, Z13, O0, O1⟩, HR⟩
    isplitl [HT]; · iexact HT
    isplitl [Hs]; · iexact Hs
    isplitl [Hr]; · iexact Hr
    isplitl [HA]; · iexact HA
    isplitl [HB]; · iexact HB
    isplitl [BS]; · iexact BS
    isplitl [S0a]; · iexact S0a
    isplitl [S3a]; · iexact S3a
    isplitl [S1a]; · iexact S1a
    isplitl [S2a]; · iexact S2a
    isplitl [Q1]; · iexact Q1
    isplitl [Q3]; · iexact Q3
    isplitl [Z03]; · iexact Z03
    isplitl [Z13]; · iexact Z13
    isplitl [O0]; · iexact O0
    isplitl [O1]; · iexact O1
    iexact HR
  change _ ⊢ runs c (seg9 c v19 v20 v24 v28 v1737 v1381 fun (_ : PUnit.{1}) => seg10 c fun (_ : PUnit.{1}) => _) Q
  refine BIBase.Entails.trans ?_ (seg9_ok av bv K c iprop(quartR av bv c (qx c + 1) ∗ quartR av bv c (qx c + 3) ∗ any c (pbB false 2 (slab false 2 c)) ∗ any c (pbB true 2 (slab true 2 c)) ∗ any c (pbB false 2 (slab false 3 c)) ∗ any c (pbB true 2 (slab true 3 c)) ∗ any c (zbB false 2) ∗ any c (zbB true 2) ∗ slabR av bv c (row (qx c + 2) (px c + 1)) ∗ slabR av bv c (row (qx c + 2) (px c + 3)) ∗ any c (pbB false 2 (slab false 1 c)) ∗ any c (pbB true 2 (slab true 1 c)) ∗ slabR av bv c (row (qx c + 2) (px c + 2)) ∗ any c (pbB false 2 (slab false 0 c)) ∗ any c (pbB true 2 (slab true 0 c)) ∗ opA av c ∗ opB bv c ∗ slabR av bv c (row (qx c + 2) (px c)) ∗ semVal (barCell c) 0 ∗ R) ?_)
  · iintro ⟨HP53, H1, H3, P02, P12, P03, P13, Z02, Z12, S1, S3, P01, P11, S2, P00, P10, HA, HB, S0, SV, HR⟩
    isplitl [HP53]; · iexact HP53
    isplitl [H1]; · iexact H1
    isplitl [H3]; · iexact H3
    isplitl [P02]; · iexact P02
    isplitl [P12]; · iexact P12
    isplitl [P03]; · iexact P03
    isplitl [P13]; · iexact P13
    isplitl [Z02]; · iexact Z02
    isplitl [Z12]; · iexact Z12
    isplitl [S1]; · iexact S1
    isplitl [S3]; · iexact S3
    isplitl [P01]; · iexact P01
    isplitl [P11]; · iexact P11
    isplitl [S2]; · iexact S2
    isplitl [P00]; · iexact P00
    isplitl [P10]; · iexact P10
    isplitl [HA]; · iexact HA
    isplitl [HB]; · iexact HB
    isplitl [S0]; · iexact S0
    isplitl [SV]; · iexact SV
    iexact HR
  refine BIBase.Entails.trans ?_ (seg10_ok av bv K c iprop(bigSepL rOrder (rDone c) ∗ Left av bv c ∗ R) ?_)
  · iintro ⟨HP60, K020, K021, K120, K121, K220, K221, K300, K301, K310, K311, K320, K321, H1, H3, P02, P12, P03, P13, Z02, Z12, S1, S3, P01, P11, S2, P00, P10, HA, HB, S0, SV, HR⟩
    ihave HP := turn av bv K c $$ HP60
    icases HP with ⟨HP, Hd⟩
    isplitl [HP]; · iexact HP
    isplitl [Hd]; · iexact Hd
    isplitr [HR]
    · unfold Left
      isplitl [K020]; · iexact K020
      isplitl [K021]; · iexact K021
      isplitl [K120]; · iexact K120
      isplitl [K121]; · iexact K121
      isplitl [K220]; · iexact K220
      isplitl [K221]; · iexact K221
      isplitl [K300]; · iexact K300
      isplitl [K301]; · iexact K301
      isplitl [K310]; · iexact K310
      isplitl [K311]; · iexact K311
      isplitl [K320]; · iexact K320
      isplitl [K321]; · iexact K321
      isplitl [H1]; · iexact H1
      isplitl [H3]; · iexact H3
      isplitl [P02]; · iexact P02
      isplitl [P12]; · iexact P12
      isplitl [P03]; · iexact P03
      isplitl [P13]; · iexact P13
      isplitl [Z02]; · iexact Z02
      isplitl [Z12]; · iexact Z12
      isplitl [S1]; · iexact S1
      isplitl [S3]; · iexact S3
      isplitl [P01]; · iexact P01
      isplitl [P11]; · iexact P11
      isplitl [S2]; · iexact S2
      isplitl [P00]; · iexact P00
      isplitl [P10]; · iexact P10
      isplitl [HA]; · iexact HA
      isplitl [HB]; · iexact HB
      isplitl [S0]; · iexact S0
      iexact SV
    · iexact HR
  simp only [Prog.lift, Prog.bind_op, Prog.bind_ret, Prog.pure_eq_ret]
  iintro ⟨HP, HD⟩
  iapply (done_step av bv K c sOrder (zr 2 false) 58 rfl rfl (blk_credit _)) $$ HP
  iintro HP
  iapply (done_step av bv K c sOrder (zr 2 true) 59 rfl rfl (blk_credit _)) $$ HP
  iintro HP
  unfold runs
  rw [wp_ret]
  imodintro
  iapply hk
  isplitl [HP]; · iexact HP
  iexact HD

end Cert.Mesh

end
-- ==== Proof.Bufs.lean ====
/-
# The buffers before and after

Each of the device's own buffers, whole with anything in it, opens into the pieces that are given away, and the pieces
that come back close it again.
-/
module

public import proofs.«01_k».proof.Proof.Body

@[expose] public section

noncomputable section

namespace Cert.Mesh

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.TcCoe

open X

variable {F : FTy → Type} [FloatOps F]

local notation "𝕄" => MT nD τ sig Unit (Elt F) ℕ UU ℕ

variable (av : Dev nD → Vec F S2048x1024 .bf16) (bv : Dev nD → Vec F S1024x2048 .bf16)

section Nest
variable {S : Shape} {M : Memref sig .tc .vmem S .bf16} {c : Dev nD}

omit [FloatOps F] in
theorem any_nest {o₁ s₁ o s₂ o₂ : Fin S.rank → ℕ} {i₁ : ∀ a, o₁ a + s₁ a ≤ S.size a} {h₁ : ∀ a, (Rect.unit o₁ s₁ i₁).stride a = 1}
    {i : ∀ a, o a + s₂ a ≤ (⟨S.rank, s₁⟩ : Shape).size a} {h : ∀ a, (Rect.unit (s := ⟨S.rank, s₁⟩) o s₂ i).stride a = 1}
    {i₂ : ∀ a, o₂ a + s₂ a ≤ S.size a} {h₂ : ∀ a, (Rect.unit o₂ s₂ i₂).stride a = 1} (ho : ∀ a, o₂ a = o₁ a + o a) :
    (any c ((M.slice (Rect.unit o₁ s₁ i₁) h₁).slice (Rect.unit (s := ⟨S.rank, s₁⟩) o s₂ i) h) : sProp 𝕄)
      = any c (M.slice (Rect.unit o₂ s₂ i₂) h₂) := by
  unfold any
  exact congrArg BIBase.exists (funext fun Y => has_nest ho Y)
end Nest

section Squeeze
variable {c : Dev nD} {M : Memref sig .tc .vmem S1x128x1024 .bf16}

omit [FloatOps F] in
theorem any_down : (any c M : sProp 𝕄) ⊢ any c (M.squeeze S128x1024 squeezes_S1x128x1024_S128x1024) := by
  unfold any
  iintro ⟨%Y, H⟩
  iexists _
  iapply (has_down Y) $$ H
omit [FloatOps F] in
theorem any_up : (any c (M.squeeze S128x1024 squeezes_S1x128x1024_S128x1024) : sProp 𝕄) ⊢ any c M := by
  unfold any
  iintro ⟨%Y, H⟩
  iexists _
  iapply (has_up Y) $$ H
end Squeeze

variable (c : Dev nD)

/-! ## The local product -/

omit [FloatOps F] in
theorem half_any (r : Fin 16) (d : Bool) : (any c ((accS r).slice (rHalf d) (fun _ => rfl)) : sProp 𝕄) = any c (accB r d) :=
  any_nest (M := accM) (o₁ := ![128 * r.val, 0]) (s₁ := S128x2048.size) (o := ![0, 1024 * d.toNat]) (s₂ := S128x1024.size)
    (o₂ := ![128 * r.val, 1024 * d.toNat]) (fun a => by
      match a with
      | ⟨0, _⟩ => rfl
      | ⟨1, _⟩ => exact (Nat.zero_add _).symm)
omit [FloatOps F] in
theorem slabOf_any (a t : Fin 4) : (any c ((accQ a).slice (rSlabOf t) (fun _ => rfl)) : sProp 𝕄) = any c (accS (row a t)) :=
  any_nest (M := accM) (o₁ := ![512 * a.val, 0]) (s₁ := S512x2048.size) (o := ![128 * t.val, 0]) (s₂ := S128x2048.size)
    (o₂ := ![128 * (row a t).val, 0]) (fun x => by
      match x with
      | ⟨0, _⟩ => show 128 * (4 * a.val + t.val) = 512 * a.val + 128 * t.val; omega
      | ⟨1, _⟩ => rfl)

theorem slab_join (r : Fin 16) : (bigSep Finset.univ fun d => any c (accB r d)) ⊢ (any c (accS r) : sProp 𝕄) :=
  (bigSep_mono fun d _ => Entails.of_eq (half_any (F := F) c r d).symm).trans (any_join rHalf (fun _ _ => rfl) half_disj half_cov)
omit [FloatOps F] in
theorem quart_split (a : Fin 4) : (any c (accQ a) : sProp 𝕄) ⊢ bigSep Finset.univ fun t => any c (accS (row a t)) :=
  BIBase.Entails.trans (any_split rSlabOf (fun _ _ => rfl) slabOf_disj slabOf_cov) (bigSep_mono fun t _ => Entails.of_eq (slabOf_any (F := F) c a t))
theorem quart_join (a : Fin 4) : (bigSep Finset.univ fun t => any c (accS (row a t))) ⊢ (any c (accQ a) : sProp 𝕄) :=
  (bigSep_mono fun t _ => Entails.of_eq (slabOf_any (F := F) c a t).symm).trans (any_join rSlabOf (fun _ _ => rfl) slabOf_disj slabOf_cov)

omit [FloatOps F] in
theorem list_quarts (q : Fin 4) (Φ : Fin 4 → sProp 𝕄) : bigSep Finset.univ Φ = iprop(Φ q ∗ Φ (q + 2) ∗ Φ (q + 1) ∗ Φ (q + 3)) :=
  bigSep_univ_eq_bigSepL [q, q + 2, q + 1, q + 3] ((by decide : ∀ q : Fin 4, Finset.univ = [q, q + 2, q + 1, q + 3].toFinset) q)
    ((by decide : ∀ q : Fin 4, [q, q + 2, q + 1, q + 3].Nodup) q) Φ
omit [FloatOps F] in
theorem list_slabs (p : Fin 4) (Φ : Fin 4 → sProp 𝕄) : bigSep Finset.univ Φ = iprop(Φ p ∗ Φ (p + 3) ∗ Φ (p + 1) ∗ Φ (p + 2)) :=
  bigSep_univ_eq_bigSepL [p, p + 3, p + 1, p + 2] ((by decide : ∀ q : Fin 4, Finset.univ = [q, q + 3, q + 1, q + 2].toFinset) p)
    ((by decide : ∀ q : Fin 4, [q, q + 3, q + 1, q + 2].Nodup) p) Φ

omit [FloatOps F] in
theorem blank_of (a : Fin 4) : (any c (accQ a) : sProp 𝕄) ⊢ blankS c a := by
  refine BIBase.Entails.trans (quart_split c a) (Entails.of_eq ?_)
  rw [list_slabs (px c)]; rfl
theorem of_blank (a : Fin 4) : (blankS c a : sProp 𝕄) ⊢ any c (accQ a) := by
  refine BIBase.Entails.trans (Entails.of_eq ?_) (quart_join c a)
  rw [list_slabs (px c)]; rfl

omit [FloatOps F] in
theorem acc_open : (any c accM : sProp 𝕄) ⊢ iprop(blankS c (qx c) ∗ blankS c (qx c + 2) ∗ any c (accQ (qx c + 1)) ∗ any c (accQ (qx c + 3))) := by
  refine BIBase.Entails.trans (any_split rQuart (fun _ _ => rfl) quart_disj quart_cov) ?_
  rw [list_quarts (qx c)]
  iintro ⟨H0, H2, H1, H3⟩
  isplitl [H0]; · iapply (blank_of (F := F) c (qx c)) $$ H0
  isplitl [H2]; · iapply (blank_of (F := F) c (qx c + 2)) $$ H2
  isplitl [H1] <;> iassumption

/-- Hop `h`'s transfers of the reduction along the row. -/
def chain (h : Fin 3) (d : Bool) : List X := [pa 0 h d, pa 1 h d, pa 2 h d, pa 3 h d]

theorem first_any (j : Fin 4) (d : Bool) : sendPay av bv (pa j 0 d) c ⊢ any c (accB (row (qx c) (slab d j c)) d) := by
  have h : sM (pa j 0 d) c = accB (row (qx c) (slab d j c)) d := by
    show accB (row (quarter d 0 c) (slab d j c)) d = _
    rw [(by decide +kernel : ∀ d c, quarter d 0 c = qx c) d c]
  unfold sendPay
  rw [h]
  exact any_intro c _ _

theorem first_quart : iprop(bigSepL (chain 0 false) (fun x => sendPay av bv x c) ∗ bigSepL (chain 0 true) (fun x => sendPay av bv x c))
    ⊢ any c (accQ (qx c)) := by
  refine BIBase.Entails.trans ?_ (quart_join c (qx c))
  refine BIBase.Entails.trans ?_ (bigSep_mono fun t _ => slab_join (F := F) c (row (qx c) t))
  rw [← bigSep_univ_prod (fun t : Fin 4 × Bool => (any c (accB (row (qx c) t.1) t.2) : sProp 𝕄)),
    bigSep_univ_eq_bigSepL ([(slab false 0 c, false), (slab false 1 c, false), (slab false 2 c, false), (slab false 3 c, false),
        (slab true 0 c, true), (slab true 1 c, true), (slab true 2 c, true), (slab true 3 c, true)] : List (Fin 4 × Bool))
      ((by decide +kernel : ∀ c, Finset.univ = ([(slab false 0 c, false), (slab false 1 c, false), (slab false 2 c, false), (slab false 3 c, false),
        (slab true 0 c, true), (slab true 1 c, true), (slab true 2 c, true), (slab true 3 c, true)] : List (Fin 4 × Bool)).toFinset) c)
      ((by decide +kernel : ∀ c, ([(slab false 0 c, false), (slab false 1 c, false), (slab false 2 c, false), (slab false 3 c, false),
        (slab true 0 c, true), (slab true 1 c, true), (slab true 2 c, true), (slab true 3 c, true)] : List (Fin 4 × Bool)).Nodup) c)]
  change _ ⊢ iprop(any c (accB (row (qx c) (slab false 0 c)) false) ∗ any c (accB (row (qx c) (slab false 1 c)) false) ∗ any c (accB (row (qx c) (slab false 2 c)) false) ∗ any c (accB (row (qx c) (slab false 3 c)) false) ∗ any c (accB (row (qx c) (slab true 0 c)) true) ∗ any c (accB (row (qx c) (slab true 1 c)) true) ∗ any c (accB (row (qx c) (slab true 2 c)) true) ∗ any c (accB (row (qx c) (slab true 3 c)) true))
  show iprop((sendPay av bv (pa 0 0 false) c ∗ sendPay av bv (pa 1 0 false) c ∗ sendPay av bv (pa 2 0 false) c ∗ sendPay av bv (pa 3 0 false) c)
    ∗ sendPay av bv (pa 0 0 true) c ∗ sendPay av bv (pa 1 0 true) c ∗ sendPay av bv (pa 2 0 true) c ∗ sendPay av bv (pa 3 0 true) c) ⊢ _
  iintro ⟨⟨H1, H2, H3, H4⟩, H5, H6, H7, H8⟩
  isplitl [H1]; · iapply (first_any av bv c 0 false) $$ H1
  isplitl [H2]; · iapply (first_any av bv c 1 false) $$ H2
  isplitl [H3]; · iapply (first_any av bv c 2 false) $$ H3
  isplitl [H4]; · iapply (first_any av bv c 3 false) $$ H4
  isplitl [H5]; · iapply (first_any av bv c 0 true) $$ H5
  isplitl [H6]; · iapply (first_any av bv c 1 true) $$ H6
  isplitl [H7]; · iapply (first_any av bv c 2 true) $$ H7
  iapply (first_any av bv c 3 true) $$ H8

theorem acc_close : iprop((bigSepL (chain 0 false) (fun x => sendPay av bv x c) ∗ bigSepL (chain 0 true) (fun x => sendPay av bv x c))
      ∗ (slabR av bv c (row (qx c + 2) (px c)) ∗ slabR av bv c (row (qx c + 2) (px c + 3)) ∗ slabR av bv c (row (qx c + 2) (px c + 1)) ∗ slabR av bv c (row (qx c + 2) (px c + 2)))
      ∗ quartR av bv c (qx c + 1) ∗ quartR av bv c (qx c + 3)) ⊢ any c accM := by
  refine BIBase.Entails.trans ?_ (any_join rQuart (fun _ _ => rfl) quart_disj quart_cov)
  rw [list_quarts (qx c)]
  unfold slabR quartR
  iintro ⟨H0, ⟨S0, S3, S1, S2⟩, H1, H3⟩
  isplitl [H0]; · iapply (first_quart av bv c) $$ H0
  isplitl [S0 S1 S2 S3]
  · iapply (of_blank (F := F) c (qx c + 2))
    unfold blankS
    isplitl [S0]; · iapply (any_intro c _ _) $$ S0
    isplitl [S3]; · iapply (any_intro c _ _) $$ S3
    isplitl [S1]; · iapply (any_intro c _ _) $$ S1
    iapply (any_intro c _ _) $$ S2
  isplitl [H1]; · iapply (any_intro c _ _) $$ H1
  iapply (any_intro c _ _) $$ H3

/-! ## The row buffers -/

/-- One plane of a row buffer, in the order in which the four chains use it. -/
def plane (h : Fin 4) (d : Bool) : sProp 𝕄 :=
  iprop(any c (pbB d h (slab d 0 c)) ∗ any c (pbB d h (slab d 1 c)) ∗ any c (pbB d h (slab d 2 c)) ∗ any c (pbB d h (slab d 3 c)))

omit [FloatOps F] in
theorem plane_eq (h : Fin 4) (d : Bool) : (bigSep Finset.univ fun t => any c (pbB d h t)) = (plane c h d : sProp 𝕄) :=
  bigSep_univ_eq_bigSepL [slab d 0 c, slab d 1 c, slab d 2 c, slab d 3 c]
    ((by decide +kernel : ∀ d c, Finset.univ = [slab d 0 c, slab d 1 c, slab d 2 c, slab d 3 c].toFinset) d c)
    ((by decide +kernel : ∀ d c, [slab d 0 c, slab d 1 c, slab d 2 c, slab d 3 c].Nodup) d c) _

omit [FloatOps F] in
theorem planes_eq (d : Bool) : (bigSep Finset.univ fun t : Fin 4 × Fin 4 => any c (pbB d t.1 t.2))
    = (iprop(plane c 0 d ∗ plane c 1 d ∗ plane c 2 d ∗ plane c 3 d) : sProp 𝕄) := by
  rw [bigSep_univ_prod, bigSep_congr fun h _ => plane_eq c h d]
  exact bigSep_univ_eq_bigSepL [0, 1, 2, 3] (by decide) (by decide) _

omit [FloatOps F] in
theorem pb_open (d : Bool) : (any c (pb d) : sProp 𝕄) ⊢ iprop(plane c 0 d ∗ plane c 1 d ∗ plane c 2 d ∗ plane c 3 d) := by
  rw [← planes_eq]
  refine BIBase.Entails.trans (any_split (fun t : Fin 4 × Fin 4 => rPlane t.1 t.2) (fun _ _ => rfl) plane_disj plane_cov) (bigSep_mono fun t _ => ?_)
  exact any_down
theorem pb_close (d : Bool) : iprop(plane c 0 d ∗ plane c 1 d ∗ plane c 2 d ∗ plane c 3 d) ⊢ (any c (pb d) : sProp 𝕄) := by
  rw [← planes_eq]
  refine BIBase.Entails.trans (bigSep_mono fun t _ => ?_) (any_join (fun t : Fin 4 × Fin 4 => rPlane t.1 t.2) (fun _ _ => rfl) plane_disj plane_cov)
  exact any_up

omit [FloatOps F] in
theorem land_pa (j : Fin 4) (h : Fin 3) (d : Bool) : (land (pa j h d) c : sProp 𝕄) = any c (pbB d h.castSucc (slab d j c)) := by
  show iprop(∃ Y : BV F, has c (pbB d h.castSucc (slab d j (pred d c))) fullShare Y) = _
  rw [slab_pred]; rfl
omit [FloatOps F] in
theorem chain_land (h : Fin 3) (d : Bool) : (plane c h.castSucc d : sProp 𝕄) = bigSepL (chain h d) fun x => land x c := by
  show _ = iprop(land (pa 0 h d) c ∗ land (pa 1 h d) c ∗ land (pa 2 h d) c ∗ land (pa 3 h d) c)
  unfold plane
  simp only [land_pa]
theorem chain_one (d : Bool) : (bigSepL (chain 1 d) fun x => sendPay av bv x c) ⊢ plane c 0 d := by
  show iprop(has c (pbB d 0 (slab d 0 c)) fullShare _ ∗ has c (pbB d 0 (slab d 1 c)) fullShare _ ∗ has c (pbB d 0 (slab d 2 c)) fullShare _ ∗ has c (pbB d 0 (slab d 3 c)) fullShare _) ⊢ _
  unfold plane
  iintro ⟨H0, H1, H2, H3⟩
  isplitl [H0]; · iapply (any_intro c _ _) $$ H0
  isplitl [H1]; · iapply (any_intro c _ _) $$ H1
  isplitl [H2]; · iapply (any_intro c _ _) $$ H2
  iapply (any_intro c _ _) $$ H3
theorem chain_two (d : Bool) : (bigSepL (chain 2 d) fun x => sendPay av bv x c) ⊢ plane c 1 d := by
  show iprop(has c (pbB d 1 (slab d 0 c)) fullShare _ ∗ has c (pbB d 1 (slab d 1 c)) fullShare _ ∗ has c (pbB d 1 (slab d 2 c)) fullShare _ ∗ has c (pbB d 1 (slab d 3 c)) fullShare _) ⊢ _
  unfold plane
  iintro ⟨H0, H1, H2, H3⟩
  isplitl [H0]; · iapply (any_intro c _ _) $$ H0
  isplitl [H1]; · iapply (any_intro c _ _) $$ H1
  isplitl [H2]; · iapply (any_intro c _ _) $$ H2
  iapply (any_intro c _ _) $$ H3

/-! ## The column buffers -/

/-- The transfers of the reduction along the column. -/
def cols (d : Bool) : List X := [zr 0 d, zr 1 d, zr 2 d]

omit [FloatOps F] in
theorem slots_eq (d : Bool) : (bigSep Finset.univ fun s => any c (zbB d s)) = (iprop(any c (zbB d 0) ∗ any c (zbB d 1) ∗ any c (zbB d 2) ∗ any c (zbB d 3)) : sProp 𝕄) :=
  bigSep_univ_eq_bigSepL [0, 1, 2, 3] (by decide) (by decide) _

omit [FloatOps F] in
theorem zb_open (d : Bool) : (any c (zb d) : sProp 𝕄) ⊢ iprop(bigSepL (cols d) (fun x => land x c) ∗ any c (zbB d 3)) := by
  refine BIBase.Entails.trans (any_split rSlot (fun _ _ => rfl) slot_disj slot_cov) ?_
  refine BIBase.Entails.trans (bigSep_mono (Ψ := fun s => any c (zbB d s)) fun t _ => ?_) ?_
  · exact any_down
  rw [slots_eq]
  show _ ⊢ iprop((any c (zbB d 0) ∗ any c (zbB d 1) ∗ any c (zbB d 2)) ∗ any c (zbB d 3))
  iintro ⟨H0, H1, H2, H3⟩
  isplitr [H3]
  · isplitl [H0]; · iexact H0
    isplitl [H1] <;> iassumption
  · iexact H3
theorem zb_close (d : Bool) : iprop(bigSepL (cols d) (fun x => sendPay av bv x c) ∗ any c (zbB d 2)) ⊢ any c (zb d) := by
  refine BIBase.Entails.trans ?_ (any_join rSlot (fun _ _ => rfl) slot_disj slot_cov)
  refine BIBase.Entails.trans ?_ (bigSep_mono (Φ := fun s => any c (zbB d s)) fun t _ => ?_)
  · rw [slots_eq]
    show iprop((has c (zbB d 3) fullShare _ ∗ has c (zbB d 0) fullShare _ ∗ has c (zbB d 1) fullShare _) ∗ any c (zbB d 2)) ⊢ _
    iintro ⟨⟨H3, H0, H1⟩, H2⟩
    isplitl [H0]; · iapply (any_intro c _ _) $$ H0
    isplitl [H1]; · iapply (any_intro c _ _) $$ H1
    isplitl [H2]; · iexact H2
    iapply (any_intro c _ _) $$ H3
  · exact any_up

end Cert.Mesh

end
-- ==== Proof.Outs.lean ====
/-
# The result's blocks

The result opens into the device's own two blocks and the thirty that arrive. Once all departures are known, every share of
a block is back, and the blocks close to the whole result at its final contents.
-/
module

public import proofs.«01_k».proof.Proof.Bufs

@[expose] public section

noncomputable section

namespace Cert.Mesh

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.TcCoe

open X

variable {F : FTy → Type} [FloatOps F]

local notation "𝕄" => MT nD τ sig Unit (Elt F) ℕ UU ℕ

variable (av : Dev nD → Vec F S2048x1024 .bf16) (bv : Dev nD → Vec F S1024x2048 .bf16)

variable (c : Dev nD)

/-- The transfers of the broadcasts of a direction, -/
def outs (d : Bool) : List X :=
  [za 0 d, za 1 d, za 2 d, pg 0 0 d, pg 0 1 d, pg 0 2 d, pg 1 0 d, pg 1 1 d, pg 1 2 d, pg 2 0 d, pg 2 1 d, pg 2 2 d, pg 3 0 d, pg 3 1 d, pg 3 2 d]
/-- and where the block that one brings sits, with its direction. -/
def spot : X → Dev nD → Fin 16 × Bool
  | za s d, c => (oRow d (blk (za s d) (zpred d c)), d)
  | pg r h d, c => (oRow d (blk (pg r h d) (sndr (pg r h d) c)), d)
  | _, _ => (0, false)
/-- All blocks of the result: the device's own, and those that arrive. -/
def spots : List (Fin 16 × Bool) :=
  (oRow false c, false) :: (oRow true c, true) :: (outs false ++ outs true).map fun x => spot x c

theorem spots_nodup : (spots c).Nodup := by revert c; decide +kernel
theorem spots_univ : (Finset.univ : Finset (Fin 16 × Bool)) = (spots c).toFinset := by revert c; decide +kernel

omit [FloatOps F] in
theorem spots_eq (Φ : Fin 16 × Bool → sProp 𝕄) : bigSep Finset.univ Φ
    = iprop(Φ (oRow false c, false) ∗ Φ (oRow true c, true) ∗ bigSepL (outs false) (fun x => Φ (spot x c)) ∗ bigSepL (outs true) (fun x => Φ (spot x c))) := by
  rw [bigSep_univ_eq_bigSepL (spots c) (spots_univ c) (spots_nodup c), spots, bigSepL_cons', bigSepL_cons', bigSepL_map, bigSepL_append]

omit [FloatOps F] in
theorem out_open : (any c outM : sProp 𝕄) ⊢ iprop(any c (outE false c) ∗ any c (outE true c)
    ∗ bigSepL (outs false) (fun x => land x c) ∗ bigSepL (outs true) (fun x => land x c)) := by
  refine BIBase.Entails.trans (any_split (fun t : Fin 16 × Bool => rBlock t.1 t.2) (fun _ _ => rfl) block_disj block_cov) ?_
  rw [spots_eq c]
  exact .rfl

/-- A block of the result at the place it has there. -/
theorem block_at (d : Bool) (e : Dev nD) : piece av bv c d e fullShare
    = has c (outB (oRow d e) d) fullShare (fun j => outV av bv ((rBlock (oRow d e) d).emb j)) := by
  unfold piece
  congr 1
  funext j
  exact (outV_emb av bv d e j).symm

theorem arrived (d : Bool) : (bigSepL (outs d) fun x => recvPay av bv x c)
    ⊢ bigSepL (outs d) fun x => has c (outB (spot x c).1 (spot x c).2) fullShare (fun j => outV av bv ((rBlock (spot x c).1 (spot x c).2).emb j)) :=
  bigSepL_mono fun x hx => by
    cases x with
    | za s d' => rw [recv_za]; exact Entails.of_eq (block_at av bv c d' _)
    | pg r h d' => rw [recv_pg]; exact Entails.of_eq (block_at av bv c d' _)
    | pa j h d' => exact absurd hx (by revert d j h d'; decide +kernel)
    | zr s d' => exact absurd hx (by revert d s d'; decide +kernel)

theorem out_close : iprop(piece av bv c false c fullShare ∗ piece av bv c true c fullShare
      ∗ bigSepL (outs false) (fun x => recvPay av bv x c) ∗ bigSepL (outs true) (fun x => recvPay av bv x c))
    ⊢ has c outM fullShare (outV av bv) := by
  refine BIBase.Entails.trans ?_ (owns_of_rects (c : Thread nD τ) outM fullShare (fun t : Fin 16 × Bool => rBlock t.1 t.2) (fun _ _ => rfl) block_disj block_cov (outV av bv))
  rw [spots_eq c, block_at, block_at]
  iintro ⟨H0, H1, H2, H3⟩
  isplitl [H0]; · iexact H0
  isplitl [H1]; · iexact H1
  isplitl [H2]; · iapply (arrived av bv c false) $$ H2
  iapply (arrived av bv c true) $$ H3

set_option maxHeartbeats 1000000 in
/-- All shares are back: what was sent on is what had arrived. -/
theorem back (d : Bool) :
    iprop(bigSepL (outs d) (fun x => sendPay av bv x c) ∗ recvPay av bv (pg 0 2 d) c ∗ recvPay av bv (pg 1 2 d) c ∗ recvPay av bv (pg 2 2 d) c ∗ recvPay av bv (pg 3 0 d) c ∗ recvPay av bv (pg 3 1 d) c ∗ recvPay av bv (pg 3 2 d) c)
      ⊢ iprop(piece av bv c d c fullShare ∗ bigSepL (outs d) (fun x => recvPay av bv x c)) := by
  change iprop((sendPay av bv (za 0 d) c ∗ sendPay av bv (za 1 d) c ∗ sendPay av bv (za 2 d) c ∗ sendPay av bv (pg 0 0 d) c ∗ sendPay av bv (pg 0 1 d) c ∗ sendPay av bv (pg 0 2 d) c ∗ sendPay av bv (pg 1 0 d) c ∗ sendPay av bv (pg 1 1 d) c ∗ sendPay av bv (pg 1 2 d) c ∗ sendPay av bv (pg 2 0 d) c ∗ sendPay av bv (pg 2 1 d) c ∗ sendPay av bv (pg 2 2 d) c ∗ sendPay av bv (pg 3 0 d) c ∗ sendPay av bv (pg 3 1 d) c ∗ sendPay av bv (pg 3 2 d) c)
    ∗ recvPay av bv (pg 0 2 d) c ∗ recvPay av bv (pg 1 2 d) c ∗ recvPay av bv (pg 2 2 d) c ∗ recvPay av bv (pg 3 0 d) c ∗ recvPay av bv (pg 3 1 d) c ∗ recvPay av bv (pg 3 2 d) c)
      ⊢ iprop(piece av bv c d c fullShare ∗ recvPay av bv (za 0 d) c ∗ recvPay av bv (za 1 d) c ∗ recvPay av bv (za 2 d) c ∗ recvPay av bv (pg 0 0 d) c ∗ recvPay av bv (pg 0 1 d) c ∗ recvPay av bv (pg 0 2 d) c ∗ recvPay av bv (pg 1 0 d) c ∗ recvPay av bv (pg 1 1 d) c ∗ recvPay av bv (pg 1 2 d) c ∗ recvPay av bv (pg 2 0 d) c ∗ recvPay av bv (pg 2 1 d) c ∗ recvPay av bv (pg 2 2 d) c ∗ recvPay av bv (pg 3 0 d) c ∗ recvPay av bv (pg 3 1 d) c ∗ recvPay av bv (pg 3 2 d) c)
  iintro ⟨⟨Z0, Z1, Z2, G00, G01, G02, G10, G11, G12, G20, G21, G22, G30, G31, G32⟩, K02, K12, K22, K30, K31, K32⟩
  isplitl [Z0 G00]; · rw [own_two]; isplitl [Z0] <;> iassumption
  isplitl [Z1 G10]
  · iapply (Entails.of_eq (za_two av bv 0 1 1 rfl rfl d c).symm)
    isplitl [Z1]; · iexact Z1
    iexact G10
  isplitl [Z2 G20]
  · iapply (Entails.of_eq (za_two av bv 1 2 2 rfl rfl d c).symm)
    isplitl [Z2]; · iexact Z2
    iexact G20
  isplitl [G30 G31 G32]
  · iapply (Entails.of_eq (za_three av bv d c).symm)
    isplitl [G30]; · iexact G30
    isplitl [G31]; · iexact G31
    iexact G32
  isplitl [G01]
  · iapply (Entails.of_eq (pg_one av bv 0 (by decide) 0 1 rfl d c).symm)
    iexact G01
  isplitl [G02]
  · iapply (Entails.of_eq (pg_one av bv 0 (by decide) 1 2 rfl d c).symm)
    iexact G02
  isplitl [K02]; · iexact K02
  isplitl [G11]
  · iapply (Entails.of_eq (pg_one av bv 1 (by decide) 0 1 rfl d c).symm)
    iexact G11
  isplitl [G12]
  · iapply (Entails.of_eq (pg_one av bv 1 (by decide) 1 2 rfl d c).symm)
    iexact G12
  isplitl [K12]; · iexact K12
  isplitl [G21]
  · iapply (Entails.of_eq (pg_one av bv 2 (by decide) 0 1 rfl d c).symm)
    iexact G21
  isplitl [G22]
  · iapply (Entails.of_eq (pg_one av bv 2 (by decide) 1 2 rfl d c).symm)
    iexact G22
  isplitl [K22]; · iexact K22
  isplitl [K30]; · iexact K30
  isplitl [K31]; · iexact K31
  iexact K32

end Cert.Mesh

end
-- ==== Proof.Whole.lean ====
/-
# The device's buffers around the body

What a device enters the kernel with gives the landing places of all its arrivals and the pieces its own work needs; what it
holds once every departure is known is its operands, the result at its final contents and its buffers whole.
-/
module

public import proofs.«01_k».proof.Proof.Outs

@[expose] public section

noncomputable section

namespace Cert.Mesh

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.TcCoe

open X

variable {F : FTy → Type} [FloatOps F]

local notation "𝕄" => MT nD τ sig Unit (Elt F) ℕ UU ℕ

variable (av : Dev nD → Vec F S2048x1024 .bf16) (bv : Dev nD → Vec F S1024x2048 .bf16)

/-- All transfers, by what they are for. -/
def kinds : List X :=
  chain 0 false ++ (chain 0 true ++ (chain 1 false ++ (chain 1 true ++ (chain 2 false ++ (chain 2 true ++ (cols false ++ (cols true ++ (outs false ++ (outs true)))))))))

theorem kinds_perm : order.Perm kinds := by decide +kernel

omit [FloatOps F] in
theorem by_kind (Φ : X → sProp 𝕄) : bigSepL order Φ = iprop(bigSepL (chain 0 false) Φ ∗ bigSepL (chain 0 true) Φ ∗ bigSepL (chain 1 false) Φ ∗ bigSepL (chain 1 true) Φ ∗ bigSepL (chain 2 false) Φ ∗ bigSepL (chain 2 true) Φ ∗ bigSepL (cols false) Φ ∗ bigSepL (cols true) Φ ∗ bigSepL (outs false) Φ ∗ bigSepL (outs true) Φ) := by
  rw [TalkSites.bigSepL_perm kinds_perm order_nodup, kinds]
  simp only [bigSepL_append]

variable (c : Dev nD)

/-- The device's own buffers, with anything in them. -/
def scratch : sProp 𝕄 := iprop(any c accM ∗ any c (pb false) ∗ any c (pb true) ∗ any c (zb false) ∗ any c (zb true))

/-- The planes of the row buffers that nothing lands in. -/
def spare : sProp 𝕄 := iprop(plane c 3 false ∗ plane c 3 true)

set_option maxHeartbeats 1000000 in
theorem opened : iprop(scratch c ∗ any c outM ∗ opA av c ∗ opB bv c)
    ⊢ iprop(bigSepL order (fun x => land x c) ∗ Ini av bv c ∗ spare c) := by
  rw [by_kind]
  unfold scratch Ini spare
  iintro ⟨⟨HS, HP0, HP1, HZ0, HZ1⟩, HO, HA, HB⟩
  ihave HS := acc_open (F := F) c $$ HS
  icases HS with ⟨S0, S2, S1, S3⟩
  ihave HP0 := pb_open (F := F) c false $$ HP0
  icases HP0 with ⟨A0, B0, C0, D0⟩
  ihave HP1 := pb_open (F := F) c true $$ HP1
  icases HP1 with ⟨A1, B1, C1, D1⟩
  ihave HZ0 := zb_open (F := F) c false $$ HZ0
  icases HZ0 with ⟨Z0, Y0⟩
  ihave HZ1 := zb_open (F := F) c true $$ HZ1
  icases HZ1 with ⟨Z1, Y1⟩
  ihave HO := out_open (F := F) c $$ HO
  icases HO with ⟨E0, E1, O0, O1⟩
  isplitl [A0 A1 B0 B1 C0 C1 Z0 Z1 O0 O1]
  · isplitl [A0]; · iapply (Entails.of_eq (chain_land (F := F) c 0 false)); iexact A0
    isplitl [A1]; · iapply (Entails.of_eq (chain_land (F := F) c 0 true)); iexact A1
    isplitl [B0]; · iapply (Entails.of_eq (chain_land (F := F) c 1 false)); iexact B0
    isplitl [B1]; · iapply (Entails.of_eq (chain_land (F := F) c 1 true)); iexact B1
    isplitl [C0]; · iapply (Entails.of_eq (chain_land (F := F) c 2 false)); iexact C0
    isplitl [C1]; · iapply (Entails.of_eq (chain_land (F := F) c 2 true)); iexact C1
    isplitl [Z0]; · iexact Z0
    isplitl [Z1]; · iexact Z1
    isplitl [O0]; · iexact O0
    iexact O1

  isplitr [D0 D1]
  · isplitl [HA]; · iexact HA
    isplitl [HB]; · iexact HB
    isplitl [S0]; · iexact S0
    isplitl [S2]; · iexact S2
    isplitl [S1]; · iexact S1
    isplitl [S3]; · iexact S3
    isplitl [Y0]; · iexact Y0
    isplitl [Y1]; · iexact Y1
    isplitl [E0]; · iexact E0
    iexact E1

  isplitl [D0]; · iexact D0
  iexact D1

/-- What the device ends with, besides its cells. -/
def ending : sProp 𝕄 := iprop(scratch c ∗ has c outM fullShare (outV av bv) ∗ opA av c ∗ opB bv c)

set_option maxHeartbeats 2000000 in
theorem closed : iprop(bigSepL order (fun x => sendPay av bv x c) ∗ Left av bv c ∗ spare c)
    ⊢ iprop(ending av bv c ∗ semVal (barCell c) 0) := by
  rw [by_kind]
  unfold Left spare ending scratch
  iintro ⟨⟨A0, A1, B0, B1, C0, C1, Z0, Z1, O0, O1⟩, ⟨K02f, K02t, K12f, K12t, K22f, K22t, K30f, K30t, K31f, K31t, K32f, K32t, Q1, Q3, P02, P12, P03, P13, Y0, Y1, S1, S3, P01, P11, S2, P00, P10, HA, HB, S0, SV⟩, D0, D1⟩
  ihave W0 := back av bv c false $$ [O0 K02f K12f K22f K30f K31f K32f]
  · isplitl [O0]; · iexact O0
    isplitl [K02f]; · iexact K02f
    isplitl [K12f]; · iexact K12f
    isplitl [K22f]; · iexact K22f
    isplitl [K30f]; · iexact K30f
    isplitl [K31f]; · iexact K31f
    iexact K32f

  icases W0 with ⟨E0, R0⟩
  ihave W1 := back av bv c true $$ [O1 K02t K12t K22t K30t K31t K32t]
  · isplitl [O1]; · iexact O1
    isplitl [K02t]; · iexact K02t
    isplitl [K12t]; · iexact K12t
    isplitl [K22t]; · iexact K22t
    isplitl [K30t]; · iexact K30t
    isplitl [K31t]; · iexact K31t
    iexact K32t

  icases W1 with ⟨E1, R1⟩
  isplitr [SV]
  · isplitl [A0 A1 B0 B1 C0 C1 D0 D1 Z0 Z1 Y0 Y1 P00 P01 P02 P03 P10 P11 P12 P13 S0 S1 S2 S3 Q1 Q3]
    · isplitl [A0 A1 S0 S1 S2 S3 Q1 Q3]
      · iapply (acc_close av bv c)
        isplitl [A0 A1]; · isplitl [A0] <;> iassumption
        isplitl [S0 S1 S2 S3]
        · isplitl [S0]; · iexact S0
          isplitl [S3]; · iexact S3
          isplitl [S1]; · iexact S1
          iexact S2

        isplitl [Q1] <;> iassumption
      isplitl [B0 C0 D0 P00 P01 P02 P03]
      · iapply (pb_close (F := F) c false)
        isplitl [B0]; · iapply (chain_one av bv c false) $$ B0
        isplitl [C0]; · iapply (chain_two av bv c false) $$ C0
        isplitr [D0]
        · unfold plane
          isplitl [P00]; · iexact P00
          isplitl [P01]; · iexact P01
          isplitl [P02]; · iexact P02
          iexact P03

        iexact D0
      isplitl [B1 C1 D1 P10 P11 P12 P13]
      · iapply (pb_close (F := F) c true)
        isplitl [B1]; · iapply (chain_one av bv c true) $$ B1
        isplitl [C1]; · iapply (chain_two av bv c true) $$ C1
        isplitr [D1]
        · unfold plane
          isplitl [P10]; · iexact P10
          isplitl [P11]; · iexact P11
          isplitl [P12]; · iexact P12
          iexact P13

        iexact D1
      isplitl [Z0 Y0]
      · iapply (zb_close av bv c false)
        isplitl [Z0] <;> iassumption
      iapply (zb_close av bv c true)
      isplitl [Z1] <;> iassumption
    isplitl [E0 E1 R0 R1]
    · iapply (out_close av bv c)
      isplitl [E0]; · iexact E0
      isplitl [E1]; · iexact E1
      isplitl [R0]; · iexact R0
      iexact R1

    isplitl [HA] <;> iassumption
  iexact SV

end Cert.Mesh

end
-- ==== Proof.Deal.lean ====
/-
# What the launch deals out

Every device gets the tokens of the duties it pays: a barrier's from the neighbours it belongs to, an arrival's from the device
the transfer reaches. All cells' invariants are allocated at once and known everywhere.
-/
module

public import proofs.«01_k».proof.Proof.Whole
public import Idealize.ShloMosaic.Lib.Pipeline.Launch
public import Idealize.ShloMosaic.Lib.Pipeline.Kit
public import Idealize.ShloMosaic.Lib.Tactic

@[expose] public section

noncomputable section

namespace Cert.Mesh

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.TcCoe

open X

variable {F : FTy → Type} [FloatOps F]

local notation "𝕄" => MT nD τ sig Unit (Elt F) ℕ UU ℕ

variable (av : Dev nD → Vec F S2048x1024 .bf16) (bv : Dev nD → Vec F S1024x2048 .bf16)

/-! ## The cells of a device, one by one -/

/-- The cell a semaphore is among the kernel's. -/
def kOf : SemLoc sig → KI
  | .reg _ => none
  | .dma s => xOf s
theorem kOf_csem : ∀ k : KI, kOf (csem k) = k
  | none => rfl
  | some (x, false) => xOf_sS x
  | some (x, true) => xOf_rS x
theorem csem_inj : Function.Injective csem := Function.LeftInverse.injective kOf_csem
theorem kcell_inj : Function.Injective kcell := fun a b h => by
  have h1 : a.1 = b.1 := congrArg (fun g : GSem nD τ sig => g.1.1) h
  exact Prod.ext h1 (csem_inj (congrArg Prod.snd h))

/-- Both ends of the transfers, -/
def ends : List (X × Bool) := order.map (fun x => (x, false)) ++ rOrder.map (fun x => (x, true))
theorem mem_ends : ∀ e : X × Bool, e ∈ ends
  | (x, false) => List.mem_append_left _ (List.mem_map.mpr ⟨x, order_complete x, rfl⟩)
  | (x, true) => List.mem_append_right _ (List.mem_map.mpr ⟨x, List.mem_toFinset.mp (univ_rOrder ▸ Finset.mem_univ x), rfl⟩)
theorem ends_univ : (Finset.univ : Finset (X × Bool)) = ends.toFinset :=
  Finset.ext fun e => ⟨fun _ => List.mem_toFinset.mpr (mem_ends e), fun _ => Finset.mem_univ e⟩
theorem ends_nodup : ends.Nodup := by decide +kernel
/-- and all the cells. -/
def cellL : List KI := none :: ends.map some
theorem cellL_univ : (Finset.univ : Finset KI) = cellL.toFinset :=
  Finset.ext fun k => ⟨fun _ => List.mem_toFinset.mpr (by
    cases k with
    | none => exact List.mem_cons_self
    | some e => exact List.mem_cons_of_mem _ (List.mem_map.mpr ⟨e, mem_ends e, rfl⟩)), fun _ => Finset.mem_univ k⟩
theorem cellL_nodup : cellL.Nodup :=
  List.nodup_cons.mpr ⟨fun h => (by obtain ⟨e, -, h⟩ := List.mem_map.mp h; cases h), ends_nodup.map (Option.some_injective _)⟩

omit [FloatOps F] in
theorem ends_eq (Φ : X × Bool → sProp 𝕄) :
    bigSep Finset.univ Φ = iprop(bigSepL order (fun x => Φ (x, false)) ∗ bigSepL rOrder (fun x => Φ (x, true))) := by
  rw [bigSep_univ_eq_bigSepL ends ends_univ ends_nodup, ends, bigSepL_append, bigSepL_map, bigSepL_map]
omit [FloatOps F] in
theorem cells_eq (Φ : KI → sProp 𝕄) : bigSep Finset.univ Φ
    = iprop(Φ none ∗ bigSepL order (fun x => Φ (some (x, false))) ∗ bigSepL rOrder (fun x => Φ (some (x, true)))) := by
  rw [bigSep_univ_eq_bigSepL cellL cellL_univ cellL_nodup, cellL, bigSepL_cons', bigSepL_map, ends, bigSepL_append, bigSepL_map, bigSepL_map]

omit [FloatOps F] in
theorem swap_mid (P Q R S : sProp 𝕄) : iprop((P ∗ Q) ∗ R ∗ S) ⊢ iprop((P ∗ R) ∗ Q ∗ S) := by
  iintro ⟨⟨H1, H2⟩, H3, H4⟩
  isplitl [H1 H3]
  · isplitl [H1] <;> iassumption
  isplitl [H2] <;> iassumption
omit [FloatOps F] in
theorem two {A : Type} (l : List A) (Φ Ψ : A → sProp 𝕄) : (bigSepL l fun x => iprop(Φ x ∗ Ψ x)) = iprop(bigSepL l Φ ∗ bigSepL l Ψ) := by
  induction l with
  | nil => exact (emp_sep_eq _).symm
  | cons x l ih =>
    rw [bigSepL_cons', bigSepL_cons', bigSepL_cons', ih]
    exact equiv_iff.mp ⟨swap_mid _ _ _ _, swap_mid _ _ _ _⟩

/-! ## The tokens -/

/-- The duties of a device's cells. -/
abbrev J := Fin 4 ⊕ (X × Bool)
def tokOf : Dev nD × J → GSem nD τ sig × ℕ × Fin 4
  | (c, .inl e) => (barCell c, 0, e)
  | (c, .inr e) => (kcell (c, some e), 0, 0)
/-- Which duty a token is of. -/
def jOf (t : GSem nD τ sig × ℕ × Fin 4) : J := (kOf t.1.2).elim (.inl t.2.2) .inr
theorem jOf_tokOf : ∀ cj : Dev nD × J, jOf (tokOf cj) = cj.2
  | (c, .inl e) => rfl
  | (c, .inr e) => by show (kOf (csem (some e))).elim _ _ = _; rw [kOf_csem]; rfl
theorem tokOf_dev : ∀ cj : Dev nD × J, (tokOf cj).1.1.1 = cj.1
  | (c, .inl e) => rfl
  | (c, .inr e) => rfl
theorem tokOf_inj : Function.Injective tokOf := fun a b h =>
  Prod.ext ((tokOf_dev a).symm.trans ((congrArg (fun t : GSem nD τ sig × ℕ × Fin 4 => t.1.1.1) h).trans (tokOf_dev b)))
    ((jOf_tokOf a).symm.trans ((congrArg jOf h).trans (jOf_tokOf b)))

def allCells : Finset (GSem nD τ sig) := Finset.univ.map ⟨kcell, kcell_inj⟩
def allToks : Finset (GSem nD τ sig × ℕ × Fin 4) := Finset.univ.map ⟨tokOf, tokOf_inj⟩

def u₀ : UU :=
  (initOf (Pipeline.cells cfgs cellOf_inj) (Pipeline.launchToks cfgs cellOf_inj), initOf allCells allToks)

/-- The tokens of the duties of device `c`'s own cells, -/
def toks (c : Dev nD) : sProp 𝕄 :=
  iprop(bigSepL sigs (fun e => dutyTok ER (barCell c) 0 e) ∗ bigSepL order (fun x => dutyTok ER (sCell x c) 0 0)
    ∗ bigSepL rOrder (fun x => dutyTok ER (rCell x c) 0 0))
/-- and of the duties it pays. -/
def payToks (c : Dev nD) : sProp 𝕄 :=
  iprop(bigSepL sigs (fun e => dutyTok ER (barCell (payee e c)) 0 e) ∗ bigSepL order (fun x => dutyTok ER (sCell x c) 0 0)
    ∗ bigSepL order (fun x => dutyTok ER (rCell x (tgt x c)) 0 0))

omit [FloatOps F] in
/-- A holding of every device, moved around the mesh item by item. -/
theorem moved {A : Type} (l : List A) (e : A → Dev nD ≃ Dev nD) (Φ : A → Dev nD → sProp 𝕄) :
    (bigSep Finset.univ fun c : Dev nD => bigSepL l fun x => Φ x c) = bigSep Finset.univ fun c : Dev nD => bigSepL l fun x => Φ x (e x c) := by
  induction l with
  | nil => rfl
  | cons x l ih =>
    simp only [bigSepL_cons']
    rw [bigSep_sep', bigSep_sep', ih, bigSep_univ_equiv (e x) fun c => Φ x c]

omit [FloatOps F] in
theorem order_r (Φ : X → sProp 𝕄) : bigSepL rOrder Φ = bigSepL order Φ := by
  rw [← bigSep_univ_eq_bigSepL order univ_order order_nodup, ← bigSep_univ_eq_bigSepL rOrder univ_rOrder rOrder_nodup]

omit [FloatOps F] in
theorem dealt : (bigSep Finset.univ fun c : Dev nD => (toks c : sProp 𝕄)) ⊢ bigSep Finset.univ fun c : Dev nD => payToks c := by
  unfold toks payToks
  simp only [order_r]
  rw [bigSep_sep', bigSep_sep', bigSep_sep', bigSep_sep',
    moved sigs pays (fun e c => (dutyTok ER (barCell c) 0 e : sProp 𝕄)), moved order route (fun x c => (dutyTok ER (rCell x c) 0 0 : sProp 𝕄))]
  exact .rfl

/-- What the launch element deals device `c`, -/
def G (c : Dev nD) : sProp 𝕄 :=
  iprop((bigSep Finset.univ fun k : KI => roundState ER (rd av bv) (kcell (c, k)) 0)
    ∗ (bigSep Finset.univ fun k : KI => iprop(atPos ER (kcell (c, k)) 0 ∅ 0 ∗ reached ER (kcell (c, k)) 0)) ∗ toks c)
/-- what of it stays its own, -/
def own1 (c : Dev nD) : sProp 𝕄 := iprop((bigSep Finset.univ fun k : KI => atPos ER (kcell (c, k)) 0 ∅ 0) ∗ payToks c)
/-- what everybody knows, -/
def known (K : Dev nD × KI → ℕ) : sProp 𝕄 :=
  iprop((bigSep Finset.univ fun ck : Dev nD × KI => cellInv ER (rd av bv) (K ck) (kcell ck))
    ∗ (bigSep Finset.univ fun ck : Dev nD × KI => reached ER (kcell ck) 0))
instance known_persistent (K : Dev nD × KI → ℕ) : BI.Persistent (known av bv K) := by unfold known; infer_instance
/-- and what the device has after the allocation. -/
def G' (c : Dev nD) : sProp 𝕄 := iprop(∃ K, known av bv K ∗ own1 c)

theorem funded : BI.own (ER (initOf allCells allToks)) ⊢ (|==> bigSep Finset.univ (G av bv) : sProp 𝕄) := by
  have hX (Φ : GSem nD τ sig → sProp 𝕄) : bigSep allCells Φ = bigSep Finset.univ fun c : Dev nD => bigSep Finset.univ fun k : KI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [BI.bigSep_univ_sum, ends_eq, bigSep_univ_eq_bigSepL sigs (by decide) (by decide)]
    rfl
  iintro HX
  imod (Rounds.fund ER (rd av bv) allCells allToks) $$ HX with ⟨Hst, Hr, Hat, Htok⟩
  imodintro
  ihave Hst' := (Entails.of_eq (hX fun g => roundState ER (rd av bv) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores. -/
abbrev osem : X × Bool → SemLoc sig := fun e => csem (some e)

set_option maxRecDepth 8000 in
theorem ownSemFacts : Pipeline.OwnSemFacts cfg0.spec osem where
  isScoped := by decide +kernel
  inj := fun a b h => Option.some_injective _ (csem_inj h)
  disj := by decide +kernel

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl
omit [FloatOps F] in
theorem ownSems0_eq (c : Dev nD) : (Pipeline.ownSems0 (Ix := Unit) (Name := ℕ) (U := UU) (Lvl := ℕ) (Val := Elt F) (τ := τ) osem c : sProp 𝕄)
    = iprop(bigSepL order (sDone c) ∗ bigSepL rOrder (rDone c)) := by
  unfold Pipeline.ownSems0
  rw [ends_eq]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KI => semVal (kcell (c, k)) 0 : sProp 𝕄) := by
  rw [ownSems0_eq, unscopedSems0_eq, cells_eq]
  iintro ⟨⟨HS, HV⟩, HB⟩
  isplitl [HB]; · iexact HB
  isplitl [HS]; · iexact HS
  iexact HV

/-! ## The allocation -/

theorem alloc_at (c : Dev nD) :
    iprop(Pipeline.ownSems0 (Ix := Unit) (Name := ℕ) (U := UU) (Lvl := ℕ) (Val := Elt F) (τ := τ) osem c ∗ unscopedSems0 c ∗ G av bv c)
      ⊢ |={Set.univ}=> iprop((bigSep Finset.univ fun k : KI => iprop(∃ κ : ℕ, cellInv ER (rd av bv) κ (kcell (c, k))))
          ∗ (bigSep Finset.univ fun k : KI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : KI => semVal (kcell (c, k)) 0) ∗ bigSep Finset.univ fun k : KI => roundState ER (rd av bv) (kcell (c, k)) 0)
      ⊢ (|={Set.univ}=> bigSep Finset.univ fun k : KI => iprop(∃ κ : ℕ, cellInv ER (rd av bv) κ (kcell (c, k))) : sProp 𝕄) from by
        rw [← bigSep_sep']
        exact (bigSep_mono fun k _ => (Rounds.body_intro ER (rd av bv) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem shared :
    (bigSep Finset.univ fun c : Dev nD => iprop((bigSep Finset.univ fun k : KI => iprop(∃ κ : ℕ, cellInv ER (rd av bv) κ (kcell (c, k))))
          ∗ (bigSep Finset.univ fun k : KI => iprop(atPos ER (kcell (c, k)) 0 ∅ 0 ∗ reached ER (kcell (c, k)) 0)) ∗ toks c) : sProp 𝕄)
      ⊢ bigSep Finset.univ (G' av bv) := by
  rw [bigSep_sep', bigSep_sep', ← bigSep_univ_prod (fun ck : Dev nD × KI => iprop(∃ κ : ℕ, cellInv ER (rd av bv) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (κ : ℕ) => (cellInv ER (rd av bv) κ (kcell ck) : sProp 𝕄))) $$ HI
  icases HK with ⟨%K, #HI⟩
  ihave Htk := (dealt (F := F)) $$ Htok
  iapply (BI.bigSep_with_persistent (R := known av bv K) (Φ := own1) fun c _ => (by
    unfold G'; iintro H; iexists K; iexact H : iprop(known av bv K ∗ own1 c) ⊢ G' av bv c))
  isplitr
  · unfold known; isplitl; · iexact HI
    iexact HR
  · unfold own1
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G av bv c) : sProp 𝕄)
    ⊢ |={Set.univ}=> bigSep Finset.univ (G' av bv) :=
  ((bigSep_mono fun c _ => alloc_at av bv c).trans (bigSep_fupd _ _)).trans (BI.fupd_mono (shared av bv))

end Cert.Mesh

end
-- ==== Proof.Credit.lean ====
/-
# The launch credit

A device starts with the credit for what the others owe its cells: the four signals on its barrier and one block on the arrival
cell of every transfer.
-/
module

public import proofs.«01_k».proof.Proof.Deal

@[expose] public section

noncomputable section

namespace Cert.Mesh

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.TcCoe

open X
open Idealize.ShloMosaic.Pipeline (Dat Cfg Window BodyObligation cellOf)

variable {F : FTy → Type} [FloatOps F]

local notation "𝕄" => MT nD τ sig Unit (Elt F) ℕ UU ℕ

theorem bar_ne_r (x : X) (a b : Dev nD) : barCell a ≠ rCell x b := fun h => by cases (congrArg Prod.snd h)
theorem r_inj {x y : X} {a b : Dev nD} (h : rCell x a = rCell y b) : x = y ∧ a = b := by
  have h1 := kcell_inj (a₁ := (a, some (x, true))) (a₂ := (b, some (y, true))) h
  have h2 := congrArg Prod.snd h1
  exact ⟨congrArg Prod.fst (Option.some.inj h2), congrArg Prod.fst h1⟩
theorem bar_inj {a b : Dev nD} (h : barCell a = barCell b) : a = b := congrArg (fun g : GSem nD τ sig => g.1.1) h

theorem owedL_bar (d c : Dev nD) (l : List X) : owedL d l (barCell c) () = 0 := by
  rcases Nat.eq_zero_or_pos (owedL d l (barCell c) ()) with h | h
  · exact h
  · obtain ⟨x, -, e⟩ := owedL_pos h
    exact absurd e (bar_ne_r x c _)

theorem sum_bar (c : Dev nD) (l : List (Fin 4)) : ∑ d : Dev nD, owedB d l (barCell c) () = l.length := by
  induction l with
  | nil => exact Finset.sum_eq_zero fun d _ => owedL_bar d c order
  | cons e l ih =>
    have h : ∀ d, owedB d (e :: l) (barCell c) () = owedB d l (barCell c) () + if d = payer e c then 1 else 0 := fun d => by
      show (owedB d l + tallyAt (barCell (payee e d)) () 1) (barCell c) () = _
      rw [Pi.add_apply, Finsupp.add_apply, tallyAt_apply]
      congr 1
      by_cases hd : d = payer e c
      · subst hd; rw [payee_payer, if_pos ⟨rfl, rfl⟩, if_pos rfl]
      · rw [if_neg hd, if_neg fun h' => hd (by rw [bar_inj h'.1, payer_payee])]
    rw [Finset.sum_congr rfl fun d _ => h d, Finset.sum_add_distrib, ih, Finset.sum_ite_eq' Finset.univ (payer e c) fun _ => 1, if_pos (Finset.mem_univ _)]
    rfl

theorem sum_r (x : X) (c : Dev nD) (l : List X) : ∑ d : Dev nD, owedL d l (rCell x c) () = l.count x * N := by
  induction l with
  | nil => rw [List.count_nil, Nat.zero_mul]; exact Finset.sum_eq_zero fun d _ => rfl
  | cons y l ih =>
    have h : ∀ d, owedL d (y :: l) (rCell x c) () = owedL d l (rCell x c) () + if d = sndr x c then (if y = x then N else 0) else 0 := fun d => by
      show (owedL d l + tallyAt (rCell y (tgt y d)) () N) (rCell x c) () = _
      rw [Pi.add_apply, Finsupp.add_apply, tallyAt_apply]
      congr 1
      by_cases hy : y = x
      · subst hy
        by_cases hd : d = sndr y c
        · subst hd; rw [tgt_sndr, if_pos ⟨rfl, rfl⟩, if_pos rfl, if_pos rfl]
        · rw [if_neg hd, if_neg fun h' => hd (by rw [(r_inj h'.1).2, sndr_tgt])]
      · rw [if_neg hy, ite_self, if_neg fun h' => hy (r_inj h'.1).1.symm]
    rw [Finset.sum_congr rfl fun d _ => h d, Finset.sum_add_distrib, ih, Finset.sum_ite_eq' Finset.univ (sndr x c) fun _ => _, if_pos (Finset.mem_univ _)]
    by_cases hy : y = x
    · subst hy; rw [if_pos rfl, List.count_cons_self, Nat.succ_mul]
    · rw [if_neg hy, List.count_cons_of_ne hy, Nat.add_zero]

theorem owedB_r (x : X) (d c : Dev nD) (l : List (Fin 4)) : owedB d l (rCell x c) () = owedL d order (rCell x c) () := by
  induction l with
  | nil => rfl
  | cons e l ih =>
    show (owedB d l + tallyAt (barCell (payee e d)) () 1) (rCell x c) () = _
    rw [Pi.add_apply, Finsupp.add_apply, ih, tallyAt_apply, if_neg fun h => bar_ne_r x _ _ h.1.symm, Nat.add_zero]

omit [FloatOps F] in
theorem credit_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same]
  exact sum_bar c sigs
omit [FloatOps F] in
theorem credit_r (x : X) (c : Dev nD) :
    tallyOn (rCell x c) (launchCredit (Pipeline.owing O₀) 0 (rCell x c)) = (tallyAt (rCell x c) () N : CellTallies nD τ sig Unit) := by
  unfold tallyAt; refine congrArg _ (Finsupp.ext fun u => ?_); cases u
  rw [Pipeline.launchCredit_owing, Finsupp.single_eq_same]
  refine (Finset.sum_congr rfl fun d _ => owedB_r x d c sigs).trans ((sum_r x c order).trans ?_)
  rw [List.count_eq_one_of_mem order_nodup (order_complete x), Nat.one_mul]

omit [FloatOps F] in
theorem credits (c : Dev nD) :
    (Pipeline.launchCred O₀ c : sProp 𝕄) ⊢ iprop(cred (tallyAt (barCell c) () 4) ∗ bigSepL rOrder (fun x => cred (tallyAt (rCell x c) () N))) := by
  unfold Pipeline.launchCred
  refine BIBase.Entails.trans (BI.bigSep_subset (Finset.subset_univ (Finset.univ.map ⟨csem, csem_inj⟩))) ?_
  rw [bigSep_map, cells_eq]
  show iprop(cred (tallyOn (barCell c) (launchCredit (Pipeline.owing O₀) 0 (barCell c))) ∗ _
    ∗ bigSepL rOrder fun x => cred (tallyOn (rCell x c) (launchCredit (Pipeline.owing O₀) 0 (rCell x c)))) ⊢ _
  rw [credit_bar, bigSepL_same fun x _ => congrArg cred (credit_r x c)]
  iintro ⟨HB, -, HR⟩
  isplitl [HB] <;> iassumption

end Cert.Mesh

end
-- ==== Proof.Run.lean ====
/-
# The run

The program of every device runs: from any memory with zero counters it terminates, every device's result array ends with the
computed contents, its operands are unchanged and all counters are zero.
-/
module

public import proofs.«01_k».proof.Proof.Credit
public import proofs.«01_k».proof.Proof.Gen.KernelIdeal.Frame
public import Idealize.ShloMosaic.Lib.Pipeline.CollectiveSegs

@[expose] public section

noncomputable section

namespace Cert.Mesh

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.TcCoe

open X
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The operand blocks of the devices, as staged. -/
def aIn (c : Dev nD) : Vec F S2048x1024 .bf16 := (win0_0.blk (0 : Fin 1)).view.read (Elt F) (m ((c : Thread nD τ).loc main_arg0))
def bIn (c : Dev nD) : Vec F S1024x2048 .bf16 := (win0_1.blk (0 : Fin 1)).view.read (Elt F) (m ((c : Thread nD τ).loc main_arg1))

omit [FloatOps F] in
/-- A whole buffer of the kernel's own, held at some contents. -/
theorem any_of_whole (c : Dev nD) (b : Ref sig .tc) :
    iprop(∃ f : Buf (Elt F) (((c : Dev nD) : Thread nD τ).loc b), ((c : Thread nD τ).loc b) ↦{fullShare} f)
      ⊢ (iprop(∃ Y, owns (c : Thread nD τ) (Memref.whole b) fullShare Y) : sProp 𝕄) := by
  unfold owns
  simp only [Memref.view_whole, View.read_whole, View.set_whole]
  show iprop(∃ f : Buf (Elt F) (((c : Dev nD) : Thread nD τ).loc b), ((c : Thread nD τ).loc b) ↦{fullShare} f) ⊢ iprop(∃ Y, ∃ f : Buf (Elt F) (((c : Dev nD) : Thread nD τ).loc b), ⌜f = Y⌝ ∗ ((c : Thread nD τ).loc b) ↦{fullShare} f)
  iintro ⟨%f, H⟩
  iexists f
  iexists f
  isplitr; · ipureintro; rfl
  iexact H
omit [FloatOps F] in
theorem whole_of_any (c : Dev nD) (b : Ref sig .tc) :
    (iprop(∃ Y, owns (c : Thread nD τ) (Memref.whole b) fullShare Y) : sProp 𝕄)
      ⊢ iprop(∃ f : Buf (Elt F) (((c : Dev nD) : Thread nD τ).loc b), ((c : Thread nD τ).loc b) ↦{fullShare} f) := by
  unfold owns
  simp only [Memref.view_whole, View.read_whole, View.set_whole]
  show iprop(∃ Y, ∃ f : Buf (Elt F) (((c : Dev nD) : Thread nD τ).loc b), ⌜f = Y⌝ ∗ ((c : Thread nD τ).loc b) ↦{fullShare} f) ⊢ iprop(∃ f : Buf (Elt F) (((c : Dev nD) : Thread nD τ).loc b), ((c : Thread nD τ).loc b) ↦{fullShare} f)
  iintro ⟨%Y, %f, -, H⟩
  iexists f; iexact H
omit [FloatOps F] in
theorem any_whole (c : Dev nD) (b : Ref sig .tc) :
    (iprop(∃ Y, owns (c : Thread nD τ) (Memref.whole b) fullShare Y) : sProp 𝕄)
      = iprop(∃ f : Buf (Elt F) (((c : Dev nD) : Thread nD τ).loc b), ((c : Thread nD τ).loc b) ↦{fullShare} f) :=
  equiv_iff.mp ⟨whole_of_any c b, any_of_whole c b⟩

/-- What device `c` starts from: its dues, its tokens, its positions and its credit, everything known, -/
def start (c : Dev nD) : sProp 𝕄 :=
  iprop(∃ K, records (aIn m) (bIn m) K ∗ own1 c ∗ cred (tallyAt (barCell c) () 4) ∗ bigSepL rOrder (fun x => cred (tallyAt (rCell x c) () N)))
/-- before the body with its buffers, -/
def Φ₀ (c : Dev nD) : sProp 𝕄 := iprop(start m c ∗ scratch c)
/-- and after it with all cells closed. -/
def Φ₁ (c : Dev nD) : sProp 𝕄 :=
  iprop(scratch c ∗ bigSepL order (sDone c) ∗ bigSepL rOrder (rDone c) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => aIn m c
    | ⟨1, _⟩ => bIn m c
    | ⟨2, _⟩ => outV (aIn m) (bIn m)
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

def bodyPre (c : Dev nD) : sProp 𝕄 :=
  iprop(Φ₀ m c ∗ (dats m 0 c).owesAt () t0_0.castSucc
    ∗ (∃ d, has c aM fullShare ((dats m 0 c).before (0 : Fin 3) t0_0 d))
    ∗ (∃ d, has c bM fullShare ((dats m 0 c).before (1 : Fin 3) t0_0 d))
    ∗ (∃ d, has c outM fullShare ((dats m 0 c).before (2 : Fin 3) t0_0 d)))
def bodyPost (c : Dev nD) : sProp 𝕄 :=
  iprop(Φ₁ c ∗ (dats m 0 c).owesAt () t0_0.succ
    ∗ has c aM fullShare (aIn m c) ∗ has c bM fullShare (bIn m c) ∗ has c outM fullShare (outV (aIn m) (bIn m)))

/-- The tokens, positions and credits as the body takes them. -/
theorem armed (c : Dev nD) : iprop(own1 c ∗ bigSepL rOrder (fun x => cred (tallyAt (rCell x c) () N)))
    ⊢ (iprop(bigSepL sigs (fun e => dutyTok ER (barCell (payee e c)) 0 e) ∗ atPos ER (barCell c) 0 ∅ 0
      ∗ bigSepL order (sendTok c) ∗ bigSepL rOrder (coming c)) : sProp 𝕄) := by
  unfold own1 payToks
  rw [cells_eq]
  unfold sendTok coming
  rw [two, two, two]
  iintro ⟨⟨⟨HB, HS, HV⟩, T0, T1, T2⟩, HC⟩
  isplitl [T0]; · iexact T0
  isplitl [HB]; · iexact HB
  isplitl [T1 T2 HS]
  · isplitl [T1]; · iexact T1
    isplitl [T2]; · iexact T2
    iexact HS
  isplitl [HC]; · iexact HC
  iexact HV

theorem finish (K : Dev nD × KI → ℕ) (c : Dev nD) :
    iprop(Fst (aIn m) (bIn m) K c sOrder 60 ∗ bigSepL rOrder (rDone c) ∗ Left (aIn m) (bIn m) c ∗ spare c) ⊢ bodyPost m c := by
  unfold Fst
  rw [show sOrder.take 60 = sOrder from rfl, show sOrder.drop 60 = [] from rfl, two,
    ← TalkSites.bigSepL_perm sOrder_perm order_nodup, ← TalkSites.bigSepL_perm sOrder_perm order_nodup]
  iintro ⟨⟨-, ⟨%W, HO⟩, -, HS, HP⟩, HR, HL, HE⟩
  ihave H := closed (aIn m) (bIn m) c $$ [HP HL HE]
  · isplitl [HP]; · iexact HP
    isplitl [HL] <;> iassumption
  unfold ending opA opB
  icases H with ⟨⟨Hsc, Hout, HA, HB⟩, Hbar⟩
  unfold bodyPost Φ₁ Dat.owesAt Pipeline.owesWithin
  isplitl [Hsc HS HR Hbar]
  · isplitl [Hsc]; · iexact Hsc
    isplitl [HS]; · iexact HS
    isplitl [HR] <;> iassumption
  isplitl [HO]
  · iexists W
    isplitr; · ipureintro; exact fun _ _ => Or.inl trivial
    iexact HO
  isplitl [HA]; · iexact HA
  isplitl [HB] <;> iassumption

set_option maxRecDepth 8000 in
theorem sound_body (c : Dev nD) :
    bodyPre m c ⊢ runs c (cc0_body (F := F) aM wA bM wB outM wO accM wC (pb false) wP (pb true) wQ (zb false) wZ (zb true) wY
      cc0_scratch5 cc0_scratch6 cc0_scratch7 cc0_scratch8) (fun _ => bodyPost m c) := by
  unfold bodyPre Φ₀ start
  iintro ⟨⟨⟨%K, #HR, Hown, Hcb, Hcr⟩, Hsc⟩, Ho, ⟨%d0, HA⟩, ⟨%d1, HB⟩, ⟨%d2, Hout⟩⟩
  iapply (body_ok (aIn m) (bIn m) K c (spare c) (finish m K c))
  ihave H := opened (aIn m) (bIn m) c $$ [Hsc HA HB Hout]
  · isplitl [Hsc]; · iexact Hsc
    isplitl [Hout]; · iapply (any_intro c outM _) $$ Hout
    unfold opA opB
    isplitl [HA]
    · iapply (Entails.of_eq (congrArg (has c aM fullShare) (show (dats m 0 c).before (0 : Fin 3) t0_0 d0 = aIn m c from by
        unfold Dat.before; rw [if_pos (fetch0_0 t0_0)]; rfl))) $$ HA
    iapply (Entails.of_eq (congrArg (has c bM fullShare) (show (dats m 0 c).before (1 : Fin 3) t0_0 d1 = bIn m c from by
        unfold Dat.before; rw [if_pos (fetch0_1 t0_0)]; rfl))) $$ HB
  icases H with ⟨HL, HI, HE⟩
  ihave HL := give_bar (F := F) c $$ HL
  ihave H := armed (F := F) c $$ [Hown Hcr]
  · isplitl [Hown] <;> iassumption
  icases H with ⟨HT, Hat, Hst, Hco⟩
  unfold Dat.owesAt Pipeline.owesWithin
  icases Ho with ⟨%W, %hW, HO⟩
  isplitl [HL HT Hat Hcb HO]
  · unfold Bst
    isplitr; · iexact HR
    isplitl [HO]; · iexists W; iexact HO
    isplitl [HT HL]
    · iapply (show iprop(bigSepL sigs (fun e => dutyTok ER (barCell (payee e c)) 0 e) ∗ bigSepL sigs fun e => barPay e (payee e c))
          ⊢ (bigSepL sigs fun e => iprop(dutyTok ER (barCell (payee e c)) 0 e ∗ barPay (F := F) e (payee e c)) : sProp 𝕄) from
        Entails.of_eq (two _ _ _).symm)
      isplitl [HT] <;> iassumption
    isplitl [Hcb] <;> iassumption
  isplitl [Hst]; · iexact Hst
  isplitl [Hco]; · iexact Hco
  isplitl [HI] <;> iassumption

set_option maxRecDepth 8000 in
theorem body_obligation (c : Dev nD) : BodyObligation (dats (F := F) m 0 c) (defs₀ (F := F)) 𝒱₀ () Set.univ := fun t => by
  rw [fin_N0 t]
  rw [bigSep_W0, bigSep_W0]
  refine BIBase.Entails.trans (show _ ⊢ bodyPre m c from .rfl) ?_
  have hq : bodyPost m c = iprop((dats m 0 c).Φ t0_0.succ ∗ (dats m 0 c).owesAt () t0_0.succ
    ∗ owns (c : Thread nD τ) ((cfg0.win 0).stage (cfg0.slots t0_0 0)) fullShare ((dats m 0 c).after 0 t0_0)
    ∗ owns (c : Thread nD τ) ((cfg0.win 1).stage (cfg0.slots t0_0 1)) fullShare ((dats m 0 c).after 1 t0_0)
    ∗ owns (c : Thread nD τ) ((cfg0.win 2).stage (cfg0.slots t0_0 2)) fullShare ((dats m 0 c).after 2 t0_0)) := rfl
  have h := sound_body m c
  rw [hq] at h
  have hp : (defs₀ (F := F) Proc.tc cfg0.body (cfg0.bodyArgs t0_0 (cfg0.slots t0_0))) = cc0_body (F := F) aM wA bM wB outM wO accM wC (pb false) wP (pb true) wQ (zb false) wZ (zb true) wY
      cc0_scratch5 cc0_scratch6 cc0_scratch7 cc0_scratch8 := by
    rfl
  rw [hp]
  have hi : ∀ w, cfg0.idle w (cfg0.grid.coords t0_0) = false := fun w => by rfl
  simp only [hi]
  unfold runs at h
  refine BIBase.Entails.trans h (Entails.of_eq ?_)
  congr 1

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (aIn m) (bIn m) c)
      ⊢ |={Set.univ}=> iprop(start m c ∗ emp) := by
  iintro ⟨-, #Hlev, Hcr, -, HG⟩
  ihave Hc := (credits (F := F) c) $$ Hcr
  unfold G' known
  icases Hc with ⟨H1, HN⟩
  icases HG with ⟨%K, ⟨#HI, #HR⟩, Hown⟩
  imodintro
  unfold start records
  isplitl
  · iexists K
    isplitr
    · isplitr; · iexact HI
      isplitr; · iexact HR
      iexact Hlev
    isplitl [Hown]; · iexact Hown
    isplitl [H1] <;> iassumption
  · iempintro

omit [FloatOps F] in
theorem rest_eq (c : Dev nD) : (Pipeline.scopedRest (Ix := Unit) (Name := ℕ) (U := UU) (Lvl := ℕ) (Val := Elt F) spec0 c : sProp 𝕄) = scratch c := by
  rw [scopedRest0_eq]
  unfold scratch
  rw [show (any c accM : sProp 𝕄) = _ from any_whole c cc0_scratch0, show (any c (pb false) : sProp 𝕄) = _ from any_whole c cc0_scratch1,
    show (any c (pb true) : sProp 𝕄) = _ from any_whole c cc0_scratch2, show (any c (zb false) : sProp 𝕄) = _ from any_whole c cc0_scratch3,
    show (any c (zb true) : sProp 𝕄) = _ from any_whole c cc0_scratch4]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = scratch c from rest_eq c]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, show (Pipeline.scopedRest cfg0.spec c : sProp 𝕄) = scratch c from rest_eq c,
    ownSems0_eq, unscopedSems0_eq]
  unfold Φ₁
  iintro ⟨Hr, HS, HV, HB⟩
  isplitl [HB]; · iexact HB
  isplitl [HS HV]
  · isplitl [HS] <;> iassumption
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What window `w`'s array of device `c` holds at the end. -/
def endA (c : Dev nD) (w : Fin cfg0.W) : Buf (Elt F) ((cfg0.win w).arr.view.loc (c : Thread nD τ)) := (dats m 0 c).arrAt w cfg0.N

set_option maxRecDepth 100000 in
theorem run_all : θ_run defs (onTc (τ := τ) (main (F := F))) (s₀ m ρ) (fun r =>
    (∀ c : Dev nD, ∀ w : Fin cfg0.W, r.2.mem ((cfg0.win w).arr.view.loc (c : Thread nD τ)) = endA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (aIn m) (bIn m)) (G' := G' (aIn m) (bIn m)) (u₀ := u₀)
    (hu₀ := by
      unfold u₀
      iintro Hu
      ihave H := (ownU_pair _ _) $$ Hu
      icases H with ⟨HP, HX⟩
      imod (funded (aIn m) (bIn m)) $$ HX with HG
      imodintro
      isplitl [HP] <;> iassumption)
    (hglob := glob (aIn m) (bIn m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The run, read at the program's arrays. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v1) = endA m c (2 : Fin 3)) ∧ r.2.sem = fun _ => 0) :=
  (θ_run defs _ _).mono (fun _ h => ⟨fun c => ⟨(h.1 c (0 : Fin 3)).trans ((dats (F := F) m 0 c).arrAt_in (0 : Fin 3) rfl _),
    (h.1 c (1 : Fin 3)).trans ((dats (F := F) m 0 c).arrAt_in (1 : Fin 3) rfl _), h.1 c (2 : Fin 3)⟩, h.2⟩) (run_all m ρ)

end Cert.Mesh

end
-- ==== Proof.Frames.lean ====
/-
# The frame claims

The run of the program serves both instances of it, over machine floats and over the reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run

@[expose] public section

noncomputable section

namespace Cert.Mesh

open Idealize.ShloMosaic Idealize.SL.Sem Idealize.ShloMosaic.TcCoe

/-- The two instances call the same bodies. -/
theorem table_eq : @Cert.Kernel.defs₀ Bits _ _ = @Cert.KernelIdeal.defs₀ Bits _ _ := by
  unfold Cert.Kernel.defs₀ Cert.KernelIdeal.defs₀
  refine congrArg Defs.onTc (funext fun l => ?_)
  match l with
  | ⟨0, _⟩ => rfl
  | ⟨_ + 1, h⟩ => exact absurd h (Nat.not_lt.2 (Nat.le_add_left _ _))
theorem defs_eq : @Cert.Kernel.defs Bits _ _ = @Cert.KernelIdeal.defs Bits _ _ := congrArg (Pipeline.defs Cert.KernelIdeal.pcfgs) table_eq

theorem frame_kernel : Cert.quiescent_Kernel := fun m ρ _ => by
  rw [defs_eq]
  exact (θ_run Cert.KernelIdeal.defs _ _).mono (fun _ h => ⟨fun c => ⟨(h.1 c).1, (h.1 c).2.1⟩, h.2⟩) (run_main (F := Bits) m ρ)

theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem frame_reference : Cert.quiescent_ReferenceIdeal := fun m ρ _ =>
  (θ_run Cert.ReferenceIdeal.defs _ _).mono
    (fun r h => ⟨fun c => (h c).2, sem_eq_zero_of_no_sems rfl r.2⟩)
    (Cert.ReferenceIdeal.Value.run (F := Ideal) m ρ)

end Cert.Mesh

end
-- ==== Proof.Reals.lean ====
/-
# The result over the reals

Over the reals a finished block is the activation of the sum, over all devices, of the products of their operands.
-/
module

public import proofs.«01_k».proof.Proof.Vals
public import Idealize.ShloMosaic.Lib.Pointwise

@[expose] public section

noncomputable section

namespace Cert.Mesh

open Cert.KernelIdeal Cert.KernelIdeal.Gen
open Idealize.ShloMosaic

variable (av : Dev nD → Vec Ideal S2048x1024 .bf16) (bv : Dev nD → Vec Ideal S1024x2048 .bf16)

/-- Device `c`'s share of the product. -/
def P (c : Dev nD) (j : S2048x2048.Idx) : EReal :=
  ∑ k : Fin 1024, (av c (ix2 ⟨(j 0).val, (j 0).isLt⟩ k) : EReal) * bv c (ix2 k ⟨(j 1).val, (j 1).isLt⟩)

theorem P_of {c : Dev nD} {j : S2048x2048.Idx} {x : Fin 1024 → S2048x1024.Idx} {y : Fin 1024 → S1024x2048.Idx}
    (hx0 : ∀ k, (x k 0).val = (j 0).val) (hx1 : ∀ k, (x k 1).val = k.val) (hy0 : ∀ k, (y k 0).val = k.val) (hy1 : ∀ k, (y k 1).val = (j 1).val) :
    ∑ k : Fin 1024, (av c (x k) : EReal) * bv c (y k) = P av bv c j := by
  refine Finset.sum_congr rfl fun k _ => ?_
  have ex : x k = ix2 ⟨(j 0).val, (j 0).isLt⟩ k := funext fun a => match a with
    | ⟨0, _⟩ => Fin.ext (hx0 k)
    | ⟨1, _⟩ => Fin.ext (hx1 k)
  have ey : y k = ix2 k ⟨(j 1).val, (j 1).isLt⟩ := funext fun a => match a with
    | ⟨0, _⟩ => Fin.ext (hy0 k)
    | ⟨1, _⟩ => Fin.ext (hy1 k)
  rw [ex, ey]; rfl

theorem slab_at (c : Dev nD) (r : Fin 16) (i : S128x2048.Idx) (j : S2048x2048.Idx)
    (h0 : (j 0).val = 128 * r.val + (i 0).val) (h1 : (j 1).val = (i 1).val) : slabV av bv c r i = P av bv c j := by
  unfold slabV k0_pay4
  pointwise
  refine P_of av bv (fun k => ?_) (fun k => ?_) (fun k => rfl) (fun k => h1.symm)
  · show 128 * r.val + 1 * (i 0).val = _; omega
  · show 0 + 1 * k.val = _; omega

theorem quart_at (c : Dev nD) (a : Fin 4) (i : S512x2048.Idx) (j : S2048x2048.Idx)
    (h0 : (j 0).val = 512 * a.val + (i 0).val) (h1 : (j 1).val = (i 1).val) : quartV av bv c a i = P av bv c j := by
  unfold quartV k0_pay9
  pointwise
  refine P_of av bv (fun k => ?_) (fun k => ?_) (fun k => rfl) (fun k => h1.symm)
  · show 512 * a.val + 1 * (i 0).val = _; omega
  · show 0 + 1 * k.val = _; omega

theorem acc_at (d : Bool) (t h : Fin 4) (c : Dev nD) (i : S128x1024.Idx) :
    accV av bv d t h c i = P av bv c ((rBlock (row (quarter d h c) t) d).emb i) := by
  unfold accV
  split
  · refine slab_at av bv c _ _ _ ?_ ?_
    · show 128 * (row (quarter d h c) t).val + 1 * (i 0).val = 128 * (row (quarter d h c) t).val + (0 + 1 * (i 0).val); omega
    · rfl
  · refine quart_at av bv c _ _ _ ?_ ?_
    · show 128 * (4 * (quarter d h c).val + t.val) + 1 * (i 0).val = 512 * (quarter d h c).val + (128 * t.val + 1 * (i 0).val); omega
    · rfl

/-- The quarter a block belongs to is the same at every hop. -/
theorem quarters (d : Bool) (c : Dev nD) : quarter d 2 (pred d c) = quarter d 3 c ∧ quarter d 1 (pred d (pred d c)) = quarter d 3 c
    ∧ quarter d 0 (pred d (pred d (pred d c))) = quarter d 3 c := by revert d c; decide +kernel
theorem zplaces (d : Bool) (e : Dev nD) : (slab d 2 (zpred d e) = slab d 3 e ∧ quarter d 3 (zpred d e) = quarter d 3 e)
    ∧ (slab d 1 (zpred d (zpred d e)) = slab d 3 e ∧ quarter d 3 (zpred d (zpred d e)) = quarter d 3 e)
    ∧ slab d 0 (zpred d (zpred d (zpred d e))) = slab d 3 e ∧ quarter d 3 (zpred d (zpred d (zpred d e))) = quarter d 3 e := by
  revert d e; decide +kernel
theorem oRow_eq (d : Bool) (e : Dev nD) : row (quarter d 3 e) (slab d 3 e) = oRow d e := by revert d e; decide +kernel

/-- The devices of a row in the order in which they add, and those of the mesh. -/
def rowL (d : Bool) (c : Dev nD) : List (Dev nD) := [pred d (pred d (pred d c)), pred d (pred d c), pred d c, c]
def meshL (d : Bool) (e : Dev nD) : List (Dev nD) :=
  rowL d (zpred d (zpred d (zpred d e))) ++ rowL d (zpred d (zpred d e)) ++ rowL d (zpred d e) ++ rowL d e
theorem meshL_nodup (d : Bool) (e : Dev nD) : (meshL d e).Nodup := by revert d e; decide +kernel
theorem meshL_univ (d : Bool) (e : Dev nD) : (meshL d e).toFinset = Finset.univ := by revert d e; decide +kernel

theorem pF_at (d : Bool) (t : Fin 4) (c : Dev nD) (i : S128x1024.Idx) :
    pF av bv d t c i = ((rowL d c).map fun b => P av bv b ((rBlock (row (quarter d 3 c) t) d).emb i)).sum := by
  obtain ⟨h2, h1, h0⟩ := quarters d c
  have e : pF av bv d t c i = ((accV av bv d t 0 (pred d (pred d (pred d c))) i + accV av bv d t 1 (pred d (pred d c)) i : EReal)
      + accV av bv d t 2 (pred d c) i) + accV av bv d t 3 c i := rfl
  rw [e, acc_at, acc_at, acc_at, acc_at, h2, h1, h0]
  simp only [rowL, List.map_cons, List.map_nil, List.sum_cons, List.sum_nil, add_zero, add_assoc]

theorem total_at (d : Bool) (e : Dev nD) (i : S128x1024.Idx) :
    (zA av bv d 2 (zpred d e) i + pF av bv d (slab d 3 e) e i : EReal) = ∑ c : Dev nD, P av bv c ((rBlock (oRow d e) d).emb i) := by
  obtain ⟨⟨s2, q2⟩, ⟨s1, q1⟩, s0, q0⟩ := zplaces d e
  have h : (zA av bv d 2 (zpred d e) i : EReal) = (pF av bv d (slab d 0 (zpred d (zpred d (zpred d e)))) (zpred d (zpred d (zpred d e))) i
      + pF av bv d (slab d 1 (zpred d (zpred d e))) (zpred d (zpred d e)) i : EReal) + pF av bv d (slab d 2 (zpred d e)) (zpred d e) i := rfl
  rw [h, s2, s1, s0, pF_at, pF_at, pF_at, pF_at, q2, q1, q0, oRow_eq, ← meshL_univ d e, List.sum_toFinset _ (meshL_nodup d e)]
  simp only [meshL, List.map_append, List.sum_append]

/-- The activation over the reals. -/
def gelu (z : EReal) : EReal := act (F := Ideal) (fun _ => z) (bIdx 0 0 (by decide) (by decide))

theorem fin_at (x y : BV Ideal) (i : S128x1024.Idx) : fin x y i = gelu ((x i : EReal) + y i) := by
  unfold fin gelu act
  pointwise

theorem oV_at (d : Bool) (e : Dev nD) (i : S128x1024.Idx) :
    oV av bv d e i = gelu (∑ c : Dev nD, P av bv c ((rBlock (oRow d e) d).emb i)) := by
  rw [← total_at]; exact fin_at _ _ i

/-- The result over the reals. -/
theorem outV_at (j : S2048x2048.Idx) : outV av bv j = gelu (∑ c : Dev nD, P av bv c j) := by
  have h0 : (j 0).val < 2048 := (j 0).isLt
  have h1 : (j 1).val < 2048 := (j 1).isLt
  unfold outV
  rw [oV_at, oRow_own]
  refine congrArg gelu (Finset.sum_congr rfl fun c _ => congrArg (P av bv c) (funext fun a => ?_))
  match a with
  | ⟨0, _⟩ => exact Fin.ext (by show 128 * ((j 0).val / 128) + 1 * ((j 0).val % 128) = (j 0).val; omega)
  | ⟨1, _⟩ => exact Fin.ext (by
      show 1024 * (decide (1024 ≤ (j 1).val)).toNat + 1 * ((j 1).val % 1024) = (j 1).val
      by_cases h : 1024 ≤ (j 1).val
      · rw [decide_eq_true h]; show 1024 * 1 + _ = _; omega
      · rw [decide_eq_false h]; show 1024 * 0 + _ = _; omega)

end Cert.Mesh

end
-- ==== Proof.Algebra.lean ====
/-
# The algebraic claim

Over the reals every device's result is the reference's.
-/
module

public import proofs.«01_k».proof.Proof.Frames
public import proofs.«01_k».proof.Proof.Reals
public import Idealize.ShloMosaic.Lib.Pipeline.ValueKit.Acc

@[expose] public section

noncomputable section

namespace Cert.Mesh

open Cert.KernelIdeal Cert.KernelIdeal.Gen
open Idealize.ShloMosaic Idealize.ShloMosaic.TcCoe Idealize.SL.Sem
open Idealize.ShloMosaic.Pipeline (Dat Cfg Window)

/-! ## The blocks are the whole arrays -/

section Blocks
variable {F : FTy → Type} [FloatOps F] (m : (ℓ : Loc nD τ sig) → Buf (Elt F) ℓ)

/-- The first operand is staged as one block, so the block's elements are the array's. -/
theorem emb0 (j : S2048x1024.Idx) : (win0_0.blk (0 : Fin 1)).view.emb j = j := funext fun a => Fin.ext (by
  match a with
  | ⟨0, _⟩ => show 0 * 2048 + 1 * (j 0).val = (j 0).val; omega
  | ⟨1, _⟩ => show 0 * 1024 + 1 * (j 1).val = (j 1).val; omega)
/-- So is the second operand. -/
theorem emb1 (j : S1024x2048.Idx) : (win0_1.blk (0 : Fin 1)).view.emb j = j := funext fun a => Fin.ext (by
  match a with
  | ⟨0, _⟩ => show 0 * 1024 + 1 * (j 0).val = (j 0).val; omega
  | ⟨1, _⟩ => show 0 * 2048 + 1 * (j 1).val = (j 1).val; omega)
/-- So is the result. -/
theorem emb2 (j : S2048x2048.Idx) : (win0_2.blk (0 : Fin 1)).view.emb j = j := funext fun a => Fin.ext (by
  match a with
  | ⟨0, _⟩ => show 0 * 2048 + 1 * (j 0).val = (j 0).val; omega
  | ⟨1, _⟩ => show 0 * 2048 + 1 * (j 1).val = (j 1).val; omega)

/-- What the kernel reads of the first operand is the device's argument. -/
theorem aIn_eq (c : Dev nD) : aIn m c = m ((c : Thread nD τ).loc main_arg0) :=
  funext fun j => congrArg (m ((c : Thread nD τ).loc main_arg0)) (emb0 j)
/-- What the kernel reads of the second operand is the device's argument. -/
theorem bIn_eq (c : Dev nD) : bIn m c = m ((c : Thread nD τ).loc main_arg1) :=
  funext fun j => congrArg (m ((c : Thread nD τ).loc main_arg1)) (emb1 j)

/-- What is written back to the result array is the computed contents. -/
theorem flushed_at (c : Dev nD) (t : Fin cfg0.N) :
    (dats m 0 c).flushed (2 : Fin 3) t = ((cfg0.win (2 : Fin 3)).blk t).view.read (Elt F) (outV (aIn m) (bIn m)) := by
  obtain rfl := fin_N0 t
  exact funext fun j => (congrArg (outV (aIn m) (bIn m)) (emb2 j)).symm

/-- Every element of the result array is written back. -/
theorem covered (i : S2048x2048.Idx) : ∃ t : Fin cfg0.N, (cfg0.win (2 : Fin 3)).flush t = true ∧ i ∈ ((cfg0.win (2 : Fin 3)).blk t).view.set :=
  ⟨t0_0, flush0_2 _, by
    have h : (win0_2.blk (0 : Fin 1)).view.emb i ∈ (win0_2.blk (0 : Fin 1)).view.set := View.emb_mem_set _ _
    rw [emb2] at h
    exact h⟩

/-- The result array of every device ends with the computed contents, for any float values. -/
theorem endA_eq (c : Dev nD) : endA m c (2 : Fin 3) = outV (aIn m) (bIn m) :=
  (dats m 0 c).arrAt_eq_of_cover (2 : Fin 3) (outV (aIn m) (bIn m)) (fun t _ => flushed_at m c t) covered
end Blocks

/-! ## The reference -/

/-- The sum of the devices' shares is the whole product. -/
theorem shares (A : Vec Ideal Cert.ReferenceIdeal.S2048x16384 .bf16) (B : Vec Ideal Cert.ReferenceIdeal.S16384x2048 .bf16) (j : S2048x2048.Idx) :
    ∑ c : Dev nD, P (fun c => Layout.block ⟨2, ![2048, 1024]⟩ ⟨2, ![2048, 16384]⟩ 1 16 c A)
        (fun c => Layout.block ⟨2, ![1024, 2048]⟩ ⟨2, ![16384, 2048]⟩ 0 16 c B) c j
      = Host.dotGeneral (F := Ideal) Cert.ReferenceIdeal.dot_S2048x16384_S16384x2048_S2048x2048_1_0_0_1_n_n none
        (extf .f32 A Cert.ReferenceIdeal.Gen.bitsLt_bf16_f32) (extf .f32 B Cert.ReferenceIdeal.Gen.bitsLt_bf16_f32) j := by
  pointwise
  refine Eq.trans ?_ (Fin.sum_mul_add_fin (L := 16384) 16 1024 (fun x => (A (ix2 (j 0) x) : EReal) * B (ix2 x (j 1))))
  refine Finset.sum_congr rfl fun c _ => Finset.sum_congr rfl fun k _ => ?_
  refine congrArg₂ (fun x y : EReal => x * y) (congrArg A (funext fun a => ?_)) (congrArg B (funext fun a => ?_))
  · match a with
    | ⟨0, _⟩ => rfl
    | ⟨1, _⟩ => rfl
  · match a with
    | ⟨0, _⟩ => rfl
    | ⟨1, _⟩ => rfl

/-- The reference's operations after the product are the activation. -/
theorem after_product (Z : FVec Ideal S2048x2048 .f32) (j : S2048x2048.Idx) :
    truncf (F := Ideal) .bf16 (mulf (mulf (broadcastInDim S2048x2048 ![] Cert.ReferenceIdeal.Gen.bcast_S_S2048x2048 (constant Cert.ReferenceIdeal.S_ .f32 0x3F000000#32)) Z)
      (addf (broadcastInDim S2048x2048 ![] Cert.ReferenceIdeal.Gen.bcast_S_S2048x2048 (constant Cert.ReferenceIdeal.S_ .f32 0x3F800000#32))
        (Host.tanh (mulf (broadcastInDim S2048x2048 ![] Cert.ReferenceIdeal.Gen.bcast_S_S2048x2048 (constant Cert.ReferenceIdeal.S_ .f32 0x3F4C422A#32))
          (addf Z (mulf (mulf (mulf (broadcastInDim S2048x2048 ![] Cert.ReferenceIdeal.Gen.bcast_S_S2048x2048 (constant Cert.ReferenceIdeal.S_ .f32 0x3D372713#32)) Z) Z) Z))))))
      Cert.ReferenceIdeal.Gen.bitsLt_bf16_f32 j = gelu (Z j) := by
  unfold gelu act
  pointwise

/-- Over the reals every device ends with the whole of the reference's result. -/
theorem algebraic : Cert.algebraic_KernelIdeal_ReferenceIdeal := fun m ρ m' ρ' _ hm => by
  have ha : aIn m = fun c => Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg0)) :=
    funext fun c => (aIn_eq m c).trans (hm c).1
  have hb : bIn m = fun c => Layout.block ⟨2, ![1024, 2048]⟩ ⟨2, ![16384, 2048]⟩ 0 16 c (m' (((0 : Dev Cert.ReferenceIdeal.nD).tc : Thread Cert.ReferenceIdeal.nD Cert.ReferenceIdeal.τ).loc Cert.ReferenceIdeal.main_arg1)) :=
    funext fun c => (bIn_eq m c).trans (hm c).2
  refine ⟨outV (aIn m) (bIn m), ?_, ?_⟩
  · exact (θ_run Cert.KernelIdeal.defs _ _).mono
      (fun _ h c => ⟨(h.1 c).2.2.trans (endA_eq m c), (h.1 c).1, (h.1 c).2.1⟩) (run_main (F := Ideal) m ρ)
  · refine (θ_run Cert.ReferenceIdeal.defs _ _).mono (fun _ h => ⟨(h 0).1.trans (funext fun j => ?_), (h 0).2⟩)
      (Cert.ReferenceIdeal.Value.run (F := Ideal) m' ρ')
    refine (after_product _ j).trans (Eq.trans (congrArg gelu ?_) (outV_at (aIn m) (bIn m) j).symm)
    rw [ha, hb]
    exact (shares _ _ j).symm

end Cert.Mesh

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Mesh.frame_kernel, Cert.Mesh.frame_ideal, Cert.Mesh.frame_reference, trivial, Cert.Mesh.algebraic⟩

end Cert.Proof

end
